-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Topk (m : (ℓ : Loc Cert.Topk.nD Cert.Topk.τ Cert.Topk.sig) → Buf (Elt Bits) ℓ) : Prop :=
  True

def Pre_TopkIdeal (m : (ℓ : Loc Cert.TopkIdeal.nD Cert.TopkIdeal.τ Cert.TopkIdeal.sig) → Buf (Elt Ideal) ℓ) : Prop :=
  True

def Pre_TopkIdeal_nine_nearest_differ [hPre_nine_nearest_differ : Cert.Pre_nine_nearest_differ.Facts] (m : (ℓ : Loc Cert.TopkIdeal.nD Cert.TopkIdeal.τ Cert.TopkIdeal.sig) → Buf (Elt Ideal) ℓ) : Prop :=
  ∀ c : Dev Cert.TopkIdeal.nD,
    (Cert.Pre_nine_nearest_differ.fn (F := Ideal) (m ((c.tc : Thread Cert.TopkIdeal.nD Cert.TopkIdeal.τ).loc Cert.TopkIdeal.main_arg0)) (m ((c.tc : Thread Cert.TopkIdeal.nD Cert.TopkIdeal.τ).loc Cert.TopkIdeal.main_arg1))) = (fun _ => 1#1)

def Pre_TopkReferenceIdeal (m : (ℓ : Loc Cert.TopkReferenceIdeal.nD Cert.TopkReferenceIdeal.τ Cert.TopkReferenceIdeal.sig) → Buf (Elt Ideal) ℓ) : Prop :=
  True

def Pre_TopkReferenceIdeal_nine_nearest_differ [hPre_nine_nearest_differ : Cert.Pre_nine_nearest_differ.Facts] (m : (ℓ : Loc Cert.TopkReferenceIdeal.nD Cert.TopkReferenceIdeal.τ Cert.TopkReferenceIdeal.sig) → Buf (Elt Ideal) ℓ) : Prop :=
  ∀ c : Dev Cert.TopkReferenceIdeal.nD,
    (Cert.Pre_nine_nearest_differ.fn (F := Ideal) (m ((c.tc : Thread Cert.TopkReferenceIdeal.nD Cert.TopkReferenceIdeal.τ).loc Cert.TopkReferenceIdeal.main_arg0)) (m ((c.tc : Thread Cert.TopkReferenceIdeal.nD Cert.TopkReferenceIdeal.τ).loc Cert.TopkReferenceIdeal.main_arg1))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12)
      ∧ r.2.mem ((c.tc : Thread Cert.Mlp.nD Cert.Mlp.τ).loc Cert.Mlp.main_arg13) = m ((c.tc : Thread Cert.Mlp.nD Cert.Mlp.τ).loc Cert.Mlp.main_arg13)
      ∧ r.2.mem ((c.tc : Thread Cert.Mlp.nD Cert.Mlp.τ).loc Cert.Mlp.main_arg14) = m ((c.tc : Thread Cert.Mlp.nD Cert.Mlp.τ).loc Cert.Mlp.main_arg14)
      ∧ r.2.mem ((c.tc : Thread Cert.Mlp.nD Cert.Mlp.τ).loc Cert.Mlp.main_arg15) = m ((c.tc : Thread Cert.Mlp.nD Cert.Mlp.τ).loc Cert.Mlp.main_arg15)
      ∧ r.2.mem ((c.tc : Thread Cert.Mlp.nD Cert.Mlp.τ).loc Cert.Mlp.main_arg16) = m ((c.tc : Thread Cert.Mlp.nD Cert.Mlp.τ).loc Cert.Mlp.main_arg16))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
      ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14)
      ∧ r.2.mem ((c.tc : Thread Cert.MlpIdeal.nD Cert.MlpIdeal.τ).loc Cert.MlpIdeal.main_arg15) = m ((c.tc : Thread Cert.MlpIdeal.nD Cert.MlpIdeal.τ).loc Cert.MlpIdeal.main_arg15)
      ∧ r.2.mem ((c.tc : Thread Cert.MlpIdeal.nD Cert.MlpIdeal.τ).loc Cert.MlpIdeal.main_arg16) = m ((c.tc : Thread Cert.MlpIdeal.nD Cert.MlpIdeal.τ).loc Cert.MlpIdeal.main_arg16))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9)
      ∧ r.2.mem ((c.tc : Thread Cert.MlpReferenceIdeal.nD Cert.MlpReferenceIdeal.τ).loc Cert.MlpReferenceIdeal.main_arg10) = m ((c.tc : Thread Cert.MlpReferenceIdeal.nD Cert.MlpReferenceIdeal.τ).loc Cert.MlpReferenceIdeal.main_arg10)
      ∧ r.2.mem ((c.tc : Thread Cert.MlpReferenceIdeal.nD Cert.MlpReferenceIdeal.τ).loc Cert.MlpReferenceIdeal.main_arg11) = m ((c.tc : Thread Cert.MlpReferenceIdeal.nD Cert.MlpReferenceIdeal.τ).loc Cert.MlpReferenceIdeal.main_arg11)
      ∧ r.2.mem ((c.tc : Thread Cert.MlpReferenceIdeal.nD Cert.MlpReferenceIdeal.τ).loc Cert.MlpReferenceIdeal.main_arg12) = m ((c.tc : Thread Cert.MlpReferenceIdeal.nD Cert.MlpReferenceIdeal.τ).loc Cert.MlpReferenceIdeal.main_arg12)
      ∧ r.2.mem ((c.tc : Thread Cert.MlpReferenceIdeal.nD Cert.MlpReferenceIdeal.τ).loc Cert.MlpReferenceIdeal.main_arg13) = m ((c.tc : Thread Cert.MlpReferenceIdeal.nD Cert.MlpReferenceIdeal.τ).loc Cert.MlpReferenceIdeal.main_arg13)
      ∧ r.2.mem ((c.tc : Thread Cert.MlpReferenceIdeal.nD Cert.MlpReferenceIdeal.τ).loc Cert.MlpReferenceIdeal.main_arg14) = m ((c.tc : Thread Cert.MlpReferenceIdeal.nD Cert.MlpReferenceIdeal.τ).loc Cert.MlpReferenceIdeal.main_arg14)
      ∧ r.2.mem ((c.tc : Thread Cert.MlpReferenceIdeal.nD Cert.MlpReferenceIdeal.τ).loc Cert.MlpReferenceIdeal.main_arg15) = m ((c.tc : Thread Cert.MlpReferenceIdeal.nD Cert.MlpReferenceIdeal.τ).loc Cert.MlpReferenceIdeal.main_arg15)
      ∧ r.2.mem ((c.tc : Thread Cert.MlpReferenceIdeal.nD Cert.MlpReferenceIdeal.τ).loc Cert.MlpReferenceIdeal.main_arg16) = m ((c.tc : Thread Cert.MlpReferenceIdeal.nD Cert.MlpReferenceIdeal.τ).loc Cert.MlpReferenceIdeal.main_arg16))
      ∧ r.2.sem = fun _ => 0)

def quiescent_Topk [hTopk : Cert.Topk.Facts] : Prop :=
  ∀ (m : (ℓ : Loc Cert.Topk.nD Cert.Topk.τ Cert.Topk.sig) → Buf (Elt Bits) ℓ) (g : Dev Cert.Topk.nD → PrngReg), Pre_Topk m →
    θ_run (Cert.Topk.defs (F := Bits)) (onTc (τ := Cert.Topk.τ) (Cert.Topk.main (F := Bits))) ⟨m, fun _ => 0, g⟩ (fun r => (∀ c : Dev Cert.Topk.nD,
      r.2.mem ((c.tc : Thread Cert.Topk.nD Cert.Topk.τ).loc Cert.Topk.main_arg0) = m ((c.tc : Thread Cert.Topk.nD Cert.Topk.τ).loc Cert.Topk.main_arg0)
      ∧ r.2.mem ((c.tc : Thread Cert.Topk.nD Cert.Topk.τ).loc Cert.Topk.main_arg1) = m ((c.tc : Thread Cert.Topk.nD Cert.Topk.τ).loc Cert.Topk.main_arg1))
      ∧ r.2.sem = fun _ => 0)

def quiescent_TopkIdeal [hTopkIdeal : Cert.TopkIdeal.Facts] : Prop :=
  ∀ (m : (ℓ : Loc Cert.TopkIdeal.nD Cert.TopkIdeal.τ Cert.TopkIdeal.sig) → Buf (Elt Ideal) ℓ) (g : Dev Cert.TopkIdeal.nD → PrngReg), Pre_TopkIdeal m →
    θ_run (Cert.TopkIdeal.defs (F := Ideal)) (onTc (τ := Cert.TopkIdeal.τ) (Cert.TopkIdeal.main (F := Ideal))) ⟨m, fun _ => 0, g⟩ (fun r => (∀ c : Dev Cert.TopkIdeal.nD,
      r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
      ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1))
      ∧ r.2.sem = fun _ => 0)

def quiescent_TopkIdeal_pre_nine_nearest_differ [hTopkIdeal : Cert.TopkIdeal.Facts] [hPre_nine_nearest_differ : Cert.Pre_nine_nearest_differ.Facts] : Prop :=
  ∀ (m : (ℓ : Loc Cert.TopkIdeal.nD Cert.TopkIdeal.τ Cert.TopkIdeal.sig) → Buf (Elt Ideal) ℓ) (g : Dev Cert.TopkIdeal.nD → PrngReg), Pre_TopkIdeal_nine_nearest_differ m →
    θ_run (Cert.TopkIdeal.defs (F := Ideal)) (onTc (τ := Cert.TopkIdeal.τ) (Cert.TopkIdeal.main (F := Ideal))) ⟨m, fun _ => 0, g⟩ (fun r => (∀ c : Dev Cert.TopkIdeal.nD,
      r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
      ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1))
      ∧ r.2.sem = fun _ => 0)

def quiescent_TopkReferenceIdeal [hTopkReferenceIdeal : Cert.TopkReferenceIdeal.Facts] : Prop :=
  ∀ (m : (ℓ : Loc Cert.TopkReferenceIdeal.nD Cert.TopkReferenceIdeal.τ Cert.TopkReferenceIdeal.sig) → Buf (Elt Ideal) ℓ) (g : Dev Cert.TopkReferenceIdeal.nD → PrngReg), Pre_TopkReferenceIdeal m →
    θ_run (Cert.TopkReferenceIdeal.defs (F := Ideal)) (onTc (τ := Cert.TopkReferenceIdeal.τ) (Cert.TopkReferenceIdeal.main (F := Ideal))) ⟨m, fun _ => 0, g⟩ (fun r => (∀ c : Dev Cert.TopkReferenceIdeal.nD,
      r.2.mem ((c.tc : Thread Cert.TopkReferenceIdeal.nD Cert.TopkReferenceIdeal.τ).loc Cert.TopkReferenceIdeal.main_arg0) = m ((c.tc : Thread Cert.TopkReferenceIdeal.nD Cert.TopkReferenceIdeal.τ).loc Cert.TopkReferenceIdeal.main_arg0)
      ∧ r.2.mem ((c.tc : Thread Cert.TopkReferenceIdeal.nD Cert.TopkReferenceIdeal.τ).loc Cert.TopkReferenceIdeal.main_arg1) = m ((c.tc : Thread Cert.TopkReferenceIdeal.nD Cert.TopkReferenceIdeal.τ).loc Cert.TopkReferenceIdeal.main_arg1))
      ∧ r.2.sem = fun _ => 0)

def quiescent_TopkReferenceIdeal_pre_nine_nearest_differ [hTopkReferenceIdeal : Cert.TopkReferenceIdeal.Facts] [hPre_nine_nearest_differ : Cert.Pre_nine_nearest_differ.Facts] : Prop :=
  ∀ (m : (ℓ : Loc Cert.TopkReferenceIdeal.nD Cert.TopkReferenceIdeal.τ Cert.TopkReferenceIdeal.sig) → Buf (Elt Ideal) ℓ) (g : Dev Cert.TopkReferenceIdeal.nD → PrngReg), Pre_TopkReferenceIdeal_nine_nearest_differ m →
    θ_run (Cert.TopkReferenceIdeal.defs (F := Ideal)) (onTc (τ := Cert.TopkReferenceIdeal.τ) (Cert.TopkReferenceIdeal.main (F := Ideal))) ⟨m, fun _ => 0, g⟩ (fun r => (∀ c : Dev Cert.TopkReferenceIdeal.nD,
      r.2.mem ((c.tc : Thread Cert.TopkReferenceIdeal.nD Cert.TopkReferenceIdeal.τ).loc Cert.TopkReferenceIdeal.main_arg0) = m ((c.tc : Thread Cert.TopkReferenceIdeal.nD Cert.TopkReferenceIdeal.τ).loc Cert.TopkReferenceIdeal.main_arg0)
      ∧ r.2.mem ((c.tc : Thread Cert.TopkReferenceIdeal.nD Cert.TopkReferenceIdeal.τ).loc Cert.TopkReferenceIdeal.main_arg1) = m ((c.tc : Thread Cert.TopkReferenceIdeal.nD Cert.TopkReferenceIdeal.τ).loc Cert.TopkReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)
      ∧ m' ((c.tc : Thread Cert.MlpReferenceIdeal.nD Cert.MlpReferenceIdeal.τ).loc Cert.MlpReferenceIdeal.main_arg8) = m ((c.tc : Thread Cert.MlpIdeal.nD Cert.MlpIdeal.τ).loc Cert.MlpIdeal.main_arg8)
      ∧ m' ((c.tc : Thread Cert.MlpReferenceIdeal.nD Cert.MlpReferenceIdeal.τ).loc Cert.MlpReferenceIdeal.main_arg9) = m ((c.tc : Thread Cert.MlpIdeal.nD Cert.MlpIdeal.τ).loc Cert.MlpIdeal.main_arg9)
      ∧ m' ((c.tc : Thread Cert.MlpReferenceIdeal.nD Cert.MlpReferenceIdeal.τ).loc Cert.MlpReferenceIdeal.main_arg10) = m ((c.tc : Thread Cert.MlpIdeal.nD Cert.MlpIdeal.τ).loc Cert.MlpIdeal.main_arg10)
      ∧ m' ((c.tc : Thread Cert.MlpReferenceIdeal.nD Cert.MlpReferenceIdeal.τ).loc Cert.MlpReferenceIdeal.main_arg11) = m ((c.tc : Thread Cert.MlpIdeal.nD Cert.MlpIdeal.τ).loc Cert.MlpIdeal.main_arg11)
      ∧ m' ((c.tc : Thread Cert.MlpReferenceIdeal.nD Cert.MlpReferenceIdeal.τ).loc Cert.MlpReferenceIdeal.main_arg12) = m ((c.tc : Thread Cert.MlpIdeal.nD Cert.MlpIdeal.τ).loc Cert.MlpIdeal.main_arg12)
      ∧ m' ((c.tc : Thread Cert.MlpReferenceIdeal.nD Cert.MlpReferenceIdeal.τ).loc Cert.MlpReferenceIdeal.main_arg13) = m ((c.tc : Thread Cert.MlpIdeal.nD Cert.MlpIdeal.τ).loc Cert.MlpIdeal.main_arg13)
      ∧ m' ((c.tc : Thread Cert.MlpReferenceIdeal.nD Cert.MlpReferenceIdeal.τ).loc Cert.MlpReferenceIdeal.main_arg14) = m ((c.tc : Thread Cert.MlpIdeal.nD Cert.MlpIdeal.τ).loc Cert.MlpIdeal.main_arg14)
      ∧ m' ((c.tc : Thread Cert.MlpReferenceIdeal.nD Cert.MlpReferenceIdeal.τ).loc Cert.MlpReferenceIdeal.main_arg15) = m ((c.tc : Thread Cert.MlpIdeal.nD Cert.MlpIdeal.τ).loc Cert.MlpIdeal.main_arg15)
      ∧ m' ((c.tc : Thread Cert.MlpReferenceIdeal.nD Cert.MlpReferenceIdeal.τ).loc Cert.MlpReferenceIdeal.main_arg16) = m ((c.tc : Thread Cert.MlpIdeal.nD Cert.MlpIdeal.τ).loc Cert.MlpIdeal.main_arg16)) →
    ∃ (v0 : (c : Dev Cert.MlpIdeal.nD) → Buf (Elt Ideal) ((c.tc : Thread Cert.MlpIdeal.nD Cert.MlpIdeal.τ).loc Cert.MlpIdeal.main_v30_0)) (v1 : (c : Dev Cert.MlpIdeal.nD) → Buf (Elt Ideal) ((c.tc : Thread Cert.MlpIdeal.nD Cert.MlpIdeal.τ).loc Cert.MlpIdeal.main_v30_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v30_0) = v0 c
          ∧ r.2.mem ((c.tc : Thread Cert.MlpIdeal.nD Cert.MlpIdeal.τ).loc Cert.MlpIdeal.main_v30_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
          ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
          ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14)
          ∧ r.2.mem ((c.tc : Thread Cert.MlpIdeal.nD Cert.MlpIdeal.τ).loc Cert.MlpIdeal.main_arg15) = m ((c.tc : Thread Cert.MlpIdeal.nD Cert.MlpIdeal.τ).loc Cert.MlpIdeal.main_arg15)
          ∧ r.2.mem ((c.tc : Thread Cert.MlpIdeal.nD Cert.MlpIdeal.τ).loc Cert.MlpIdeal.main_arg16) = m ((c.tc : Thread Cert.MlpIdeal.nD Cert.MlpIdeal.τ).loc Cert.MlpIdeal.main_arg16))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v27) = v0 c
          ∧ r.2.mem ((c.tc : Thread Cert.MlpReferenceIdeal.nD Cert.MlpReferenceIdeal.τ).loc Cert.MlpReferenceIdeal.main_v50) = v1 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7)
          ∧ r.2.mem ((c.tc : Thread Cert.MlpReferenceIdeal.nD Cert.MlpReferenceIdeal.τ).loc Cert.MlpReferenceIdeal.main_arg8) = m' ((c.tc : Thread Cert.MlpReferenceIdeal.nD Cert.MlpReferenceIdeal.τ).loc Cert.MlpReferenceIdeal.main_arg8)
          ∧ r.2.mem ((c.tc : Thread Cert.MlpReferenceIdeal.nD Cert.MlpReferenceIdeal.τ).loc Cert.MlpReferenceIdeal.main_arg9) = m' ((c.tc : Thread Cert.MlpReferenceIdeal.nD Cert.MlpReferenceIdeal.τ).loc Cert.MlpReferenceIdeal.main_arg9)
          ∧ r.2.mem ((c.tc : Thread Cert.MlpReferenceIdeal.nD Cert.MlpReferenceIdeal.τ).loc Cert.MlpReferenceIdeal.main_arg10) = m' ((c.tc : Thread Cert.MlpReferenceIdeal.nD Cert.MlpReferenceIdeal.τ).loc Cert.MlpReferenceIdeal.main_arg10)
          ∧ r.2.mem ((c.tc : Thread Cert.MlpReferenceIdeal.nD Cert.MlpReferenceIdeal.τ).loc Cert.MlpReferenceIdeal.main_arg11) = m' ((c.tc : Thread Cert.MlpReferenceIdeal.nD Cert.MlpReferenceIdeal.τ).loc Cert.MlpReferenceIdeal.main_arg11)
          ∧ r.2.mem ((c.tc : Thread Cert.MlpReferenceIdeal.nD Cert.MlpReferenceIdeal.τ).loc Cert.MlpReferenceIdeal.main_arg12) = m' ((c.tc : Thread Cert.MlpReferenceIdeal.nD Cert.MlpReferenceIdeal.τ).loc Cert.MlpReferenceIdeal.main_arg12)
          ∧ r.2.mem ((c.tc : Thread Cert.MlpReferenceIdeal.nD Cert.MlpReferenceIdeal.τ).loc Cert.MlpReferenceIdeal.main_arg13) = m' ((c.tc : Thread Cert.MlpReferenceIdeal.nD Cert.MlpReferenceIdeal.τ).loc Cert.MlpReferenceIdeal.main_arg13)
          ∧ r.2.mem ((c.tc : Thread Cert.MlpReferenceIdeal.nD Cert.MlpReferenceIdeal.τ).loc Cert.MlpReferenceIdeal.main_arg14) = m' ((c.tc : Thread Cert.MlpReferenceIdeal.nD Cert.MlpReferenceIdeal.τ).loc Cert.MlpReferenceIdeal.main_arg14)
          ∧ r.2.mem ((c.tc : Thread Cert.MlpReferenceIdeal.nD Cert.MlpReferenceIdeal.τ).loc Cert.MlpReferenceIdeal.main_arg15) = m' ((c.tc : Thread Cert.MlpReferenceIdeal.nD Cert.MlpReferenceIdeal.τ).loc Cert.MlpReferenceIdeal.main_arg15)
          ∧ r.2.mem ((c.tc : Thread Cert.MlpReferenceIdeal.nD Cert.MlpReferenceIdeal.τ).loc Cert.MlpReferenceIdeal.main_arg16) = m' ((c.tc : Thread Cert.MlpReferenceIdeal.nD Cert.MlpReferenceIdeal.τ).loc Cert.MlpReferenceIdeal.main_arg16))

def preserves_Topk_TopkIdeal : Prop :=
  True

def algebraic_TopkIdeal_TopkReferenceIdeal_pre_nine_nearest_differ [hTopkIdeal : Cert.TopkIdeal.Facts] [hTopkReferenceIdeal : Cert.TopkReferenceIdeal.Facts] [hPre_nine_nearest_differ : Cert.Pre_nine_nearest_differ.Facts] : Prop :=
  ∀ (m : (ℓ : Loc Cert.TopkIdeal.nD Cert.TopkIdeal.τ Cert.TopkIdeal.sig) → Buf (Elt Ideal) ℓ) (g : Dev Cert.TopkIdeal.nD → PrngReg)
    (m' : (ℓ : Loc Cert.TopkReferenceIdeal.nD Cert.TopkReferenceIdeal.τ Cert.TopkReferenceIdeal.sig) → Buf (Elt Ideal) ℓ) (g' : Dev Cert.TopkReferenceIdeal.nD → PrngReg), Pre_TopkIdeal_nine_nearest_differ m →
    (∀ c : Dev Cert.TopkIdeal.nD,
      m' ((c.tc : Thread Cert.TopkReferenceIdeal.nD Cert.TopkReferenceIdeal.τ).loc Cert.TopkReferenceIdeal.main_arg0) = m ((c.tc : Thread Cert.TopkIdeal.nD Cert.TopkIdeal.τ).loc Cert.TopkIdeal.main_arg0)
      ∧ m' ((c.tc : Thread Cert.TopkReferenceIdeal.nD Cert.TopkReferenceIdeal.τ).loc Cert.TopkReferenceIdeal.main_arg1) = m ((c.tc : Thread Cert.TopkIdeal.nD Cert.TopkIdeal.τ).loc Cert.TopkIdeal.main_arg1)) →
    ∃ (v0 : (c : Dev Cert.TopkIdeal.nD) → Buf (Elt Ideal) ((c.tc : Thread Cert.TopkIdeal.nD Cert.TopkIdeal.τ).loc Cert.TopkIdeal.main_v1_0)) (v1 : (c : Dev Cert.TopkIdeal.nD) → Buf (Elt Ideal) ((c.tc : Thread Cert.TopkIdeal.nD Cert.TopkIdeal.τ).loc Cert.TopkIdeal.main_v1_1)),
      θ_run (Cert.TopkIdeal.defs (F := Ideal)) (onTc (τ := Cert.TopkIdeal.τ) (Cert.TopkIdeal.main (F := Ideal))) ⟨m, fun _ => 0, g⟩ (fun r => ∀ c : Dev Cert.TopkIdeal.nD,
          r.2.mem ((c.tc : Thread Cert.TopkIdeal.nD Cert.TopkIdeal.τ).loc Cert.TopkIdeal.main_v1_0) = v0 c
          ∧ r.2.mem ((c.tc : Thread Cert.TopkIdeal.nD Cert.TopkIdeal.τ).loc Cert.TopkIdeal.main_v1_1) = v1 c
          ∧ r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
          ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1))
      ∧ θ_run (Cert.TopkReferenceIdeal.defs (F := Ideal)) (onTc (τ := Cert.TopkReferenceIdeal.τ) (Cert.TopkReferenceIdeal.main (F := Ideal))) ⟨m', fun _ => 0, g'⟩ (fun r => ∀ c : Dev Cert.TopkReferenceIdeal.nD,
          r.2.mem ((c.tc : Thread Cert.TopkReferenceIdeal.nD Cert.TopkReferenceIdeal.τ).loc Cert.TopkReferenceIdeal.main_indices) = v0 c
          ∧ r.2.mem ((c.tc : Thread Cert.TopkReferenceIdeal.nD Cert.TopkReferenceIdeal.τ).loc Cert.TopkReferenceIdeal.main_v25) = v1 c
          ∧ r.2.mem ((c.tc : Thread Cert.TopkReferenceIdeal.nD Cert.TopkReferenceIdeal.τ).loc Cert.TopkReferenceIdeal.main_arg0) = m' ((c.tc : Thread Cert.TopkReferenceIdeal.nD Cert.TopkReferenceIdeal.τ).loc Cert.TopkReferenceIdeal.main_arg0)
          ∧ r.2.mem ((c.tc : Thread Cert.TopkReferenceIdeal.nD Cert.TopkReferenceIdeal.τ).loc Cert.TopkReferenceIdeal.main_arg1) = m' ((c.tc : Thread Cert.TopkReferenceIdeal.nD Cert.TopkReferenceIdeal.τ).loc Cert.TopkReferenceIdeal.main_arg1))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hTopk : Cert.Topk.Facts) (hTopkIdeal : Cert.TopkIdeal.Facts) (hTopkReferenceIdeal : Cert.TopkReferenceIdeal.Facts) (hPre_idx_in_rows : Cert.Pre_idx_in_rows.Facts) (hPre_nine_nearest_differ : Cert.Pre_nine_nearest_differ.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Topk (hTopk := hTopk)
    ∧ quiescent_TopkIdeal (hTopkIdeal := hTopkIdeal)
    ∧ quiescent_TopkIdeal_pre_nine_nearest_differ (hTopkIdeal := hTopkIdeal) (hPre_nine_nearest_differ := hPre_nine_nearest_differ)
    ∧ quiescent_TopkReferenceIdeal (hTopkReferenceIdeal := hTopkReferenceIdeal)
    ∧ quiescent_TopkReferenceIdeal_pre_nine_nearest_differ (hTopkReferenceIdeal := hTopkReferenceIdeal) (hPre_nine_nearest_differ := hPre_nine_nearest_differ)
    ∧ preserves_Kernel_KernelIdeal
    ∧ algebraic_KernelIdeal_ReferenceIdeal (hKernelIdeal := hKernelIdeal) (hReferenceIdeal := hReferenceIdeal) (hPre_idx_in_rows := hPre_idx_in_rows)
    ∧ preserves_Mlp_MlpIdeal
    ∧ algebraic_MlpIdeal_MlpReferenceIdeal (hMlpIdeal := hMlpIdeal) (hMlpReferenceIdeal := hMlpReferenceIdeal)
    ∧ preserves_Topk_TopkIdeal
    ∧ algebraic_TopkIdeal_TopkReferenceIdeal_pre_nine_nearest_differ (hTopkIdeal := hTopkIdeal) (hTopkReferenceIdeal := hTopkReferenceIdeal) (hPre_nine_nearest_differ := hPre_nine_nearest_differ)
-- ==== Pre_idx_in_rows.lean ====
abbrev S4096x256 : Shape := ⟨2, ![4096, 256]⟩
abbrev S8192x8 : Shape := ⟨2, ![8192, 8]⟩
abbrev S_ : Shape := ⟨0, ![]⟩

class Facts : Prop where
  bcast_S_S8192x8 : S_.BroadcastsInDim S8192x8 (![] : Fin 0 → Fin S8192x8.rank)
  reducesTo_S8192x8_S_d0_1 : S8192x8.ReducesTo [0, 1] S_
  h_S_ : 0 < S_.numel

variable [Facts]

def fn {F : FTy → Type} [FloatOps F] (main_arg0 : FVec F S4096x256 .f32) (main_arg1 : IVec S8192x8 32) (main_arg2 : FVec F S8192x8 .f32) : IVec S_ 1 :=
  let main_c : IVec S_ 32 := constantI S_ 32 0#32
  let main_v0 : IVec S8192x8 32 := broadcastInDim S8192x8 ![] bcast_S_S8192x8 main_c
  let main_v1 : IVec S8192x8 1 := cmpi .sge main_arg1 main_v0
  let main_c_0 : IVec S_ 32 := constantI S_ 32 4096#32
  let main_v2 : IVec S8192x8 32 := broadcastInDim S8192x8 ![] bcast_S_S8192x8 main_c_0
  let main_v3 : IVec S8192x8 1 := cmpi .slt main_arg1 main_v2
  let main_v4 : IVec S8192x8 1 := andi main_v1 main_v3
  let main_c_1 : IVec S_ 1 := constantI S_ 1 1#1
  let main_v5 : IVec S_ 1 := (fun x v => Host.reduce IntOp.andi x v reducesTo_S8192x8_S_d0_1 h_S_) main_v4 main_c_1
  main_v5
-- ==== Pre_nine_nearest_differ.lean ====
abbrev S1x8192x3 : Shape := ⟨3, ![1, 8192, 3]⟩
abbrev S1x4096x3 : Shape := ⟨3, ![1, 4096, 3]⟩
abbrev S_ : Shape := ⟨0, ![]⟩
abbrev S1x4096 : Shape := ⟨2, ![1, 4096]⟩
abbrev S1x8192 : Shape := ⟨2, ![1, 8192]⟩
abbrev S1x8192x1 : Shape := ⟨3, ![1, 8192, 1]⟩
abbrev S1x1x4096 : Shape := ⟨3, ![1, 1, 4096]⟩
abbrev S1x8192x4096 : Shape := ⟨3, ![1, 8192, 4096]⟩
abbrev S1x8192x9 : Shape := ⟨3, ![1, 8192, 9]⟩
abbrev S1x8192x8 : Shape := ⟨3, ![1, 8192, 8]⟩

class Facts : Prop where
  reducesTo_S1x4096x3_S1x4096_d2 : S1x4096x3.ReducesTo [2] S1x4096
  h_S_ : 0 < S_.numel
  reducesTo_S1x8192x3_S1x8192_d2 : S1x8192x3.ReducesTo [2] S1x8192
  bcast_S1x8192_S1x8192x1_0_1 : S1x8192.BroadcastsInDim S1x8192x1 (![0, 1] : Fin 2 → Fin S1x8192x1.rank)
  bcast_S1x4096_S1x1x4096_0_2 : S1x4096.BroadcastsInDim S1x1x4096 (![0, 2] : Fin 2 → Fin S1x1x4096.rank)
  bcast_S1x8192x1_S1x8192x4096_0_1_2 : S1x8192x1.BroadcastsInDim S1x8192x4096 (![0, 1, 2] : Fin 3 → Fin S1x8192x4096.rank)
  bcast_S1x1x4096_S1x8192x4096_0_1_2 : S1x1x4096.BroadcastsInDim S1x8192x4096 (![0, 1, 2] : Fin 3 → Fin S1x8192x4096.rank)
  bcast_S_S1x8192x4096 : S_.BroadcastsInDim S1x8192x4096 (![] : Fin 0 → Fin S1x8192x4096.rank)
  sliceFits_S1x8192x4096_S1x8192x9 : S1x8192x4096.Slices (fun _ => 0) S1x8192x9
  slices_S1x8192x9_S1x8192x8_0_0_0 : S1x8192x9.Slices ![0, 0, 0] S1x8192x8
  slices_S1x8192x9_S1x8192x8_0_0_1 : S1x8192x9.Slices ![0, 0, 1] S1x8192x8
  reducesTo_S1x8192x8_S_d0_1_2 : S1x8192x8.ReducesTo [0, 1, 2] S_
  dot_S1x8192x3_S1x4096x3_S1x8192x4096_2_2_1_1_0_0_wf : DotDims.WF S1x8192x3 S1x4096x3 S1x8192x4096 [2] [2] [1] [1] [0] [0]

variable [Facts]

def dot_S1x8192x3_S1x4096x3_S1x8192x4096_2_2_1_1_0_0 : DotDims S1x8192x3 S1x4096x3 S1x8192x4096 where
  lhsContracting := [2]
  rhsContracting := [2]
  lhsNonContracting := [1]
  rhsNonContracting := [1]
  lhsBatch := [0]
  rhsBatch := [0]
  wf := dot_S1x8192x3_S1x4096x3_S1x8192x4096_2_2_1_1_0_0_wf
def fn_part1 {F : FTy → Type} [FloatOps F] (main_v17 : FVec F S1x8192x9 .f32) : IVec S_ 1 :=
  let main_v18 : FVec F S1x8192x8 .f32 := (extractStridedSlice S1x8192x8 ![0, 0, 0] · slices_S1x8192x9_S1x8192x8_0_0_0) main_v17
  let main_v19 : FVec F S1x8192x8 .f32 := (extractStridedSlice S1x8192x8 ![0, 0, 1] · slices_S1x8192x9_S1x8192x8_0_0_1) main_v17
  let main_v20 : IVec S1x8192x8 1 := cmpf .olt main_v18 main_v19
  let main_c : IVec S_ 1 := constantI S_ 1 1#1
  let main_v21 : IVec S_ 1 := (fun x v => Host.reduce IntOp.andi x v reducesTo_S1x8192x8_S_d0_1_2 h_S_) main_v20 main_c
  main_v21

def fn {F : FTy → Type} [FloatOps F] (main_arg0 : FVec F S1x8192x3 .f32) (main_arg1 : FVec F S1x4096x3 .f32) : IVec S_ 1 :=
  let main_v0 : FVec F S1x4096x3 .f32 := mulf main_arg1 main_arg1
  let main_cst : FVec F S_ .f32 := constant S_ .f32 0x00000000#32
  let main_v1 : FVec F S1x4096 .f32 := (fun x v => Host.reduceAdd x v reducesTo_S1x4096x3_S1x4096_d2 h_S_) main_v0 main_cst
  let main_v2 : FVec F S1x8192x3 .f32 := mulf main_arg0 main_arg0
  let main_cst_0 : FVec F S_ .f32 := constant S_ .f32 0x00000000#32
  let main_v3 : FVec F S1x8192 .f32 := (fun x v => Host.reduceAdd x v reducesTo_S1x8192x3_S1x8192_d2 h_S_) main_v2 main_cst_0
  let main_v4 : FVec F S1x8192x1 .f32 := broadcastInDim S1x8192x1 ![0, 1] bcast_S1x8192_S1x8192x1_0_1 main_v3
  let main_v5 : FVec F S1x1x4096 .f32 := broadcastInDim S1x1x4096 ![0, 2] bcast_S1x4096_S1x1x4096_0_2 main_v1
  let main_v6 : FVec F S1x8192x4096 .f32 := broadcastInDim S1x8192x4096 ![0, 1, 2] bcast_S1x8192x1_S1x8192x4096_0_1_2 main_v4
  let main_v7 : FVec F S1x8192x4096 .f32 := broadcastInDim S1x8192x4096 ![0, 1, 2] bcast_S1x1x4096_S1x8192x4096_0_1_2 main_v5
  let main_v8 : FVec F S1x8192x4096 .f32 := addf main_v6 main_v7
  let main_v9 : FVec F S1x8192x4096 .f32 := (fun l r => Host.dotGeneral dot_S1x8192x3_S1x4096x3_S1x8192x4096_2_2_1_1_0_0 none l r) main_arg0 main_arg1
  let main_cst_1 : FVec F S_ .f32 := constant S_ .f32 0x40000000#32
  let main_v10 : FVec F S1x8192x4096 .f32 := broadcastInDim S1x8192x4096 ![] bcast_S_S1x8192x4096 main_cst_1
  let main_v11 : FVec F S1x8192x4096 .f32 := mulf main_v10 main_v9
  let main_v12 : FVec F S1x8192x4096 .f32 := subf main_v8 main_v11
  let main_cst_2 : FVec F S_ .f32 := constant S_ .f32 0x2B8CBCCC#32
  let main_v13 : FVec F S1x8192x4096 .f32 := broadcastInDim S1x8192x4096 ![] bcast_S_S1x8192x4096 main_cst_2
  let main_v14 : FVec F S1x8192x4096 .f32 := maximumf main_v12 main_v13
  let main_v15 : FVec F S1x8192x4096 .f32 := Host.sqrt main_v14
  let main_v16 : FVec F S1x8192x4096 .f32 := Host.negf main_v15
  let main_values : FVec F S1x8192x9 .f32 := (fun x => (Host.topK S1x8192x9 2 (FloatOps.cmpfTotal .gt) x sliceFits_S1x8192x4096_S1x8192x9).1) main_v16
  let main_indices : IVec S1x8192x9 32 := (fun x => (Host.topK S1x8192x9 2 (FloatOps.cmpfTotal .gt) x sliceFits_S1x8192x4096_S1x8192x9).2) main_v16
  let main_v17 : FVec F S1x8192x9 .f32 := Host.negf main_values
  fn_part1 (F := F) main_v17
-- ==== Kernel.lean ====
abbrev S4096x256 : Shape := ⟨2, ![4096, 256]⟩
abbrev S8192x8 : Shape := ⟨2, ![8192, 8]⟩
abbrev S65536 : Shape := ⟨1, ![65536]⟩
abbrev S4096x2x128 : Shape := ⟨3, ![4096, 2, 128]⟩
abbrev S8192x256 : Shape := ⟨2, ![8192, 256]⟩
abbrev S2x128 : Shape := ⟨2, ![2, 128]⟩
abbrev S2x128x2x128 : Shape := ⟨4, ![2, 128, 2, 128]⟩
abbrev S16x256 : Shape := ⟨2, ![16, 256]⟩
abbrev S_ : Shape := ⟨0, ![]⟩
abbrev S1x128 : Shape := ⟨2, ![1, 128]⟩
abbrev S128 : Shape := ⟨1, ![128]⟩
abbrev S1x128x2x128 : Shape := ⟨4, ![1, 128, 2, 128]⟩
abbrev S128x2x128 : Shape := ⟨3, ![128, 2, 128]⟩
abbrev S1x16 : Shape := ⟨2, ![1, 16]⟩
abbrev S16 : Shape := ⟨1, ![16]⟩
abbrev S1 : Shape := ⟨1, ![1]⟩
abbrev S1x1x1x16 : Shape := ⟨4, ![1, 1, 1, 16]⟩

abbrev nBuf : Table → Nat
  | .hbm => 7
  | .local .scVector .vmem => 4
  | _ => 0

abbrev bufTy : (tb : Table) → Fin (nBuf tb) → BufTy
  | .hbm, ⟨0, _⟩ => ⟨S4096x256, .f32⟩
  | .hbm, ⟨1, _⟩ => ⟨S8192x8, .i32⟩
  | .hbm, ⟨2, _⟩ => ⟨S8192x8, .f32⟩
  | .hbm, ⟨3, _⟩ => ⟨S65536, .i32⟩
  | .hbm, ⟨4, _⟩ => ⟨S65536, .f32⟩
  | .hbm, ⟨5, _⟩ => ⟨S4096x2x128, .f32⟩
  | .hbm, ⟨6, _⟩ => ⟨S8192x256, .f32⟩
  | .local .scVector .vmem, ⟨0, _⟩ => ⟨S2x128, .i32⟩
  | .local .scVector .vmem, ⟨1, _⟩ => ⟨S2x128, .f32⟩
  | .local .scVector .vmem, ⟨2, _⟩ => ⟨S2x128x2x128, .f32⟩
  | .local .scVector .vmem, ⟨3, _⟩ => ⟨S16x256, .f32⟩
  | _, _ => ⟨S4096x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v2_scv : Ref sig .scVector := ⟨.hbm, 5, rfl⟩
abbrev main_v0_scv : Ref sig .scVector := ⟨.hbm, 3, rfl⟩
abbrev main_v1_scv : Ref sig .scVector := ⟨.hbm, 4, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c8_i32 : BitVec 32 := 8#32
  let v4 : BitVec 32 := Scalar.muli v3 c8_i32
  ![v4.toNat]
@[reducible] def k0_t1_loop : Scf.Loop 32 :=
  let c0_i32_23 : BitVec 32 := 0#32
  let c8_i32_24 : BitVec 32 := 8#32
  let v17 : BitVec 32 := Scalar.addi c0_i32_23 c8_i32_24
  let c1_i32_25 : BitVec 32 := 1#32
  ⟨c0_i32_23, v17, c1_i32_25⟩
@[reducible] def k0_t2_loop : Scf.Loop 32 :=
  let c0_i32_39 : BitVec 32 := 0#32
  let c8_i32_40 : BitVec 32 := 8#32
  let v26 : BitVec 32 := Scalar.addi c0_i32_39 c8_i32_40
  let c1_i32_41 : BitVec 32 := 1#32
  ⟨c0_i32_39, v26, c1_i32_41⟩
def k0_off2 (k0_t2 : Fin k0_t2_loop.trips) : Fin 2 → Nat :=
  let c0_i32_69 : BitVec 32 := 0#32
  let v50 : Index := Scalar.indexCast c0_i32_69
  let c0_i32_39 : BitVec 32 := 0#32
  let c1_i32_41 : BitVec 32 := 1#32
  let arg14 : BitVec 32 := Scf.iv c0_i32_39 c1_i32_41 k0_t2
  let c16_i32_68 : BitVec 32 := 16#32
  let v49 : BitVec 32 := Scalar.muli arg14 c16_i32_68
  let v51 : Index := Scalar.indexCast v49
  ![0, v51.toNat]
def k0_off3 (k0_t2 : Fin k0_t2_loop.trips) (c0_i32_71 : BitVec 32) : Fin 4 → Nat :=
  let c0_i32_73 : BitVec 32 := 0#32
  let v59 : Index := Scalar.indexCast c0_i32_73
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_72 : BitVec 32 := 8#32
  let v58 : BitVec 32 := Scalar.muli v55 c8_i32_72
  let v60 : Index := Scalar.indexCast v58
  let c0_i32_74 : BitVec 32 := 0#32
  let v61 : Index := Scalar.indexCast c0_i32_74
  let c0 : Index := 0#32
  ![0, v60.toNat, 0, 0]
def k0_off4 (k0_t2 : Fin k0_t2_loop.trips) (c0_i32_71 : BitVec 32) (c1_i32_76 : BitVec 32) : Fin 4 → Nat :=
  let c0_i32_77 : BitVec 32 := 0#32
  let v70 : Index := Scalar.indexCast c0_i32_77
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_75 : BitVec 32 := 8#32
  let v68 : BitVec 32 := Scalar.muli v55 c8_i32_75
  let v69 : BitVec 32 := Scalar.addi v68 c1_i32_76
  let v71 : Index := Scalar.indexCast v69
  let c0_i32_78 : BitVec 32 := 0#32
  let v72 : Index := Scalar.indexCast c0_i32_78
  let c0_79 : Index := 0#32
  ![0, v71.toNat, 0, 0]
def k0_off5 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v150 : Index := Scalar.indexCast v55
  let c0_105 : Index := 0#32
  ![v150.toNat, 0]
def k0_off6 (k0_t2 : Fin k0_t2_loop.trips) (c0_i32_71 : BitVec 32) : Fin 4 → Nat :=
  let c0_i32_107 : BitVec 32 := 0#32
  let v157 : Index := Scalar.indexCast c0_i32_107
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_106 : BitVec 32 := 8#32
  let v156 : BitVec 32 := Scalar.muli v55 c8_i32_106
  let v158 : Index := Scalar.indexCast v156
  let c0_i32_108 : BitVec 32 := 0#32
  let v159 : Index := Scalar.indexCast c0_i32_108
  let c16 : Index := 16#32
  ![0, v158.toNat, 0, 16]
def k0_off7 (k0_t2 : Fin k0_t2_loop.trips) (c0_i32_71 : BitVec 32) (c1_i32_110 : BitVec 32) : Fin 4 → Nat :=
  let c0_i32_111 : BitVec 32 := 0#32
  let v168 : Index := Scalar.indexCast c0_i32_111
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_109 : BitVec 32 := 8#32
  let v166 : BitVec 32 := Scalar.muli v55 c8_i32_109
  let v167 : BitVec 32 := Scalar.addi v166 c1_i32_110
  let v169 : Index := Scalar.indexCast v167
  let c0_i32_112 : BitVec 32 := 0#32
  let v170 : Index := Scalar.indexCast c0_i32_112
  let c16_113 : Index := 16#32
  ![0, v169.toNat, 0, 16]
def k0_off8 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v248 : Index := Scalar.indexCast v55
  let c16_144 : Index := 16#32
  ![v248.toNat, 16]
def k0_off9 (k0_t2 : Fin k0_t2_loop.trips) (c0_i32_71 : BitVec 32) : Fin 4 → Nat :=
  let c0_i32_146 : BitVec 32 := 0#32
  let v255 : Index := Scalar.indexCast c0_i32_146
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_145 : BitVec 32 := 8#32
  let v254 : BitVec 32 := Scalar.muli v55 c8_i32_145
  let v256 : Index := Scalar.indexCast v254
  let c0_i32_147 : BitVec 32 := 0#32
  let v257 : Index := Scalar.indexCast c0_i32_147
  let c32 : Index := 32#32
  ![0, v256.toNat, 0, 32]
def k0_off10 (k0_t2 : Fin k0_t2_loop.trips) (c0_i32_71 : BitVec 32) (c1_i32_149 : BitVec 32) : Fin 4 → Nat :=
  let c0_i32_150 : BitVec 32 := 0#32
  let v266 : Index := Scalar.indexCast c0_i32_150
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_148 : BitVec 32 := 8#32
  let v264 : BitVec 32 := Scalar.muli v55 c8_i32_148
  let v265 : BitVec 32 := Scalar.addi v264 c1_i32_149
  let v267 : Index := Scalar.indexCast v265
  let c0_i32_151 : BitVec 32 := 0#32
  let v268 : Index := Scalar.indexCast c0_i32_151
  let c32_152 : Index := 32#32
  ![0, v267.toNat, 0, 32]
def k0_off11 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v346 : Index := Scalar.indexCast v55
  let c32_183 : Index := 32#32
  ![v346.toNat, 32]
def k0_off12 (k0_t2 : Fin k0_t2_loop.trips) (c0_i32_71 : BitVec 32) : Fin 4 → Nat :=
  let c0_i32_185 : BitVec 32 := 0#32
  let v353 : Index := Scalar.indexCast c0_i32_185
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_184 : BitVec 32 := 8#32
  let v352 : BitVec 32 := Scalar.muli v55 c8_i32_184
  let v354 : Index := Scalar.indexCast v352
  let c0_i32_186 : BitVec 32 := 0#32
  let v355 : Index := Scalar.indexCast c0_i32_186
  let c48 : Index := 48#32
  ![0, v354.toNat, 0, 48]
def k0_off13 (k0_t2 : Fin k0_t2_loop.trips) (c0_i32_71 : BitVec 32) (c1_i32_188 : BitVec 32) : Fin 4 → Nat :=
  let c0_i32_189 : BitVec 32 := 0#32
  let v364 : Index := Scalar.indexCast c0_i32_189
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_187 : BitVec 32 := 8#32
  let v362 : BitVec 32 := Scalar.muli v55 c8_i32_187
  let v363 : BitVec 32 := Scalar.addi v362 c1_i32_188
  let v365 : Index := Scalar.indexCast v363
  let c0_i32_190 : BitVec 32 := 0#32
  let v366 : Index := Scalar.indexCast c0_i32_190
  let c48_191 : Index := 48#32
  ![0, v365.toNat, 0, 48]
def k0_off14 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v444 : Index := Scalar.indexCast v55
  let c48_222 : Index := 48#32
  ![v444.toNat, 48]
def k0_off15 (k0_t2 : Fin k0_t2_loop.trips) (c0_i32_71 : BitVec 32) : Fin 4 → Nat :=
  let c0_i32_224 : BitVec 32 := 0#32
  let v451 : Index := Scalar.indexCast c0_i32_224
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_223 : BitVec 32 := 8#32
  let v450 : BitVec 32 := Scalar.muli v55 c8_i32_223
  let v452 : Index := Scalar.indexCast v450
  let c0_i32_225 : BitVec 32 := 0#32
  let v453 : Index := Scalar.indexCast c0_i32_225
  let c64 : Index := 64#32
  ![0, v452.toNat, 0, 64]
def k0_off16 (k0_t2 : Fin k0_t2_loop.trips) (c0_i32_71 : BitVec 32) (c1_i32_227 : BitVec 32) : Fin 4 → Nat :=
  let c0_i32_228 : BitVec 32 := 0#32
  let v462 : Index := Scalar.indexCast c0_i32_228
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_226 : BitVec 32 := 8#32
  let v460 : BitVec 32 := Scalar.muli v55 c8_i32_226
  let v461 : BitVec 32 := Scalar.addi v460 c1_i32_227
  let v463 : Index := Scalar.indexCast v461
  let c0_i32_229 : BitVec 32 := 0#32
  let v464 : Index := Scalar.indexCast c0_i32_229
  let c64_230 : Index := 64#32
  ![0, v463.toNat, 0, 64]
def k0_off17 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v542 : Index := Scalar.indexCast v55
  let c64_261 : Index := 64#32
  ![v542.toNat, 64]
def k0_off18 (k0_t2 : Fin k0_t2_loop.trips) (c0_i32_71 : BitVec 32) : Fin 4 → Nat :=
  let c0_i32_263 : BitVec 32 := 0#32
  let v549 : Index := Scalar.indexCast c0_i32_263
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_262 : BitVec 32 := 8#32
  let v548 : BitVec 32 := Scalar.muli v55 c8_i32_262
  let v550 : Index := Scalar.indexCast v548
  let c0_i32_264 : BitVec 32 := 0#32
  let v551 : Index := Scalar.indexCast c0_i32_264
  let c80 : Index := 80#32
  ![0, v550.toNat, 0, 80]
def k0_off19 (k0_t2 : Fin k0_t2_loop.trips) (c0_i32_71 : BitVec 32) (c1_i32_266 : BitVec 32) : Fin 4 → Nat :=
  let c0_i32_267 : BitVec 32 := 0#32
  let v560 : Index := Scalar.indexCast c0_i32_267
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_265 : BitVec 32 := 8#32
  let v558 : BitVec 32 := Scalar.muli v55 c8_i32_265
  let v559 : BitVec 32 := Scalar.addi v558 c1_i32_266
  let v561 : Index := Scalar.indexCast v559
  let c0_i32_268 : BitVec 32 := 0#32
  let v562 : Index := Scalar.indexCast c0_i32_268
  let c80_269 : Index := 80#32
  ![0, v561.toNat, 0, 80]
def k0_off20 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v640 : Index := Scalar.indexCast v55
  let c80_300 : Index := 80#32
  ![v640.toNat, 80]
def k0_off21 (k0_t2 : Fin k0_t2_loop.trips) (c0_i32_71 : BitVec 32) : Fin 4 → Nat :=
  let c0_i32_302 : BitVec 32 := 0#32
  let v647 : Index := Scalar.indexCast c0_i32_302
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_301 : BitVec 32 := 8#32
  let v646 : BitVec 32 := Scalar.muli v55 c8_i32_301
  let v648 : Index := Scalar.indexCast v646
  let c0_i32_303 : BitVec 32 := 0#32
  let v649 : Index := Scalar.indexCast c0_i32_303
  let c96 : Index := 96#32
  ![0, v648.toNat, 0, 96]
def k0_off22 (k0_t2 : Fin k0_t2_loop.trips) (c0_i32_71 : BitVec 32) (c1_i32_305 : BitVec 32) : Fin 4 → Nat :=
  let c0_i32_306 : BitVec 32 := 0#32
  let v658 : Index := Scalar.indexCast c0_i32_306
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_304 : BitVec 32 := 8#32
  let v656 : BitVec 32 := Scalar.muli v55 c8_i32_304
  let v657 : BitVec 32 := Scalar.addi v656 c1_i32_305
  let v659 : Index := Scalar.indexCast v657
  let c0_i32_307 : BitVec 32 := 0#32
  let v660 : Index := Scalar.indexCast c0_i32_307
  let c96_308 : Index := 96#32
  ![0, v659.toNat, 0, 96]
def k0_off23 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v738 : Index := Scalar.indexCast v55
  let c96_339 : Index := 96#32
  ![v738.toNat, 96]
def k0_off24 (k0_t2 : Fin k0_t2_loop.trips) (c0_i32_71 : BitVec 32) : Fin 4 → Nat :=
  let c0_i32_341 : BitVec 32 := 0#32
  let v745 : Index := Scalar.indexCast c0_i32_341
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_340 : BitVec 32 := 8#32
  let v744 : BitVec 32 := Scalar.muli v55 c8_i32_340
  let v746 : Index := Scalar.indexCast v744
  let c0_i32_342 : BitVec 32 := 0#32
  let v747 : Index := Scalar.indexCast c0_i32_342
  let c112 : Index := 112#32
  ![0, v746.toNat, 0, 112]
def k0_off25 (k0_t2 : Fin k0_t2_loop.trips) (c0_i32_71 : BitVec 32) (c1_i32_344 : BitVec 32) : Fin 4 → Nat :=
  let c0_i32_345 : BitVec 32 := 0#32
  let v756 : Index := Scalar.indexCast c0_i32_345
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_343 : BitVec 32 := 8#32
  let v754 : BitVec 32 := Scalar.muli v55 c8_i32_343
  let v755 : BitVec 32 := Scalar.addi v754 c1_i32_344
  let v757 : Index := Scalar.indexCast v755
  let c0_i32_346 : BitVec 32 := 0#32
  let v758 : Index := Scalar.indexCast c0_i32_346
  let c112_347 : Index := 112#32
  ![0, v757.toNat, 0, 112]
def k0_off26 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v836 : Index := Scalar.indexCast v55
  let c112_378 : Index := 112#32
  ![v836.toNat, 112]
def k0_off27 (k0_t2 : Fin k0_t2_loop.trips) (c0_i32_71 : BitVec 32) : Fin 4 → Nat :=
  let c0_i32_380 : BitVec 32 := 0#32
  let v843 : Index := Scalar.indexCast c0_i32_380
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_379 : BitVec 32 := 8#32
  let v842 : BitVec 32 := Scalar.muli v55 c8_i32_379
  let v844 : Index := Scalar.indexCast v842
  let c1_i32_381 : BitVec 32 := 1#32
  let v845 : Index := Scalar.indexCast c1_i32_381
  let c0_382 : Index := 0#32
  ![0, v844.toNat, 1, 0]
def k0_off28 (k0_t2 : Fin k0_t2_loop.trips) (c0_i32_71 : BitVec 32) (c1_i32_384 : BitVec 32) : Fin 4 → Nat :=
  let c0_i32_385 : BitVec 32 := 0#32
  let v854 : Index := Scalar.indexCast c0_i32_385
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_383 : BitVec 32 := 8#32
  let v852 : BitVec 32 := Scalar.muli v55 c8_i32_383
  let v853 : BitVec 32 := Scalar.addi v852 c1_i32_384
  let v855 : Index := Scalar.indexCast v853
  let c1_i32_386 : BitVec 32 := 1#32
  let v856 : Index := Scalar.indexCast c1_i32_386
  let c0_387 : Index := 0#32
  ![0, v855.toNat, 1, 0]
def k0_off29 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v934 : Index := Scalar.indexCast v55
  let c128 : Index := 128#32
  ![v934.toNat, 128]
def k0_off30 (k0_t2 : Fin k0_t2_loop.trips) (c0_i32_71 : BitVec 32) : Fin 4 → Nat :=
  let c0_i32_419 : BitVec 32 := 0#32
  let v941 : Index := Scalar.indexCast c0_i32_419
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_418 : BitVec 32 := 8#32
  let v940 : BitVec 32 := Scalar.muli v55 c8_i32_418
  let v942 : Index := Scalar.indexCast v940
  let c1_i32_420 : BitVec 32 := 1#32
  let v943 : Index := Scalar.indexCast c1_i32_420
  let c16_421 : Index := 16#32
  ![0, v942.toNat, 1, 16]
def k0_off31 (k0_t2 : Fin k0_t2_loop.trips) (c0_i32_71 : BitVec 32) (c1_i32_423 : BitVec 32) : Fin 4 → Nat :=
  let c0_i32_424 : BitVec 32 := 0#32
  let v952 : Index := Scalar.indexCast c0_i32_424
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_422 : BitVec 32 := 8#32
  let v950 : BitVec 32 := Scalar.muli v55 c8_i32_422
  let v951 : BitVec 32 := Scalar.addi v950 c1_i32_423
  let v953 : Index := Scalar.indexCast v951
  let c1_i32_425 : BitVec 32 := 1#32
  let v954 : Index := Scalar.indexCast c1_i32_425
  let c16_426 : Index := 16#32
  ![0, v953.toNat, 1, 16]
def k0_off32 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v1032 : Index := Scalar.indexCast v55
  let c144 : Index := 144#32
  ![v1032.toNat, 144]
def k0_off33 (k0_t2 : Fin k0_t2_loop.trips) (c0_i32_71 : BitVec 32) : Fin 4 → Nat :=
  let c0_i32_458 : BitVec 32 := 0#32
  let v1039 : Index := Scalar.indexCast c0_i32_458
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_457 : BitVec 32 := 8#32
  let v1038 : BitVec 32 := Scalar.muli v55 c8_i32_457
  let v1040 : Index := Scalar.indexCast v1038
  let c1_i32_459 : BitVec 32 := 1#32
  let v1041 : Index := Scalar.indexCast c1_i32_459
  let c32_460 : Index := 32#32
  ![0, v1040.toNat, 1, 32]
def k0_off34 (k0_t2 : Fin k0_t2_loop.trips) (c0_i32_71 : BitVec 32) (c1_i32_462 : BitVec 32) : Fin 4 → Nat :=
  let c0_i32_463 : BitVec 32 := 0#32
  let v1050 : Index := Scalar.indexCast c0_i32_463
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_461 : BitVec 32 := 8#32
  let v1048 : BitVec 32 := Scalar.muli v55 c8_i32_461
  let v1049 : BitVec 32 := Scalar.addi v1048 c1_i32_462
  let v1051 : Index := Scalar.indexCast v1049
  let c1_i32_464 : BitVec 32 := 1#32
  let v1052 : Index := Scalar.indexCast c1_i32_464
  let c32_465 : Index := 32#32
  ![0, v1051.toNat, 1, 32]
def k0_off35 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v1130 : Index := Scalar.indexCast v55
  let c160 : Index := 160#32
  ![v1130.toNat, 160]
def k0_off36 (k0_t2 : Fin k0_t2_loop.trips) (c0_i32_71 : BitVec 32) : Fin 4 → Nat :=
  let c0_i32_497 : BitVec 32 := 0#32
  let v1137 : Index := Scalar.indexCast c0_i32_497
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_496 : BitVec 32 := 8#32
  let v1136 : BitVec 32 := Scalar.muli v55 c8_i32_496
  let v1138 : Index := Scalar.indexCast v1136
  let c1_i32_498 : BitVec 32 := 1#32
  let v1139 : Index := Scalar.indexCast c1_i32_498
  let c48_499 : Index := 48#32
  ![0, v1138.toNat, 1, 48]
def k0_off37 (k0_t2 : Fin k0_t2_loop.trips) (c0_i32_71 : BitVec 32) (c1_i32_501 : BitVec 32) : Fin 4 → Nat :=
  let c0_i32_502 : BitVec 32 := 0#32
  let v1148 : Index := Scalar.indexCast c0_i32_502
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_500 : BitVec 32 := 8#32
  let v1146 : BitVec 32 := Scalar.muli v55 c8_i32_500
  let v1147 : BitVec 32 := Scalar.addi v1146 c1_i32_501
  let v1149 : Index := Scalar.indexCast v1147
  let c1_i32_503 : BitVec 32 := 1#32
  let v1150 : Index := Scalar.indexCast c1_i32_503
  let c48_504 : Index := 48#32
  ![0, v1149.toNat, 1, 48]
def k0_off38 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v1228 : Index := Scalar.indexCast v55
  let c176 : Index := 176#32
  ![v1228.toNat, 176]
def k0_off39 (k0_t2 : Fin k0_t2_loop.trips) (c0_i32_71 : BitVec 32) : Fin 4 → Nat :=
  let c0_i32_536 : BitVec 32 := 0#32
  let v1235 : Index := Scalar.indexCast c0_i32_536
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_535 : BitVec 32 := 8#32
  let v1234 : BitVec 32 := Scalar.muli v55 c8_i32_535
  let v1236 : Index := Scalar.indexCast v1234
  let c1_i32_537 : BitVec 32 := 1#32
  let v1237 : Index := Scalar.indexCast c1_i32_537
  let c64_538 : Index := 64#32
  ![0, v1236.toNat, 1, 64]
def k0_off40 (k0_t2 : Fin k0_t2_loop.trips) (c0_i32_71 : BitVec 32) (c1_i32_540 : BitVec 32) : Fin 4 → Nat :=
  let c0_i32_541 : BitVec 32 := 0#32
  let v1246 : Index := Scalar.indexCast c0_i32_541
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_539 : BitVec 32 := 8#32
  let v1244 : BitVec 32 := Scalar.muli v55 c8_i32_539
  let v1245 : BitVec 32 := Scalar.addi v1244 c1_i32_540
  let v1247 : Index := Scalar.indexCast v1245
  let c1_i32_542 : BitVec 32 := 1#32
  let v1248 : Index := Scalar.indexCast c1_i32_542
  let c64_543 : Index := 64#32
  ![0, v1247.toNat, 1, 64]
def k0_off41 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v1326 : Index := Scalar.indexCast v55
  let c192 : Index := 192#32
  ![v1326.toNat, 192]
def k0_off42 (k0_t2 : Fin k0_t2_loop.trips) (c0_i32_71 : BitVec 32) : Fin 4 → Nat :=
  let c0_i32_575 : BitVec 32 := 0#32
  let v1333 : Index := Scalar.indexCast c0_i32_575
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_574 : BitVec 32 := 8#32
  let v1332 : BitVec 32 := Scalar.muli v55 c8_i32_574
  let v1334 : Index := Scalar.indexCast v1332
  let c1_i32_576 : BitVec 32 := 1#32
  let v1335 : Index := Scalar.indexCast c1_i32_576
  let c80_577 : Index := 80#32
  ![0, v1334.toNat, 1, 80]
def k0_off43 (k0_t2 : Fin k0_t2_loop.trips) (c0_i32_71 : BitVec 32) (c1_i32_579 : BitVec 32) : Fin 4 → Nat :=
  let c0_i32_580 : BitVec 32 := 0#32
  let v1344 : Index := Scalar.indexCast c0_i32_580
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_578 : BitVec 32 := 8#32
  let v1342 : BitVec 32 := Scalar.muli v55 c8_i32_578
  let v1343 : BitVec 32 := Scalar.addi v1342 c1_i32_579
  let v1345 : Index := Scalar.indexCast v1343
  let c1_i32_581 : BitVec 32 := 1#32
  let v1346 : Index := Scalar.indexCast c1_i32_581
  let c80_582 : Index := 80#32
  ![0, v1345.toNat, 1, 80]
def k0_off44 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v1424 : Index := Scalar.indexCast v55
  let c208 : Index := 208#32
  ![v1424.toNat, 208]
def k0_off45 (k0_t2 : Fin k0_t2_loop.trips) (c0_i32_71 : BitVec 32) : Fin 4 → Nat :=
  let c0_i32_614 : BitVec 32 := 0#32
  let v1431 : Index := Scalar.indexCast c0_i32_614
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_613 : BitVec 32 := 8#32
  let v1430 : BitVec 32 := Scalar.muli v55 c8_i32_613
  let v1432 : Index := Scalar.indexCast v1430
  let c1_i32_615 : BitVec 32 := 1#32
  let v1433 : Index := Scalar.indexCast c1_i32_615
  let c96_616 : Index := 96#32
  ![0, v1432.toNat, 1, 96]
def k0_off46 (k0_t2 : Fin k0_t2_loop.trips) (c0_i32_71 : BitVec 32) (c1_i32_618 : BitVec 32) : Fin 4 → Nat :=
  let c0_i32_619 : BitVec 32 := 0#32
  let v1442 : Index := Scalar.indexCast c0_i32_619
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_617 : BitVec 32 := 8#32
  let v1440 : BitVec 32 := Scalar.muli v55 c8_i32_617
  let v1441 : BitVec 32 := Scalar.addi v1440 c1_i32_618
  let v1443 : Index := Scalar.indexCast v1441
  let c1_i32_620 : BitVec 32 := 1#32
  let v1444 : Index := Scalar.indexCast c1_i32_620
  let c96_621 : Index := 96#32
  ![0, v1443.toNat, 1, 96]
def k0_off47 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v1522 : Index := Scalar.indexCast v55
  let c224 : Index := 224#32
  ![v1522.toNat, 224]
def k0_off48 (k0_t2 : Fin k0_t2_loop.trips) (c0_i32_71 : BitVec 32) : Fin 4 → Nat :=
  let c0_i32_653 : BitVec 32 := 0#32
  let v1529 : Index := Scalar.indexCast c0_i32_653
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_652 : BitVec 32 := 8#32
  let v1528 : BitVec 32 := Scalar.muli v55 c8_i32_652
  let v1530 : Index := Scalar.indexCast v1528
  let c1_i32_654 : BitVec 32 := 1#32
  let v1531 : Index := Scalar.indexCast c1_i32_654
  let c112_655 : Index := 112#32
  ![0, v1530.toNat, 1, 112]
def k0_off49 (k0_t2 : Fin k0_t2_loop.trips) (c0_i32_71 : BitVec 32) (c1_i32_657 : BitVec 32) : Fin 4 → Nat :=
  let c0_i32_658 : BitVec 32 := 0#32
  let v1540 : Index := Scalar.indexCast c0_i32_658
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let c8_i32_656 : BitVec 32 := 8#32
  let v1538 : BitVec 32 := Scalar.muli v55 c8_i32_656
  let v1539 : BitVec 32 := Scalar.addi v1538 c1_i32_657
  let v1541 : Index := Scalar.indexCast v1539
  let c1_i32_659 : BitVec 32 := 1#32
  let v1542 : Index := Scalar.indexCast c1_i32_659
  let c112_660 : Index := 112#32
  ![0, v1541.toNat, 1, 112]
def k0_off50 (k0_t2 : Fin k0_t2_loop.trips) (c0_i32_71 : BitVec 32) : Fin 2 → Nat :=
  let c0_i32_39 : BitVec 32 := 0#32
  let c1_i32_41 : BitVec 32 := 1#32
  let arg14 : BitVec 32 := Scf.iv c0_i32_39 c1_i32_41 k0_t2
  let c2_i32_70 : BitVec 32 := 2#32
  let v54 : BitVec 32 := Scalar.muli arg14 c2_i32_70
  let v55 : BitVec 32 := Scalar.addi v54 c0_i32_71
  let v1620 : Index := Scalar.indexCast v55
  let c240 : Index := 240#32
  ![v1620.toNat, 240]
def k0_off51 (i : grid0.Coords) (k0_t1 : Fin k0_t1_loop.trips) (c0_i32_28 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_23 : BitVec 32 := 0#32
  let c1_i32_25 : BitVec 32 := 1#32
  let arg12 : BitVec 32 := Scf.iv c0_i32_23 c1_i32_25 k0_t1
  let c2_i32_27 : BitVec 32 := 2#32
  let v19 : BitVec 32 := Scalar.muli arg12 c2_i32_27
  let v20 : BitVec 32 := Scalar.addi v19 c0_i32_28
  let c16_i32_43 : BitVec 32 := 16#32
  let v28 : BitVec 32 := Scalar.muli v20 c16_i32_43
  let v29 : BitVec 32 := Scalar.addi v2 v28
  let c0_i32_68_r4 : BitVec 32 := 0#32
  ![v29.toNat, 0]
def k0_cond1 (k0_t1 : Fin k0_t1_loop.trips) : BitVec 1 :=
  let c0_i32_23 : BitVec 32 := 0#32
  let c1_i32_25 : BitVec 32 := 1#32
  let arg12 : BitVec 32 := Scf.iv c0_i32_23 c1_i32_25 k0_t1
  let c2_i32_27 : BitVec 32 := 2#32
  let v19 : BitVec 32 := Scalar.muli arg12 c2_i32_27
  let c0_i32_28 : BitVec 32 := 0#32
  let v20 : BitVec 32 := Scalar.addi v19 c0_i32_28
  let c2_i32_44 : BitVec 32 := 2#32
  let v30 : BitVec 32 := Scalar.addi v20 c2_i32_44
  let c16_i32_45 : BitVec 32 := 16#32
  let v31 : BitVec 1 := Scalar.cmpi .slt v30 c16_i32_45
  let v32 : BitVec 32 := Scalar.extui v31
  let c0_i32_46 : BitVec 32 := 0#32
  let v33 : BitVec 1 := Scalar.cmpi .ne v32 c0_i32_46
  v33

def k0_off52 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_23 : BitVec 32 := 0#32
  let c1_i32_25 : BitVec 32 := 1#32
  let arg12 : BitVec 32 := Scf.iv c0_i32_23 c1_i32_25 k0_t1
  let c2_i32_27 : BitVec 32 := 2#32
  let v19 : BitVec 32 := Scalar.muli arg12 c2_i32_27
  let c0_i32_28 : BitVec 32 := 0#32
  let v20 : BitVec 32 := Scalar.addi v19 c0_i32_28
  let c2_i32_68 : BitVec 32 := 2#32
  let v49 : BitVec 32 := Scalar.addi v20 c2_i32_68
  let c16_i32_69 : BitVec 32 := 16#32
  let v50 : BitVec 32 := Scalar.muli v49 c16_i32_69
  let v51 : BitVec 32 := Scalar.addi v2 v50
  let c8_i32_70 : BitVec 32 := 8#32
  let v52 : BitVec 32 := Scalar.muli v51 c8_i32_70
  ![v52.toNat]
@[reducible] def k0_t3_loop : Scf.Loop 32 :=
  let c0_i32_59 : BitVec 32 := 0#32
  let c8_i32_60 : BitVec 32 := 8#32
  let v41 : BitVec 32 := Scalar.addi c0_i32_59 c8_i32_60
  let c1_i32_61 : BitVec 32 := 1#32
  ⟨c0_i32_59, v41, c1_i32_61⟩
def k0_off53 (k0_t3 : Fin k0_t3_loop.trips) : Fin 2 → Nat :=
  let c1_i32_69 : BitVec 32 := 1#32
  let v50 : Index := Scalar.indexCast c1_i32_69
  let c0_i32_59 : BitVec 32 := 0#32
  let c1_i32_61 : BitVec 32 := 1#32
  let arg14 : BitVec 32 := Scf.iv c0_i32_59 c1_i32_61 k0_t3
  let c16_i32_68 : BitVec 32 := 16#32
  let v49 : BitVec 32 := Scalar.muli arg14 c16_i32_68
  let v51 : Index := Scalar.indexCast v49
  ![1, v51.toNat]
def k0_off54 (k0_t3 : Fin k0_t3_loop.trips) (c0_i32_71 : BitVec 32) : Fin 4 → Nat :=
  let c1_i32_73 : BitVec 32 := 1#32
  let v59 : Index := Scalar.indexCast c1_i32_73
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_72 : BitVec 32 := 8#32
  let v58 : BitVec 32 := Scalar.muli v55 c8_i32_72
  let v60 : Index := Scalar.indexCast v58
  let c0_i32_74 : BitVec 32 := 0#32
  let v61 : Index := Scalar.indexCast c0_i32_74
  let c0 : Index := 0#32
  ![1, v60.toNat, 0, 0]
def k0_off55 (k0_t3 : Fin k0_t3_loop.trips) (c0_i32_71 : BitVec 32) (c1_i32_76 : BitVec 32) : Fin 4 → Nat :=
  let c1_i32_77 : BitVec 32 := 1#32
  let v70 : Index := Scalar.indexCast c1_i32_77
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_75 : BitVec 32 := 8#32
  let v68 : BitVec 32 := Scalar.muli v55 c8_i32_75
  let v69 : BitVec 32 := Scalar.addi v68 c1_i32_76
  let v71 : Index := Scalar.indexCast v69
  let c0_i32_78 : BitVec 32 := 0#32
  let v72 : Index := Scalar.indexCast c0_i32_78
  let c0_79 : Index := 0#32
  ![1, v71.toNat, 0, 0]
def k0_off56 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v150 : Index := Scalar.indexCast v55
  let c0_105 : Index := 0#32
  ![v150.toNat, 0]
def k0_off57 (k0_t3 : Fin k0_t3_loop.trips) (c0_i32_71 : BitVec 32) : Fin 4 → Nat :=
  let c1_i32_107 : BitVec 32 := 1#32
  let v157 : Index := Scalar.indexCast c1_i32_107
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_106 : BitVec 32 := 8#32
  let v156 : BitVec 32 := Scalar.muli v55 c8_i32_106
  let v158 : Index := Scalar.indexCast v156
  let c0_i32_108 : BitVec 32 := 0#32
  let v159 : Index := Scalar.indexCast c0_i32_108
  let c16 : Index := 16#32
  ![1, v158.toNat, 0, 16]
def k0_off58 (k0_t3 : Fin k0_t3_loop.trips) (c0_i32_71 : BitVec 32) (c1_i32_110 : BitVec 32) : Fin 4 → Nat :=
  let c1_i32_111 : BitVec 32 := 1#32
  let v168 : Index := Scalar.indexCast c1_i32_111
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_109 : BitVec 32 := 8#32
  let v166 : BitVec 32 := Scalar.muli v55 c8_i32_109
  let v167 : BitVec 32 := Scalar.addi v166 c1_i32_110
  let v169 : Index := Scalar.indexCast v167
  let c0_i32_112 : BitVec 32 := 0#32
  let v170 : Index := Scalar.indexCast c0_i32_112
  let c16_113 : Index := 16#32
  ![1, v169.toNat, 0, 16]
def k0_off59 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v248 : Index := Scalar.indexCast v55
  let c16_144 : Index := 16#32
  ![v248.toNat, 16]
def k0_off60 (k0_t3 : Fin k0_t3_loop.trips) (c0_i32_71 : BitVec 32) : Fin 4 → Nat :=
  let c1_i32_146 : BitVec 32 := 1#32
  let v255 : Index := Scalar.indexCast c1_i32_146
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_145 : BitVec 32 := 8#32
  let v254 : BitVec 32 := Scalar.muli v55 c8_i32_145
  let v256 : Index := Scalar.indexCast v254
  let c0_i32_147 : BitVec 32 := 0#32
  let v257 : Index := Scalar.indexCast c0_i32_147
  let c32 : Index := 32#32
  ![1, v256.toNat, 0, 32]
def k0_off61 (k0_t3 : Fin k0_t3_loop.trips) (c0_i32_71 : BitVec 32) (c1_i32_149 : BitVec 32) : Fin 4 → Nat :=
  let c1_i32_150 : BitVec 32 := 1#32
  let v266 : Index := Scalar.indexCast c1_i32_150
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_148 : BitVec 32 := 8#32
  let v264 : BitVec 32 := Scalar.muli v55 c8_i32_148
  let v265 : BitVec 32 := Scalar.addi v264 c1_i32_149
  let v267 : Index := Scalar.indexCast v265
  let c0_i32_151 : BitVec 32 := 0#32
  let v268 : Index := Scalar.indexCast c0_i32_151
  let c32_152 : Index := 32#32
  ![1, v267.toNat, 0, 32]
def k0_off62 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v346 : Index := Scalar.indexCast v55
  let c32_183 : Index := 32#32
  ![v346.toNat, 32]
def k0_off63 (k0_t3 : Fin k0_t3_loop.trips) (c0_i32_71 : BitVec 32) : Fin 4 → Nat :=
  let c1_i32_185 : BitVec 32 := 1#32
  let v353 : Index := Scalar.indexCast c1_i32_185
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_184 : BitVec 32 := 8#32
  let v352 : BitVec 32 := Scalar.muli v55 c8_i32_184
  let v354 : Index := Scalar.indexCast v352
  let c0_i32_186 : BitVec 32 := 0#32
  let v355 : Index := Scalar.indexCast c0_i32_186
  let c48 : Index := 48#32
  ![1, v354.toNat, 0, 48]
def k0_off64 (k0_t3 : Fin k0_t3_loop.trips) (c0_i32_71 : BitVec 32) (c1_i32_188 : BitVec 32) : Fin 4 → Nat :=
  let c1_i32_189 : BitVec 32 := 1#32
  let v364 : Index := Scalar.indexCast c1_i32_189
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_187 : BitVec 32 := 8#32
  let v362 : BitVec 32 := Scalar.muli v55 c8_i32_187
  let v363 : BitVec 32 := Scalar.addi v362 c1_i32_188
  let v365 : Index := Scalar.indexCast v363
  let c0_i32_190 : BitVec 32 := 0#32
  let v366 : Index := Scalar.indexCast c0_i32_190
  let c48_191 : Index := 48#32
  ![1, v365.toNat, 0, 48]
def k0_off65 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v444 : Index := Scalar.indexCast v55
  let c48_222 : Index := 48#32
  ![v444.toNat, 48]
def k0_off66 (k0_t3 : Fin k0_t3_loop.trips) (c0_i32_71 : BitVec 32) : Fin 4 → Nat :=
  let c1_i32_224 : BitVec 32 := 1#32
  let v451 : Index := Scalar.indexCast c1_i32_224
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_223 : BitVec 32 := 8#32
  let v450 : BitVec 32 := Scalar.muli v55 c8_i32_223
  let v452 : Index := Scalar.indexCast v450
  let c0_i32_225 : BitVec 32 := 0#32
  let v453 : Index := Scalar.indexCast c0_i32_225
  let c64 : Index := 64#32
  ![1, v452.toNat, 0, 64]
def k0_off67 (k0_t3 : Fin k0_t3_loop.trips) (c0_i32_71 : BitVec 32) (c1_i32_227 : BitVec 32) : Fin 4 → Nat :=
  let c1_i32_228 : BitVec 32 := 1#32
  let v462 : Index := Scalar.indexCast c1_i32_228
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_226 : BitVec 32 := 8#32
  let v460 : BitVec 32 := Scalar.muli v55 c8_i32_226
  let v461 : BitVec 32 := Scalar.addi v460 c1_i32_227
  let v463 : Index := Scalar.indexCast v461
  let c0_i32_229 : BitVec 32 := 0#32
  let v464 : Index := Scalar.indexCast c0_i32_229
  let c64_230 : Index := 64#32
  ![1, v463.toNat, 0, 64]
def k0_off68 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v542 : Index := Scalar.indexCast v55
  let c64_261 : Index := 64#32
  ![v542.toNat, 64]
def k0_off69 (k0_t3 : Fin k0_t3_loop.trips) (c0_i32_71 : BitVec 32) : Fin 4 → Nat :=
  let c1_i32_263 : BitVec 32 := 1#32
  let v549 : Index := Scalar.indexCast c1_i32_263
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_262 : BitVec 32 := 8#32
  let v548 : BitVec 32 := Scalar.muli v55 c8_i32_262
  let v550 : Index := Scalar.indexCast v548
  let c0_i32_264 : BitVec 32 := 0#32
  let v551 : Index := Scalar.indexCast c0_i32_264
  let c80 : Index := 80#32
  ![1, v550.toNat, 0, 80]
def k0_off70 (k0_t3 : Fin k0_t3_loop.trips) (c0_i32_71 : BitVec 32) (c1_i32_266 : BitVec 32) : Fin 4 → Nat :=
  let c1_i32_267 : BitVec 32 := 1#32
  let v560 : Index := Scalar.indexCast c1_i32_267
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_265 : BitVec 32 := 8#32
  let v558 : BitVec 32 := Scalar.muli v55 c8_i32_265
  let v559 : BitVec 32 := Scalar.addi v558 c1_i32_266
  let v561 : Index := Scalar.indexCast v559
  let c0_i32_268 : BitVec 32 := 0#32
  let v562 : Index := Scalar.indexCast c0_i32_268
  let c80_269 : Index := 80#32
  ![1, v561.toNat, 0, 80]
def k0_off71 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v640 : Index := Scalar.indexCast v55
  let c80_300 : Index := 80#32
  ![v640.toNat, 80]
def k0_off72 (k0_t3 : Fin k0_t3_loop.trips) (c0_i32_71 : BitVec 32) : Fin 4 → Nat :=
  let c1_i32_302 : BitVec 32 := 1#32
  let v647 : Index := Scalar.indexCast c1_i32_302
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_301 : BitVec 32 := 8#32
  let v646 : BitVec 32 := Scalar.muli v55 c8_i32_301
  let v648 : Index := Scalar.indexCast v646
  let c0_i32_303 : BitVec 32 := 0#32
  let v649 : Index := Scalar.indexCast c0_i32_303
  let c96 : Index := 96#32
  ![1, v648.toNat, 0, 96]
def k0_off73 (k0_t3 : Fin k0_t3_loop.trips) (c0_i32_71 : BitVec 32) (c1_i32_305 : BitVec 32) : Fin 4 → Nat :=
  let c1_i32_306 : BitVec 32 := 1#32
  let v658 : Index := Scalar.indexCast c1_i32_306
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_304 : BitVec 32 := 8#32
  let v656 : BitVec 32 := Scalar.muli v55 c8_i32_304
  let v657 : BitVec 32 := Scalar.addi v656 c1_i32_305
  let v659 : Index := Scalar.indexCast v657
  let c0_i32_307 : BitVec 32 := 0#32
  let v660 : Index := Scalar.indexCast c0_i32_307
  let c96_308 : Index := 96#32
  ![1, v659.toNat, 0, 96]
def k0_off74 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v738 : Index := Scalar.indexCast v55
  let c96_339 : Index := 96#32
  ![v738.toNat, 96]
def k0_off75 (k0_t3 : Fin k0_t3_loop.trips) (c0_i32_71 : BitVec 32) : Fin 4 → Nat :=
  let c1_i32_341 : BitVec 32 := 1#32
  let v745 : Index := Scalar.indexCast c1_i32_341
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_340 : BitVec 32 := 8#32
  let v744 : BitVec 32 := Scalar.muli v55 c8_i32_340
  let v746 : Index := Scalar.indexCast v744
  let c0_i32_342 : BitVec 32 := 0#32
  let v747 : Index := Scalar.indexCast c0_i32_342
  let c112 : Index := 112#32
  ![1, v746.toNat, 0, 112]
def k0_off76 (k0_t3 : Fin k0_t3_loop.trips) (c0_i32_71 : BitVec 32) (c1_i32_344 : BitVec 32) : Fin 4 → Nat :=
  let c1_i32_345 : BitVec 32 := 1#32
  let v756 : Index := Scalar.indexCast c1_i32_345
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_343 : BitVec 32 := 8#32
  let v754 : BitVec 32 := Scalar.muli v55 c8_i32_343
  let v755 : BitVec 32 := Scalar.addi v754 c1_i32_344
  let v757 : Index := Scalar.indexCast v755
  let c0_i32_346 : BitVec 32 := 0#32
  let v758 : Index := Scalar.indexCast c0_i32_346
  let c112_347 : Index := 112#32
  ![1, v757.toNat, 0, 112]
def k0_off77 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v836 : Index := Scalar.indexCast v55
  let c112_378 : Index := 112#32
  ![v836.toNat, 112]
def k0_off78 (k0_t3 : Fin k0_t3_loop.trips) (c0_i32_71 : BitVec 32) : Fin 4 → Nat :=
  let c1_i32_380 : BitVec 32 := 1#32
  let v843 : Index := Scalar.indexCast c1_i32_380
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_379 : BitVec 32 := 8#32
  let v842 : BitVec 32 := Scalar.muli v55 c8_i32_379
  let v844 : Index := Scalar.indexCast v842
  let c1_i32_381 : BitVec 32 := 1#32
  let v845 : Index := Scalar.indexCast c1_i32_381
  let c0_382 : Index := 0#32
  ![1, v844.toNat, 1, 0]
def k0_off79 (k0_t3 : Fin k0_t3_loop.trips) (c0_i32_71 : BitVec 32) (c1_i32_384 : BitVec 32) : Fin 4 → Nat :=
  let c1_i32_385 : BitVec 32 := 1#32
  let v854 : Index := Scalar.indexCast c1_i32_385
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_383 : BitVec 32 := 8#32
  let v852 : BitVec 32 := Scalar.muli v55 c8_i32_383
  let v853 : BitVec 32 := Scalar.addi v852 c1_i32_384
  let v855 : Index := Scalar.indexCast v853
  let c1_i32_386 : BitVec 32 := 1#32
  let v856 : Index := Scalar.indexCast c1_i32_386
  let c0_387 : Index := 0#32
  ![1, v855.toNat, 1, 0]
def k0_off80 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v934 : Index := Scalar.indexCast v55
  let c128 : Index := 128#32
  ![v934.toNat, 128]
def k0_off81 (k0_t3 : Fin k0_t3_loop.trips) (c0_i32_71 : BitVec 32) : Fin 4 → Nat :=
  let c1_i32_419 : BitVec 32 := 1#32
  let v941 : Index := Scalar.indexCast c1_i32_419
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_418 : BitVec 32 := 8#32
  let v940 : BitVec 32 := Scalar.muli v55 c8_i32_418
  let v942 : Index := Scalar.indexCast v940
  let c1_i32_420 : BitVec 32 := 1#32
  let v943 : Index := Scalar.indexCast c1_i32_420
  let c16_421 : Index := 16#32
  ![1, v942.toNat, 1, 16]
def k0_off82 (k0_t3 : Fin k0_t3_loop.trips) (c0_i32_71 : BitVec 32) (c1_i32_423 : BitVec 32) : Fin 4 → Nat :=
  let c1_i32_424 : BitVec 32 := 1#32
  let v952 : Index := Scalar.indexCast c1_i32_424
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_422 : BitVec 32 := 8#32
  let v950 : BitVec 32 := Scalar.muli v55 c8_i32_422
  let v951 : BitVec 32 := Scalar.addi v950 c1_i32_423
  let v953 : Index := Scalar.indexCast v951
  let c1_i32_425 : BitVec 32 := 1#32
  let v954 : Index := Scalar.indexCast c1_i32_425
  let c16_426 : Index := 16#32
  ![1, v953.toNat, 1, 16]
def k0_off83 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v1032 : Index := Scalar.indexCast v55
  let c144 : Index := 144#32
  ![v1032.toNat, 144]
def k0_off84 (k0_t3 : Fin k0_t3_loop.trips) (c0_i32_71 : BitVec 32) : Fin 4 → Nat :=
  let c1_i32_458 : BitVec 32 := 1#32
  let v1039 : Index := Scalar.indexCast c1_i32_458
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_457 : BitVec 32 := 8#32
  let v1038 : BitVec 32 := Scalar.muli v55 c8_i32_457
  let v1040 : Index := Scalar.indexCast v1038
  let c1_i32_459 : BitVec 32 := 1#32
  let v1041 : Index := Scalar.indexCast c1_i32_459
  let c32_460 : Index := 32#32
  ![1, v1040.toNat, 1, 32]
def k0_off85 (k0_t3 : Fin k0_t3_loop.trips) (c0_i32_71 : BitVec 32) (c1_i32_462 : BitVec 32) : Fin 4 → Nat :=
  let c1_i32_463 : BitVec 32 := 1#32
  let v1050 : Index := Scalar.indexCast c1_i32_463
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_461 : BitVec 32 := 8#32
  let v1048 : BitVec 32 := Scalar.muli v55 c8_i32_461
  let v1049 : BitVec 32 := Scalar.addi v1048 c1_i32_462
  let v1051 : Index := Scalar.indexCast v1049
  let c1_i32_464 : BitVec 32 := 1#32
  let v1052 : Index := Scalar.indexCast c1_i32_464
  let c32_465 : Index := 32#32
  ![1, v1051.toNat, 1, 32]
def k0_off86 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v1130 : Index := Scalar.indexCast v55
  let c160 : Index := 160#32
  ![v1130.toNat, 160]
def k0_off87 (k0_t3 : Fin k0_t3_loop.trips) (c0_i32_71 : BitVec 32) : Fin 4 → Nat :=
  let c1_i32_497 : BitVec 32 := 1#32
  let v1137 : Index := Scalar.indexCast c1_i32_497
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_496 : BitVec 32 := 8#32
  let v1136 : BitVec 32 := Scalar.muli v55 c8_i32_496
  let v1138 : Index := Scalar.indexCast v1136
  let c1_i32_498 : BitVec 32 := 1#32
  let v1139 : Index := Scalar.indexCast c1_i32_498
  let c48_499 : Index := 48#32
  ![1, v1138.toNat, 1, 48]
def k0_off88 (k0_t3 : Fin k0_t3_loop.trips) (c0_i32_71 : BitVec 32) (c1_i32_501 : BitVec 32) : Fin 4 → Nat :=
  let c1_i32_502 : BitVec 32 := 1#32
  let v1148 : Index := Scalar.indexCast c1_i32_502
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_500 : BitVec 32 := 8#32
  let v1146 : BitVec 32 := Scalar.muli v55 c8_i32_500
  let v1147 : BitVec 32 := Scalar.addi v1146 c1_i32_501
  let v1149 : Index := Scalar.indexCast v1147
  let c1_i32_503 : BitVec 32 := 1#32
  let v1150 : Index := Scalar.indexCast c1_i32_503
  let c48_504 : Index := 48#32
  ![1, v1149.toNat, 1, 48]
def k0_off89 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v1228 : Index := Scalar.indexCast v55
  let c176 : Index := 176#32
  ![v1228.toNat, 176]
def k0_off90 (k0_t3 : Fin k0_t3_loop.trips) (c0_i32_71 : BitVec 32) : Fin 4 → Nat :=
  let c1_i32_536 : BitVec 32 := 1#32
  let v1235 : Index := Scalar.indexCast c1_i32_536
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_535 : BitVec 32 := 8#32
  let v1234 : BitVec 32 := Scalar.muli v55 c8_i32_535
  let v1236 : Index := Scalar.indexCast v1234
  let c1_i32_537 : BitVec 32 := 1#32
  let v1237 : Index := Scalar.indexCast c1_i32_537
  let c64_538 : Index := 64#32
  ![1, v1236.toNat, 1, 64]
def k0_off91 (k0_t3 : Fin k0_t3_loop.trips) (c0_i32_71 : BitVec 32) (c1_i32_540 : BitVec 32) : Fin 4 → Nat :=
  let c1_i32_541 : BitVec 32 := 1#32
  let v1246 : Index := Scalar.indexCast c1_i32_541
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_539 : BitVec 32 := 8#32
  let v1244 : BitVec 32 := Scalar.muli v55 c8_i32_539
  let v1245 : BitVec 32 := Scalar.addi v1244 c1_i32_540
  let v1247 : Index := Scalar.indexCast v1245
  let c1_i32_542 : BitVec 32 := 1#32
  let v1248 : Index := Scalar.indexCast c1_i32_542
  let c64_543 : Index := 64#32
  ![1, v1247.toNat, 1, 64]
def k0_off92 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v1326 : Index := Scalar.indexCast v55
  let c192 : Index := 192#32
  ![v1326.toNat, 192]
def k0_off93 (k0_t3 : Fin k0_t3_loop.trips) (c0_i32_71 : BitVec 32) : Fin 4 → Nat :=
  let c1_i32_575 : BitVec 32 := 1#32
  let v1333 : Index := Scalar.indexCast c1_i32_575
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_574 : BitVec 32 := 8#32
  let v1332 : BitVec 32 := Scalar.muli v55 c8_i32_574
  let v1334 : Index := Scalar.indexCast v1332
  let c1_i32_576 : BitVec 32 := 1#32
  let v1335 : Index := Scalar.indexCast c1_i32_576
  let c80_577 : Index := 80#32
  ![1, v1334.toNat, 1, 80]
def k0_off94 (k0_t3 : Fin k0_t3_loop.trips) (c0_i32_71 : BitVec 32) (c1_i32_579 : BitVec 32) : Fin 4 → Nat :=
  let c1_i32_580 : BitVec 32 := 1#32
  let v1344 : Index := Scalar.indexCast c1_i32_580
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_578 : BitVec 32 := 8#32
  let v1342 : BitVec 32 := Scalar.muli v55 c8_i32_578
  let v1343 : BitVec 32 := Scalar.addi v1342 c1_i32_579
  let v1345 : Index := Scalar.indexCast v1343
  let c1_i32_581 : BitVec 32 := 1#32
  let v1346 : Index := Scalar.indexCast c1_i32_581
  let c80_582 : Index := 80#32
  ![1, v1345.toNat, 1, 80]
def k0_off95 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v1424 : Index := Scalar.indexCast v55
  let c208 : Index := 208#32
  ![v1424.toNat, 208]
def k0_off96 (k0_t3 : Fin k0_t3_loop.trips) (c0_i32_71 : BitVec 32) : Fin 4 → Nat :=
  let c1_i32_614 : BitVec 32 := 1#32
  let v1431 : Index := Scalar.indexCast c1_i32_614
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_613 : BitVec 32 := 8#32
  let v1430 : BitVec 32 := Scalar.muli v55 c8_i32_613
  let v1432 : Index := Scalar.indexCast v1430
  let c1_i32_615 : BitVec 32 := 1#32
  let v1433 : Index := Scalar.indexCast c1_i32_615
  let c96_616 : Index := 96#32
  ![1, v1432.toNat, 1, 96]
def k0_off97 (k0_t3 : Fin k0_t3_loop.trips) (c0_i32_71 : BitVec 32) (c1_i32_618 : BitVec 32) : Fin 4 → Nat :=
  let c1_i32_619 : BitVec 32 := 1#32
  let v1442 : Index := Scalar.indexCast c1_i32_619
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_617 : BitVec 32 := 8#32
  let v1440 : BitVec 32 := Scalar.muli v55 c8_i32_617
  let v1441 : BitVec 32 := Scalar.addi v1440 c1_i32_618
  let v1443 : Index := Scalar.indexCast v1441
  let c1_i32_620 : BitVec 32 := 1#32
  let v1444 : Index := Scalar.indexCast c1_i32_620
  let c96_621 : Index := 96#32
  ![1, v1443.toNat, 1, 96]
def k0_off98 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v1522 : Index := Scalar.indexCast v55
  let c224 : Index := 224#32
  ![v1522.toNat, 224]
def k0_off99 (k0_t3 : Fin k0_t3_loop.trips) (c0_i32_71 : BitVec 32) : Fin 4 → Nat :=
  let c1_i32_653 : BitVec 32 := 1#32
  let v1529 : Index := Scalar.indexCast c1_i32_653
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_652 : BitVec 32 := 8#32
  let v1528 : BitVec 32 := Scalar.muli v55 c8_i32_652
  let v1530 : Index := Scalar.indexCast v1528
  let c1_i32_654 : BitVec 32 := 1#32
  let v1531 : Index := Scalar.indexCast c1_i32_654
  let c112_655 : Index := 112#32
  ![1, v1530.toNat, 1, 112]
def k0_off100 (k0_t3 : Fin k0_t3_loop.trips) (c0_i32_71 : BitVec 32) (c1_i32_657 : BitVec 32) : Fin 4 → Nat :=
  let c1_i32_658 : BitVec 32 := 1#32
  let v1540 : Index := Scalar.indexCast c1_i32_658
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let c8_i32_656 : BitVec 32 := 8#32
  let v1538 : BitVec 32 := Scalar.muli v55 c8_i32_656
  let v1539 : BitVec 32 := Scalar.addi v1538 c1_i32_657
  let v1541 : Index := Scalar.indexCast v1539
  let c1_i32_659 : BitVec 32 := 1#32
  let v1542 : Index := Scalar.indexCast c1_i32_659
  let c112_660 : Index := 112#32
  ![1, v1541.toNat, 1, 112]
def k0_off101 (k0_t3 : Fin k0_t3_loop.trips) (c0_i32_71 : BitVec 32) : Fin 2 → Nat :=
  let c0_i32_59 : BitVec 32 := 0#32
  let c1_i32_61 : BitVec 32 := 1#32
  let arg14 : BitVec 32 := Scf.iv c0_i32_59 c1_i32_61 k0_t3
  let c2_i32_70 : BitVec 32 := 2#32
  let v54 : BitVec 32 := Scalar.muli arg14 c2_i32_70
  let v55 : BitVec 32 := Scalar.addi v54 c0_i32_71
  let v1620 : Index := Scalar.indexCast v55
  let c240 : Index := 240#32
  ![v1620.toNat, 240]
def k0_cond2 (k0_t1 : Fin k0_t1_loop.trips) : BitVec 1 :=
  let c0_i32_23 : BitVec 32 := 0#32
  let c1_i32_25 : BitVec 32 := 1#32
  let arg12 : BitVec 32 := Scf.iv c0_i32_23 c1_i32_25 k0_t1
  let c2_i32_47 : BitVec 32 := 2#32
  let v34 : BitVec 32 := Scalar.muli arg12 c2_i32_47
  let c1_i32_48 : BitVec 32 := 1#32
  let v35 : BitVec 32 := Scalar.addi v34 c1_i32_48
  let c2_i32_64 : BitVec 32 := 2#32
  let v45 : BitVec 32 := Scalar.addi v35 c2_i32_64
  let c16_i32_65 : BitVec 32 := 16#32
  let v46 : BitVec 1 := Scalar.cmpi .slt v45 c16_i32_65
  let v47 : BitVec 32 := Scalar.extui v46
  let c0_i32_66 : BitVec 32 := 0#32
  let v48 : BitVec 1 := Scalar.cmpi .ne v47 c0_i32_66
  v48

def k0_off102 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_23 : BitVec 32 := 0#32
  let c1_i32_25 : BitVec 32 := 1#32
  let arg12 : BitVec 32 := Scf.iv c0_i32_23 c1_i32_25 k0_t1
  let c2_i32_47 : BitVec 32 := 2#32
  let v34 : BitVec 32 := Scalar.muli arg12 c2_i32_47
  let c1_i32_48 : BitVec 32 := 1#32
  let v35 : BitVec 32 := Scalar.addi v34 c1_i32_48
  let c2_i32_68 : BitVec 32 := 2#32
  let v49 : BitVec 32 := Scalar.addi v35 c2_i32_68
  let c16_i32_69 : BitVec 32 := 16#32
  let v50 : BitVec 32 := Scalar.muli v49 c16_i32_69
  let v51 : BitVec 32 := Scalar.addi v2 v50
  let c8_i32_70 : BitVec 32 := 8#32
  let v52 : BitVec 32 := Scalar.muli v51 c8_i32_70
  ![v52.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x256 : Shape := ⟨2, ![4096, 256]⟩
abbrev S8192x8 : Shape := ⟨2, ![8192, 8]⟩
abbrev S65536 : Shape := ⟨1, ![65536]⟩
abbrev S65536x1 : Shape := ⟨2, ![65536, 1]⟩
abbrev S_ : Shape := ⟨0, ![]⟩
abbrev S1 : Shape := ⟨1, ![1]⟩
abbrev S1x1 : Shape := ⟨2, ![1, 1]⟩
abbrev S65536x256 : Shape := ⟨2, ![65536, 256]⟩
abbrev S8192x8x256 : Shape := ⟨3, ![8192, 8, 256]⟩
abbrev S8192x8x1 : Shape := ⟨3, ![8192, 8, 1]⟩
abbrev S8192x256 : Shape := ⟨2, ![8192, 256]⟩

abbrev nBuf : Space → Nat
  | .hbm => 33
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S8192x8, .i32⟩
  | .hbm, ⟨2, _⟩ => ⟨S8192x8, .f32⟩
  | .hbm, ⟨3, _⟩ => ⟨S65536, .i32⟩
  | .hbm, ⟨4, _⟩ => ⟨S65536x1, .i32⟩
  | .hbm, ⟨5, _⟩ => ⟨S_, .i32⟩
  | .hbm, ⟨6, _⟩ => ⟨S65536x1, .i32⟩
  | .hbm, ⟨7, _⟩ => ⟨S65536x1, .i1⟩
  | .hbm, ⟨8, _⟩ => ⟨S_, .i32⟩
  | .hbm, ⟨9, _⟩ => ⟨S65536x1, .i32⟩
  | .hbm, ⟨10, _⟩ => ⟨S65536x1, .i32⟩
  | .hbm, ⟨11, _⟩ => ⟨S65536x1, .i32⟩
  | .hbm, ⟨12, _⟩ => ⟨S1, .i32⟩
  | .hbm, ⟨13, _⟩ => ⟨S_, .i32⟩
  | .hbm, ⟨14, _⟩ => ⟨S65536x1, .i32⟩
  | .hbm, ⟨15, _⟩ => ⟨S65536x1, .i1⟩
  | .hbm, ⟨16, _⟩ => ⟨S1x1, .i32⟩
  | .hbm, ⟨17, _⟩ => ⟨S65536x1, .i32⟩
  | .hbm, ⟨18, _⟩ => ⟨S65536x1, .i1⟩
  | .hbm, ⟨19, _⟩ => ⟨S65536x1, .i1⟩
  | .hbm, ⟨20, _⟩ => ⟨S_, .i1⟩
  | .hbm, ⟨21, _⟩ => ⟨S65536, .i1⟩
  | .hbm, ⟨22, _⟩ => ⟨S65536x256, .f32⟩
  | .hbm, ⟨23, _⟩ => ⟨S65536x256, .i1⟩
  | .hbm, ⟨24, _⟩ => ⟨S_, .f32⟩
  | .hbm, ⟨25, _⟩ => ⟨S65536x256, .f32⟩
  | .hbm, ⟨26, _⟩ => ⟨S65536x256, .f32⟩
  | .hbm, ⟨27, _⟩ => ⟨S8192x8x256, .f32⟩
  | .hbm, ⟨28, _⟩ => ⟨S8192x8x1, .f32⟩
  | .hbm, ⟨29, _⟩ => ⟨S8192x8x256, .f32⟩
  | .hbm, ⟨30, _⟩ => ⟨S8192x8x256, .f32⟩
  | .hbm, ⟨31, _⟩ => ⟨S_, .f32⟩
  | .hbm, ⟨32, _⟩ => ⟨S8192x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩

abbrev nD : Nat := 1
abbrev τ : Topo := Topo.v7x

variable {F : FTy → Type} [FloatOps F]
-- ==== Mlp.lean ====
abbrev S1x8192x3 : Shape := ⟨3, ![1, 8192, 3]⟩
abbrev S1x8192x256 : Shape := ⟨3, ![1, 8192, 256]⟩
abbrev S1x512 : Shape := ⟨2, ![1, 512]⟩
abbrev S256x771 : Shape := ⟨2, ![256, 771]⟩
abbrev S256 : Shape := ⟨1, ![256]⟩
abbrev S256x256 : Shape := ⟨2, ![256, 256]⟩
abbrev S3x256 : Shape := ⟨2, ![3, 256]⟩
abbrev S3 : Shape := ⟨1, ![3]⟩
abbrev S128x771 : Shape := ⟨2, ![128, 771]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S256x3 : Shape := ⟨2, ![256, 3]⟩
abbrev S256x512 : Shape := ⟨2, ![256, 512]⟩
abbrev S512x256 : Shape := ⟨2, ![512, 256]⟩
abbrev S128x3 : Shape := ⟨2, ![128, 3]⟩
abbrev S3x128 : Shape := ⟨2, ![3, 128]⟩
abbrev S128x256 : Shape := ⟨2, ![128, 256]⟩
abbrev S256x128 : Shape := ⟨2, ![256, 128]⟩
abbrev S128x512 : Shape := ⟨2, ![128, 512]⟩
abbrev S512x128 : Shape := ⟨2, ![512, 128]⟩
abbrev S128x64 : Shape := ⟨2, ![128, 64]⟩
abbrev S64x1 : Shape := ⟨2, ![64, 1]⟩
abbrev S1x1x512 : Shape := ⟨3, ![1, 1, 512]⟩
abbrev S1x256 : Shape := ⟨2, ![1, 256]⟩
abbrev S1x3 : Shape := ⟨2, ![1, 3]⟩
abbrev S1x128 : Shape := ⟨2, ![1, 128]⟩
abbrev S1x1 : Shape := ⟨2, ![1, 1]⟩
abbrev S1x8192x1 : Shape := ⟨3, ![1, 8192, 1]⟩
abbrev S1x512x3 : Shape := ⟨3, ![1, 512, 3]⟩
abbrev S1x512x256 : Shape := ⟨3, ![1, 512, 256]⟩
abbrev S1x512x1 : Shape := ⟨3, ![1, 512, 1]⟩
abbrev S512x3 : Shape := ⟨2, ![512, 3]⟩
abbrev S512x64 : Shape := ⟨2, ![512, 64]⟩
abbrev S512x1 : Shape := ⟨2, ![512, 1]⟩

abbrev nBuf : Space → Nat
  | .hbm => 49
  | .vmem => 29
  | .smem => 0
  | _ => 0

abbrev bufTy : (tb : Table) → Fin (tcTables nBuf tb) → BufTy
  | .hbm, ⟨0, _⟩ => ⟨S1x8192x3, .f32⟩
  | .hbm, ⟨1, _⟩ => ⟨S1x8192x256, .f32⟩
  | .hbm, ⟨2, _⟩ => ⟨S1x512, .f32⟩
  | .hbm, ⟨3, _⟩ => ⟨S256x771, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x771, .f32⟩
  | .hbm, ⟨8, _⟩ => ⟨S256, .f32⟩
  | .hbm, ⟨9, _⟩ => ⟨S3x256, .f32⟩
  | .hbm, ⟨10, _⟩ => ⟨S3, .f32⟩
  | .hbm, ⟨11, _⟩ => ⟨S128x771, .f32⟩
  | .hbm, ⟨12, _⟩ => ⟨S128, .f32⟩
  | .hbm, ⟨13, _⟩ => ⟨S64x128, .f32⟩
  | .hbm, ⟨14, _⟩ => ⟨S64, .f32⟩
  | .hbm, ⟨15, _⟩ => ⟨S1x64, .f32⟩
  | .hbm, ⟨16, _⟩ => ⟨S1, .f32⟩
  | .hbm, ⟨17, _⟩ => ⟨S256x3, .f32⟩
  | .hbm, ⟨18, _⟩ => ⟨S3x256, .f32⟩
  | .hbm, ⟨19, _⟩ => ⟨S256x256, .f32⟩
  | .hbm, ⟨20, _⟩ => ⟨S256x256, .f32⟩
  | .hbm, ⟨21, _⟩ => ⟨S256x512, .f32⟩
  | .hbm, ⟨22, _⟩ => ⟨S512x256, .f32⟩
  | .hbm, ⟨23, _⟩ => ⟨S256x3, .f32⟩
  | .hbm, ⟨24, _⟩ => ⟨S3x256, .f32⟩
  | .hbm, ⟨25, _⟩ => ⟨S256x256, .f32⟩
  | .hbm, ⟨26, _⟩ => ⟨S256x256, .f32⟩
  | .hbm, ⟨27, _⟩ => ⟨S256x512, .f32⟩
  | .hbm, ⟨28, _⟩ => ⟨S512x256, .f32⟩
  | .hbm, ⟨29, _⟩ => ⟨S128x3, .f32⟩
  | .hbm, ⟨30, _⟩ => ⟨S3x128, .f32⟩
  | .hbm, ⟨31, _⟩ => ⟨S128x256, .f32⟩
  | .hbm, ⟨32, _⟩ => ⟨S256x128, .f32⟩
  | .hbm, ⟨33, _⟩ => ⟨S128x512, .f32⟩
  | .hbm, ⟨34, _⟩ => ⟨S512x128, .f32⟩
  | .hbm, ⟨35, _⟩ => ⟨S256x256, .f32⟩
  | .hbm, ⟨36, _⟩ => ⟨S256x3, .f32⟩
  | .hbm, ⟨37, _⟩ => ⟨S128x64, .f32⟩
  | .hbm, ⟨38, _⟩ => ⟨S64x1, .f32⟩
  | .hbm, ⟨39, _⟩ => ⟨S1x1x512, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x3, .f32⟩
  | .hbm, ⟨44, _⟩ => ⟨S1x128, .f32⟩
  | .hbm, ⟨45, _⟩ => ⟨S1x64, .f32⟩
  | .hbm, ⟨46, _⟩ => ⟨S1x1, .f32⟩
  | .hbm, ⟨47, _⟩ => ⟨S1x8192x3, .f32⟩
  | .hbm, ⟨48, _⟩ => ⟨S1x8192x1, .f32⟩
  | .local _ .vmem, ⟨0, _⟩ => ⟨S1x512x3, .f32⟩
  | .local _ .vmem, ⟨1, _⟩ => ⟨S1x512x3, .f32⟩
  | .local _ .vmem, ⟨2, _⟩ => ⟨S1x512x256, .f32⟩
  | .local _ .vmem, ⟨3, _⟩ => ⟨S1x512x256, .f32⟩
  | .local _ .vmem, ⟨4, _⟩ => ⟨S1x1x512, .f32⟩
  | .local _ .vmem, ⟨5, _⟩ => ⟨S3x256, .f32⟩
  | .local _ .vmem, ⟨6, _⟩ => ⟨S256x256, .f32⟩
  | .local _ .vmem, ⟨7, _⟩ => ⟨S512x256, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S3x256, .f32⟩
  | .local _ .vmem, ⟨12, _⟩ => ⟨S256x256, .f32⟩
  | .local _ .vmem, ⟨13, _⟩ => ⟨S512x256, .f32⟩
  | .local _ .vmem, ⟨14, _⟩ => ⟨S1x256, .f32⟩
  | .local _ .vmem, ⟨15, _⟩ => ⟨S256x3, .f32⟩
  | .local _ .vmem, ⟨16, _⟩ => ⟨S1x3, .f32⟩
  | .local _ .vmem, ⟨17, _⟩ => ⟨S3x128, .f32⟩
  | .local _ .vmem, ⟨18, _⟩ => ⟨S256x128, .f32⟩
  | .local _ .vmem, ⟨19, _⟩ => ⟨S512x128, .f32⟩
  | .local _ .vmem, ⟨20, _⟩ => ⟨S1x128, .f32⟩
  | .local _ .vmem, ⟨21, _⟩ => ⟨S128x64, .f32⟩
  | .local _ .vmem, ⟨22, _⟩ => ⟨S1x64, .f32⟩
  | .local _ .vmem, ⟨23, _⟩ => ⟨S64x1, .f32⟩
  | .local _ .vmem, ⟨24, _⟩ => ⟨S1x1, .f32⟩
  | .local _ .vmem, ⟨25, _⟩ => ⟨S1x512x3, .f32⟩
  | .local _ .vmem, ⟨26, _⟩ => ⟨S1x512x3, .f32⟩
  | .local _ .vmem, ⟨27, _⟩ => ⟨S1x512x1, .f32⟩
  | .local _ .vmem, ⟨28, _⟩ => ⟨S1x512x1, .f32⟩
  | _, _ => ⟨S1x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg23_1 : Ref sig .tc := ⟨.vmem, 26, rfl⟩
abbrev cc0_stg24_0 : Ref sig .tc := ⟨.vmem, 27, rfl⟩
abbrev cc0_stg24_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem23_1 : DmaSem sig := 26
abbrev cc0_sem24_0 : DmaSem sig := 27
abbrev cc0_sem24_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x3 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x3 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S64x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1x512x3 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x512x1 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== MlpReferenceIdeal.lean ====
abbrev S1x8192x3 : Shape := ⟨3, ![1, 8192, 3]⟩
abbrev S1x8192x256 : Shape := ⟨3, ![1, 8192, 256]⟩
abbrev S1x512 : Shape := ⟨2, ![1, 512]⟩
abbrev S256x771 : Shape := ⟨2, ![256, 771]⟩
abbrev S256 : Shape := ⟨1, ![256]⟩
abbrev S256x256 : Shape := ⟨2, ![256, 256]⟩
abbrev S3x256 : Shape := ⟨2, ![3, 256]⟩
abbrev S3 : Shape := ⟨1, ![3]⟩
abbrev S128x771 : Shape := ⟨2, ![128, 771]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1x512 : Shape := ⟨3, ![1, 1, 512]⟩
abbrev S1x8192x512 : Shape := ⟨3, ![1, 8192, 512]⟩
abbrev S1x8192x771 : Shape := ⟨3, ![1, 8192, 771]⟩
abbrev S771x256 : Shape := ⟨2, ![771, 256]⟩
abbrev S1x1x256 : Shape := ⟨3, ![1, 1, 256]⟩
abbrev S_ : Shape := ⟨0, ![]⟩
abbrev S256x3 : Shape := ⟨2, ![256, 3]⟩
abbrev S1x1x3 : Shape := ⟨3, ![1, 1, 3]⟩
abbrev S771x128 : Shape := ⟨2, ![771, 128]⟩
abbrev S1x8192x128 : Shape := ⟨3, ![1, 8192, 128]⟩
abbrev S1x1x128 : Shape := ⟨3, ![1, 1, 128]⟩
abbrev S128x64 : Shape := ⟨2, ![128, 64]⟩
abbrev S1x8192x64 : Shape := ⟨3, ![1, 8192, 64]⟩
abbrev S1x1x64 : Shape := ⟨3, ![1, 1, 64]⟩
abbrev S64x1 : Shape := ⟨2, ![64, 1]⟩
abbrev S1x8192x1 : Shape := ⟨3, ![1, 8192, 1]⟩
abbrev S1x1x1 : Shape := ⟨3, ![1, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S1x8192x3, .f32⟩
  | .hbm, ⟨1, _⟩ => ⟨S1x8192x256, .f32⟩
  | .hbm, ⟨2, _⟩ => ⟨S1x512, .f32⟩
  | .hbm, ⟨3, _⟩ => ⟨S256x771, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x771, .f32⟩
  | .hbm, ⟨8, _⟩ => ⟨S256, .f32⟩
  | .hbm, ⟨9, _⟩ => ⟨S3x256, .f32⟩
  | .hbm, ⟨10, _⟩ => ⟨S3, .f32⟩
  | .hbm, ⟨11, _⟩ => ⟨S128x771, .f32⟩
  | .hbm, ⟨12, _⟩ => ⟨S128, .f32⟩
  | .hbm, ⟨13, _⟩ => ⟨S64x128, .f32⟩
  | .hbm, ⟨14, _⟩ => ⟨S64, .f32⟩
  | .hbm, ⟨15, _⟩ => ⟨S1x64, .f32⟩
  | .hbm, ⟨16, _⟩ => ⟨S1, .f32⟩
  | .hbm, ⟨17, _⟩ => ⟨S1x1x512, .f32⟩
  | .hbm, ⟨18, _⟩ => ⟨S1x8192x512, .f32⟩
  | .hbm, ⟨19, _⟩ => ⟨S1x8192x771, .f32⟩
  | .hbm, ⟨20, _⟩ => ⟨S771x256, .f32⟩
  | .hbm, ⟨21, _⟩ => ⟨S1x8192x256, .f32⟩
  | .hbm, ⟨22, _⟩ => ⟨S1x1x256, .f32⟩
  | .hbm, ⟨23, _⟩ => ⟨S1x8192x256, .f32⟩
  | .hbm, ⟨24, _⟩ => ⟨S1x8192x256, .f32⟩
  | .hbm, ⟨25, _⟩ => ⟨S_, .f32⟩
  | .hbm, ⟨26, _⟩ => ⟨S1x8192x256, .f32⟩
  | .hbm, ⟨27, _⟩ => ⟨S1x8192x256, .f32⟩
  | .hbm, ⟨28, _⟩ => ⟨S256x256, .f32⟩
  | .hbm, ⟨29, _⟩ => ⟨S1x8192x256, .f32⟩
  | .hbm, ⟨30, _⟩ => ⟨S1x1x256, .f32⟩
  | .hbm, ⟨31, _⟩ => ⟨S1x8192x256, .f32⟩
  | .hbm, ⟨32, _⟩ => ⟨S1x8192x256, .f32⟩
  | .hbm, ⟨33, _⟩ => ⟨S_, .f32⟩
  | .hbm, ⟨34, _⟩ => ⟨S1x8192x256, .f32⟩
  | .hbm, ⟨35, _⟩ => ⟨S1x8192x256, .f32⟩
  | .hbm, ⟨36, _⟩ => ⟨S771x256, .f32⟩
  | .hbm, ⟨37, _⟩ => ⟨S1x8192x256, .f32⟩
  | .hbm, ⟨38, _⟩ => ⟨S1x1x256, .f32⟩
  | .hbm, ⟨39, _⟩ => ⟨S1x8192x256, .f32⟩
  | .hbm, ⟨40, _⟩ => ⟨S1x8192x256, .f32⟩
  | .hbm, ⟨41, _⟩ => ⟨S1x8192x256, .f32⟩
  | .hbm, ⟨42, _⟩ => ⟨S256x3, .f32⟩
  | .hbm, ⟨43, _⟩ => ⟨S1x8192x3, .f32⟩
  | .hbm, ⟨44, _⟩ => ⟨S1x1x3, .f32⟩
  | .hbm, ⟨45, _⟩ => ⟨S1x8192x3, .f32⟩
  | .hbm, ⟨46, _⟩ => ⟨S1x8192x3, .f32⟩
  | .hbm, ⟨47, _⟩ => ⟨S_, .f32⟩
  | .hbm, ⟨48, _⟩ => ⟨S1x8192x3, .f32⟩
  | .hbm, ⟨49, _⟩ => ⟨S1x8192x3, .f32⟩
  | .hbm, ⟨50, _⟩ => ⟨S771x128, .f32⟩
  | .hbm, ⟨51, _⟩ => ⟨S1x8192x128, .f32⟩
  | .hbm, ⟨52, _⟩ => ⟨S1x1x128, .f32⟩
  | .hbm, ⟨53, _⟩ => ⟨S1x8192x128, .f32⟩
  | .hbm, ⟨54, _⟩ => ⟨S1x8192x128, .f32⟩
  | .hbm, ⟨55, _⟩ => ⟨S_, .f32⟩
  | .hbm, ⟨56, _⟩ => ⟨S1x8192x128, .f32⟩
  | .hbm, ⟨57, _⟩ => ⟨S1x8192x128, .f32⟩
  | .hbm, ⟨58, _⟩ => ⟨S128x64, .f32⟩
  | .hbm, ⟨59, _⟩ => ⟨S1x8192x64, .f32⟩
  | .hbm, ⟨60, _⟩ => ⟨S1x1x64, .f32⟩
  | .hbm, ⟨61, _⟩ => ⟨S1x8192x64, .f32⟩
  | .hbm, ⟨62, _⟩ => ⟨S1x8192x64, .f32⟩
  | .hbm, ⟨63, _⟩ => ⟨S_, .f32⟩
  | .hbm, ⟨64, _⟩ => ⟨S1x8192x64, .f32⟩
  | .hbm, ⟨65, _⟩ => ⟨S1x8192x64, .f32⟩
  | .hbm, ⟨66, _⟩ => ⟨S64x1, .f32⟩
  | .hbm, ⟨67, _⟩ => ⟨S1x8192x1, .f32⟩
  | .hbm, ⟨68, _⟩ => ⟨S1x1x1, .f32⟩
  | .hbm, ⟨69, _⟩ => ⟨S1x8192x1, .f32⟩
  | .hbm, ⟨70, _⟩ => ⟨S1x8192x1, .f32⟩
  | .hbm, ⟨71, _⟩ => ⟨S1x8192x1, .f32⟩
  | .hbm, ⟨72, _⟩ => ⟨S1x8192x1, .f32⟩
  | .hbm, ⟨73, _⟩ => ⟨S_, .f32⟩
  | .hbm, ⟨74, _⟩ => ⟨S1x8192x1, .f32⟩
  | .hbm, ⟨75, _⟩ => ⟨S1x8192x1, .f32⟩
  | .hbm, ⟨76, _⟩ => ⟨S_, .f32⟩
  | .hbm, ⟨77, _⟩ => ⟨S1x8192x1, .f32⟩
  | .hbm, ⟨78, _⟩ => ⟨S1x8192x1, .f32⟩
  | _, _ => ⟨S1x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call1_cst : Ref sig .tc := ⟨.hbm, 33, rfl⟩
abbrev main_call1_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_cst : Ref sig .tc := ⟨.hbm, 55, rfl⟩
abbrev main_call2_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call3_cst : Ref sig .tc := ⟨.hbm, 63, rfl⟩
abbrev main_call3_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_0 : Ref sig .tc := ⟨.hbm, 73, rfl⟩
abbrev main_v47 : Ref sig .tc := ⟨.hbm, 74, rfl⟩
abbrev main_v48 : Ref sig .tc := ⟨.hbm, 75, rfl⟩
abbrev main_cst_1 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== Topk.lean ====
abbrev S1x8192x3 : Shape := ⟨3, ![1, 8192, 3]⟩
abbrev S1x4096x3 : Shape := ⟨3, ![1, 4096, 3]⟩
abbrev S1x3x4096 : Shape := ⟨3, ![1, 3, 4096]⟩
abbrev S1x8192x8 : Shape := ⟨3, ![1, 8192, 8]⟩
abbrev S1x256x3 : Shape := ⟨3, ![1, 256, 3]⟩
abbrev S1x256x8 : Shape := ⟨3, ![1, 256, 8]⟩
abbrev S256x3 : Shape := ⟨2, ![256, 3]⟩
abbrev S3x4096 : Shape := ⟨2, ![3, 4096]⟩
abbrev S1x4096 : Shape := ⟨2, ![1, 4096]⟩
abbrev S256x1 : Shape := ⟨2, ![256, 1]⟩
abbrev S256x4096 : Shape := ⟨2, ![256, 4096]⟩
abbrev S256x2048 : Shape := ⟨2, ![256, 2048]⟩
abbrev S256 : Shape := ⟨1, ![256]⟩
abbrev S256x8 : Shape := ⟨2, ![256, 8]⟩

abbrev nBuf : Space → Nat
  | .hbm => 5
  | .vmem => 7
  | .smem => 0
  | _ => 0

abbrev bufTy : (tb : Table) → Fin (tcTables nBuf tb) → BufTy
  | .hbm, ⟨0, _⟩ => ⟨S1x8192x3, .f32⟩
  | .hbm, ⟨1, _⟩ => ⟨S1x4096x3, .f32⟩
  | .hbm, ⟨2, _⟩ => ⟨S1x3x4096, .f32⟩
  | .hbm, ⟨3, _⟩ => ⟨S1x8192x8, .i32⟩
  | .hbm, ⟨4, _⟩ => ⟨S1x8192x8, .f32⟩
  | .local _ .vmem, ⟨0, _⟩ => ⟨S1x256x3, .f32⟩
  | .local _ .vmem, ⟨1, _⟩ => ⟨S1x256x3, .f32⟩
  | .local _ .vmem, ⟨2, _⟩ => ⟨S1x3x4096, .f32⟩
  | .local _ .vmem, ⟨3, _⟩ => ⟨S1x256x8, .i32⟩
  | .local _ .vmem, ⟨4, _⟩ => ⟨S1x256x8, .i32⟩
  | .local _ .vmem, ⟨5, _⟩ => ⟨S1x256x8, .f32⟩
  | .local _ .vmem, ⟨6, _⟩ => ⟨S1x256x8, .f32⟩
  | _, _ => ⟨S1x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== TopkReferenceIdeal.lean ====
abbrev S1x8192x3 : Shape := ⟨3, ![1, 8192, 3]⟩
abbrev S1x4096x3 : Shape := ⟨3, ![1, 4096, 3]⟩
abbrev S_ : Shape := ⟨0, ![]⟩
abbrev S1x4096 : Shape := ⟨2, ![1, 4096]⟩
abbrev S1x8192 : Shape := ⟨2, ![1, 8192]⟩
abbrev S1x8192x1 : Shape := ⟨3, ![1, 8192, 1]⟩
abbrev S1x1x4096 : Shape := ⟨3, ![1, 1, 4096]⟩
abbrev S1x8192x4096 : Shape := ⟨3, ![1, 8192, 4096]⟩
abbrev S1x8192x8 : Shape := ⟨3, ![1, 8192, 8]⟩

abbrev nBuf : Space → Nat
  | .hbm => 37
  | .vmem => 0
  | .smem => 0
  | _ => 0

abbrev bufTy : (tb : Table) → Fin (tcTables nBuf tb) → BufTy
  | .hbm, ⟨0, _⟩ => ⟨S1x8192x3, .f32⟩
  | .hbm, ⟨1, _⟩ => ⟨S1x4096x3, .f32⟩
  | .hbm, ⟨2, _⟩ => ⟨S1x4096x3, .f32⟩
  | .hbm, ⟨3, _⟩ => ⟨S_, .f32⟩
  | .hbm, ⟨4, _⟩ => ⟨S1x4096, .f32⟩
  | .hbm, ⟨5, _⟩ => ⟨S1x8192x3, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S1x1x4096, .f32⟩
  | .hbm, ⟨10, _⟩ => ⟨S1x8192x4096, .f32⟩
  | .hbm, ⟨11, _⟩ => ⟨S1x8192x4096, .f32⟩
  | .hbm, ⟨12, _⟩ => ⟨S1x8192x4096, .f32⟩
  | .hbm, ⟨13, _⟩ => ⟨S1x8192x4096, .f32⟩
  | .hbm, ⟨14, _⟩ => ⟨S_, .f32⟩
  | .hbm, ⟨15, _⟩ => ⟨S1x8192x4096, .f32⟩
  | .hbm, ⟨16, _⟩ => ⟨S1x8192x4096, .f32⟩
  | .hbm, ⟨17, _⟩ => ⟨S1x8192x4096, .f32⟩
  | .hbm, ⟨18, _⟩ => ⟨S_, .f32⟩
  | .hbm, ⟨19, _⟩ => ⟨S1x8192x4096, .f32⟩
  | .hbm, ⟨20, _⟩ => ⟨S1x8192x4096, .f32⟩
  | .hbm, ⟨21, _⟩ => ⟨S1x8192x4096, .f32⟩
  | .hbm, ⟨22, _⟩ => ⟨S1x8192x4096, .f32⟩
  | .hbm, ⟨23, _⟩ => ⟨S1x8192x8, .f32⟩
  | .hbm, ⟨24, _⟩ => ⟨S1x8192x8, .i32⟩
  | .hbm, ⟨25, _⟩ => ⟨S1x8192x8, .f32⟩
  | .hbm, ⟨26, _⟩ => ⟨S_, .f32⟩
  | .hbm, ⟨27, _⟩ => ⟨S1x8192x8, .f32⟩
  | .hbm, ⟨28, _⟩ => ⟨S1x8192x8, .f32⟩
  | .hbm, ⟨29, _⟩ => ⟨S_, .f32⟩
  | .hbm, ⟨30, _⟩ => ⟨S1x8192x8, .f32⟩
  | .hbm, ⟨31, _⟩ => ⟨S1x8192x8, .f32⟩
  | .hbm, ⟨32, _⟩ => ⟨S_, .f32⟩
  | .hbm, ⟨33, _⟩ => ⟨S1x8192, .f32⟩
  | .hbm, ⟨34, _⟩ => ⟨S1x8192x1, .f32⟩
  | .hbm, ⟨35, _⟩ => ⟨S1x8192x8, .f32⟩
  | .hbm, ⟨36, _⟩ => ⟨S1x8192x8, .f32⟩
  | _, _ => ⟨S1x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_values : Ref sig .tc := ⟨.hbm, 23, rfl⟩
abbrev main_indices : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Proof.Body.lean ====
/-
  The gather kernel's task, as a program over its sixteen columns. A pair of query rows is written as two rows of sixteen
  stores each, every store's sixteen lanes the sum over the row's eight neighbours of the neighbour's weight times the
  neighbour's gathered row. The printed body spells the 32 stores and their 256 loads out; here they are one block at a
  symbolic store, run 32 times, and the printed body is that by definitional unfolding (`body0_eq`, `body1_eq`).
-/
module

public import proofs.«01_k».proof.Proof.Gen.KernelIdeal.Skeleton

@[expose] public section

noncomputable section

namespace Cert.Proof.Gather

open Cert.KernelIdeal Cert.KernelIdeal.Gen
open Idealize.ShloMosaic Idealize.SL.Sem

variable {F : FTy → Type} [FloatOps F]

/-- A vector subcore's programs at a grid point. -/
abbrev TP (i : grid0.Coords) : Type → Type 1 :=
  Prog (TpuEff nD τ sig (Elt F) Λ₀ (.scVector ((i 0).castLE hcore0) ((i 1).castLE hsub0)))

/-- Each lane of a vector of sixteen is a part of it. -/
theorem slices_one (n : Fin 16) : S16.Slices ![n.val] S1 := by revert n; decide

/-- Lane `n` of a vector of sixteen weights. -/
def lane (v : FVec F S16 .f32) (n : Fin 16) : F .f32 :=
  extractAt ![0] (extractStridedSlice S1 ![n.val] v (slices_one n)) inpos_S1_p0

/-- Sixteen lanes of a gathered row, times the row's weight. -/
def scaled (v : FVec F S16 .f32) (n : Fin 16) (x : Vec F S1x1x1x16 .f32) : FVec F S16 .f32 :=
  mulf (broadcast S16 (lane v n)) (shapeCast S16 x shapeCasts_S1x1x1x16_S16)

/-- The eight scaled rows, added from the first. -/
def eight (v : FVec F S16 .f32) (n : Fin 8 → Fin 16) (x : Fin 8 → Vec F S1x1x1x16 .f32) : FVec F S16 .f32 :=
  addf (addf (addf (addf (addf (addf (addf (scaled v (n 0) (x 0)) (scaled v (n 1) (x 1))) (scaled v (n 2) (x 2)))
    (scaled v (n 3) (x 3))) (scaled v (n 4) (x 4))) (scaled v (n 5) (x 5))) (scaled v (n 6) (x 6))) (scaled v (n 7) (x 7))

/-- Where column `j` of buffer `b` reads and writes, at trip `q` of a loop of `n` trips and row `h` of the pair: the
    first neighbour's row, the later neighbours', and the output row. -/
structure Col (n : ℕ) (b : Fin 2) (j : Fin 16) where
  first : Fin n → BitVec 32 → Fin 4 → ℕ
  rest : Fin n → BitVec 32 → BitVec 32 → Fin 4 → ℕ
  out : Fin n → BitVec 32 → Fin 2 → ℕ
  first_inb : ∀ (q : Fin n) (h : Fin 2) a, first q (BitVec.ofNat 32 h.val) a + S1x1x1x16.size a ≤ S2x128x2x128.size a
  rest_inb : ∀ (q : Fin n) (h : Fin 2) (k : Fin 7) a,
    rest q (BitVec.ofNat 32 h.val) (BitVec.ofNat 32 (1 + k.val)) a + S1x1x1x16.size a ≤ S2x128x2x128.size a
  out_inb : ∀ (q : Fin n) (h : Fin 2) a, out q (BitVec.ofNat 32 h.val) a + S1x16.size a ≤ S16x256.size a
  first_eq : ∀ (q : Fin n) (h : Fin 2), first q (BitVec.ofNat 32 h.val)
    = ![b.val, 16 * q.val + 8 * h.val, j.val / 8, 16 * (j.val % 8)]
  rest_eq : ∀ (q : Fin n) (h : Fin 2) (k : Fin 7), rest q (BitVec.ofNat 32 h.val) (BitVec.ofNat 32 (1 + k.val))
    = ![b.val, 16 * q.val + 8 * h.val + k.val + 1, j.val / 8, 16 * (j.val % 8)]
  out_eq : ∀ (q : Fin n) (h : Fin 2), out q (BitVec.ofNat 32 h.val) = ![2 * q.val + h.val, 16 * j.val]

section Block

variable {n : ℕ} {b : Fin 2} {j : Fin 16} (C : Col n b j) (i : grid0.Coords)
  (arg8 : Memref sig .scVector .vmem S2x128x2x128 .f32) (arg9 : Memref sig .scVector .vmem S16x256 .f32)

/-- The load of the first neighbour's lanes. -/
def ldFirst (q : Fin n) (h : Fin 2) : TP (F := F) i (Vec F S1x1x1x16 .f32) :=
  Prog.lift (.load arg8 (Rect.unit (s := S2x128x2x128) (C.first q (BitVec.ofNat 32 h.val)) S1x1x1x16.size (C.first_inb q h)).toLoadRect
    (View.loadsAt_vmem h_S1x1x1x16))

/-- The load of neighbour `k + 1`'s lanes. -/
def ldRest (q : Fin n) (h : Fin 2) (k : Fin 7) : TP (F := F) i (Vec F S1x1x1x16 .f32) :=
  Prog.lift (.load arg8 (Rect.unit (s := S2x128x2x128) (C.rest q (BitVec.ofNat 32 h.val) (BitVec.ofNat 32 (1 + k.val))) S1x1x1x16.size
    (C.rest_inb q h k)).toLoadRect (View.loadsAt_vmem h_S1x1x1x16))

/-- A pair's sixteen weights are eight of each half. -/
theorem lane_lt (h : Fin 2) (k : Fin 8) : 8 * h.val + k.val < 16 := by omega

/-- One store of sixteen lanes: eight loads of gathered lanes, the load the store replaces, the store. -/
def block (q : Fin n) (h : Fin 2) (v : FVec F S16 .f32) : TP (F := F) i PUnit := do
  let x0 ← ldFirst C i arg8 q h
  let x1 ← ldRest C i arg8 q h 0
  let x2 ← ldRest C i arg8 q h 1
  let x3 ← ldRest C i arg8 q h 2
  let x4 ← ldRest C i arg8 q h 3
  let x5 ← ldRest C i arg8 q h 4
  let x6 ← ldRest C i arg8 q h 5
  let x7 ← ldRest C i arg8 q h 6
  let _ : Vec F S1x16 .f32 ← Prog.lift (.load arg9 (Rect.unit (s := S16x256) (C.out q (BitVec.ofNat 32 h.val)) S1x16.size (C.out_inb q h)).toLoadRect
    (View.loadsAt_vmem h_S1x16))
  Prog.lift (.store arg9 (Rect.unit (s := S16x256) (C.out q (BitVec.ofNat 32 h.val)) S1x16.size (C.out_inb q h))
    (shapeCast S1x16 (eight v (fun k => ⟨8 * h.val + k.val, lane_lt h k⟩) ![x0, x1, x2, x3, x4, x5, x6, x7]) shapeCasts_S16_S1x16)
    Finset.univ (View.stores_vmem_bits_univ h_S1x16 rfl) (.inl rfl))

end Block

section Pair

variable {n : ℕ} {b : Fin 2} (C : (j : Fin 16) → Col n b j) (i : grid0.Coords)
  (arg7 : Memref sig .scVector .vmem S2x128 .f32)
  (arg8 : Memref sig .scVector .vmem S2x128x2x128 .f32) (arg9 : Memref sig .scVector .vmem S16x256 .f32)

/-- The last `k` of the pair's 32 stores: store `s` is column `s % 16` of row `s / 16`. -/
def stores (q : Fin n) (v : FVec F S16 .f32) : (k : ℕ) → k ≤ 32 → TP (F := F) i (BitVec 32)
  | 0, _ => pure 0#32
  | k + 1, hk => do
    block (C ⟨(31 - k) % 16, by omega⟩) i arg8 arg9 q ⟨(31 - k) / 16, by omega⟩ v
    stores q v k (by omega)

/-- Trip `q` of the loop over a chunk's pairs: the pair's sixteen weights loaded, the 32 stores. -/
def pair (woff : Fin n → Fin 2 → ℕ) (win : ∀ q a, woff q a + S1x16.size a ≤ S2x128.size a) (q : Fin n) : TP (F := F) i (BitVec 32) := do
  let w : Vec F S1x16 .f32 ← Prog.lift (.load arg7 (Rect.unit (s := S2x128) (woff q) S1x16.size (win q)).toLoadRect (View.loadsAt_vmem h_S1x16))
  stores C i arg8 arg9 q (shapeCast S16 w shapeCasts_S1x16_S16) 32 le_rfl

end Pair

/-- The columns of buffer 0. -/
def cols0 : (j : Fin 16) → Col k0_t2_loop.trips 0 j
  | 0 => ⟨k0_off3, k0_off4, k0_off5, k0_off3_inb, k0_off4_inb, k0_off5_inb, k0_off3_eq, k0_off4_eq, k0_off5_eq⟩
  | 1 => ⟨k0_off6, k0_off7, k0_off8, k0_off6_inb, k0_off7_inb, k0_off8_inb, k0_off6_eq, k0_off7_eq, k0_off8_eq⟩
  | 2 => ⟨k0_off9, k0_off10, k0_off11, k0_off9_inb, k0_off10_inb, k0_off11_inb, k0_off9_eq, k0_off10_eq, k0_off11_eq⟩
  | 3 => ⟨k0_off12, k0_off13, k0_off14, k0_off12_inb, k0_off13_inb, k0_off14_inb, k0_off12_eq, k0_off13_eq, k0_off14_eq⟩
  | 4 => ⟨k0_off15, k0_off16, k0_off17, k0_off15_inb, k0_off16_inb, k0_off17_inb, k0_off15_eq, k0_off16_eq, k0_off17_eq⟩
  | 5 => ⟨k0_off18, k0_off19, k0_off20, k0_off18_inb, k0_off19_inb, k0_off20_inb, k0_off18_eq, k0_off19_eq, k0_off20_eq⟩
  | 6 => ⟨k0_off21, k0_off22, k0_off23, k0_off21_inb, k0_off22_inb, k0_off23_inb, k0_off21_eq, k0_off22_eq, k0_off23_eq⟩
  | 7 => ⟨k0_off24, k0_off25, k0_off26, k0_off24_inb, k0_off25_inb, k0_off26_inb, k0_off24_eq, k0_off25_eq, k0_off26_eq⟩
  | 8 => ⟨k0_off27, k0_off28, k0_off29, k0_off27_inb, k0_off28_inb, k0_off29_inb, k0_off27_eq, k0_off28_eq, k0_off29_eq⟩
  | 9 => ⟨k0_off30, k0_off31, k0_off32, k0_off30_inb, k0_off31_inb, k0_off32_inb, k0_off30_eq, k0_off31_eq, k0_off32_eq⟩
  | 10 => ⟨k0_off33, k0_off34, k0_off35, k0_off33_inb, k0_off34_inb, k0_off35_inb, k0_off33_eq, k0_off34_eq, k0_off35_eq⟩
  | 11 => ⟨k0_off36, k0_off37, k0_off38, k0_off36_inb, k0_off37_inb, k0_off38_inb, k0_off36_eq, k0_off37_eq, k0_off38_eq⟩
  | 12 => ⟨k0_off39, k0_off40, k0_off41, k0_off39_inb, k0_off40_inb, k0_off41_inb, k0_off39_eq, k0_off40_eq, k0_off41_eq⟩
  | 13 => ⟨k0_off42, k0_off43, k0_off44, k0_off42_inb, k0_off43_inb, k0_off44_inb, k0_off42_eq, k0_off43_eq, k0_off44_eq⟩
  | 14 => ⟨k0_off45, k0_off46, k0_off47, k0_off45_inb, k0_off46_inb, k0_off47_inb, k0_off45_eq, k0_off46_eq, k0_off47_eq⟩
  | 15 => ⟨k0_off48, k0_off49, k0_off50, k0_off48_inb, k0_off49_inb, k0_off50_inb, k0_off48_eq, k0_off49_eq, k0_off50_eq⟩
  | ⟨_ + 16, h⟩ => absurd h (by omega)

/-- The columns of buffer 1. -/
def cols1 : (j : Fin 16) → Col k0_t3_loop.trips 1 j
  | 0 => ⟨k0_off54, k0_off55, k0_off56, k0_off54_inb, k0_off55_inb, k0_off56_inb, k0_off54_eq, k0_off55_eq, k0_off56_eq⟩
  | 1 => ⟨k0_off57, k0_off58, k0_off59, k0_off57_inb, k0_off58_inb, k0_off59_inb, k0_off57_eq, k0_off58_eq, k0_off59_eq⟩
  | 2 => ⟨k0_off60, k0_off61, k0_off62, k0_off60_inb, k0_off61_inb, k0_off62_inb, k0_off60_eq, k0_off61_eq, k0_off62_eq⟩
  | 3 => ⟨k0_off63, k0_off64, k0_off65, k0_off63_inb, k0_off64_inb, k0_off65_inb, k0_off63_eq, k0_off64_eq, k0_off65_eq⟩
  | 4 => ⟨k0_off66, k0_off67, k0_off68, k0_off66_inb, k0_off67_inb, k0_off68_inb, k0_off66_eq, k0_off67_eq, k0_off68_eq⟩
  | 5 => ⟨k0_off69, k0_off70, k0_off71, k0_off69_inb, k0_off70_inb, k0_off71_inb, k0_off69_eq, k0_off70_eq, k0_off71_eq⟩
  | 6 => ⟨k0_off72, k0_off73, k0_off74, k0_off72_inb, k0_off73_inb, k0_off74_inb, k0_off72_eq, k0_off73_eq, k0_off74_eq⟩
  | 7 => ⟨k0_off75, k0_off76, k0_off77, k0_off75_inb, k0_off76_inb, k0_off77_inb, k0_off75_eq, k0_off76_eq, k0_off77_eq⟩
  | 8 => ⟨k0_off78, k0_off79, k0_off80, k0_off78_inb, k0_off79_inb, k0_off80_inb, k0_off78_eq, k0_off79_eq, k0_off80_eq⟩
  | 9 => ⟨k0_off81, k0_off82, k0_off83, k0_off81_inb, k0_off82_inb, k0_off83_inb, k0_off81_eq, k0_off82_eq, k0_off83_eq⟩
  | 10 => ⟨k0_off84, k0_off85, k0_off86, k0_off84_inb, k0_off85_inb, k0_off86_inb, k0_off84_eq, k0_off85_eq, k0_off86_eq⟩
  | 11 => ⟨k0_off87, k0_off88, k0_off89, k0_off87_inb, k0_off88_inb, k0_off89_inb, k0_off87_eq, k0_off88_eq, k0_off89_eq⟩
  | 12 => ⟨k0_off90, k0_off91, k0_off92, k0_off90_inb, k0_off91_inb, k0_off92_inb, k0_off90_eq, k0_off91_eq, k0_off92_eq⟩
  | 13 => ⟨k0_off93, k0_off94, k0_off95, k0_off93_inb, k0_off94_inb, k0_off95_inb, k0_off93_eq, k0_off94_eq, k0_off95_eq⟩
  | 14 => ⟨k0_off96, k0_off97, k0_off98, k0_off96_inb, k0_off97_inb, k0_off98_inb, k0_off96_eq, k0_off97_eq, k0_off98_eq⟩
  | 15 => ⟨k0_off99, k0_off100, k0_off101, k0_off99_inb, k0_off100_inb, k0_off101_inb, k0_off99_eq, k0_off100_eq, k0_off101_eq⟩
  | ⟨_ + 16, h⟩ => absurd h (by omega)

set_option maxRecDepth 65536 in
/-- The printed trip over buffer 0 is the pair's program over buffer 0's columns. -/
theorem body0_eq (i : grid0.Coords) (arg2 : Memref sig .scVector .hbm S4096x2x128 .f32) (harg2 : arg2.IsWhole) (arg3 : Memref sig .scVector .hbm S65536 .i32) (harg3 : arg3.IsWhole) (arg4 : Memref sig .scVector .hbm S65536 .f32) (harg4 : arg4.IsWhole) (arg5 : Memref sig .scVector .hbm S8192x256 .f32) (harg5 : arg5.IsWhole) (arg6 : Memref sig .scVector .vmem S2x128 .i32) (harg6 : arg6.IsWhole) (arg7 : Memref sig .scVector .vmem S2x128 .f32) (harg7 : arg7.IsWhole) (arg8 : Memref sig .scVector .vmem S2x128x2x128 .f32) (harg8 : arg8.IsWhole) (arg9 : Memref sig .scVector .vmem S16x256 .f32) (harg9 : arg9.IsWhole) (a b c d e f g h k l o p : DmaSems sig S_) (x y z : BitVec 32) (t : Fin k0_t1_loop.trips) (q : Fin k0_t2_loop.trips) (s : BitVec 32) :
    k0_t2_body (F := F) i arg2 harg2 arg3 harg3 arg4 harg4 arg5 harg5 arg6 harg6 arg7 harg7 arg8 harg8 arg9 harg9 a b c d e f g h k l o p x y z t q s
      = pair cols0 i arg7 arg8 arg9 k0_off2 k0_off2_inb q := rfl

set_option maxRecDepth 65536 in
/-- The printed trip over buffer 1 is the pair's program over buffer 1's columns. -/
theorem body1_eq (i : grid0.Coords) (arg2 : Memref sig .scVector .hbm S4096x2x128 .f32) (harg2 : arg2.IsWhole) (arg3 : Memref sig .scVector .hbm S65536 .i32) (harg3 : arg3.IsWhole) (arg4 : Memref sig .scVector .hbm S65536 .f32) (harg4 : arg4.IsWhole) (arg5 : Memref sig .scVector .hbm S8192x256 .f32) (harg5 : arg5.IsWhole) (arg6 : Memref sig .scVector .vmem S2x128 .i32) (harg6 : arg6.IsWhole) (arg7 : Memref sig .scVector .vmem S2x128 .f32) (harg7 : arg7.IsWhole) (arg8 : Memref sig .scVector .vmem S2x128x2x128 .f32) (harg8 : arg8.IsWhole) (arg9 : Memref sig .scVector .vmem S16x256 .f32) (harg9 : arg9.IsWhole) (a b c d e f g h k l o p : DmaSems sig S_) (q : Fin k0_t3_loop.trips) (s : BitVec 32) :
    k0_t3_body (F := F) i arg2 harg2 arg3 harg3 arg4 harg4 arg5 harg5 arg6 harg6 arg7 harg7 arg8 harg8 arg9 harg9 a b c d e f g h k l o p q s
      = pair cols1 i arg7 arg8 arg9 k0_off53 k0_off53_inb q := rfl

end Cert.Proof.Gather
-- ==== Proof.Task.lean ====
/-
  The gather kernel's task at its own buffers, with the two halves of a trip written once for a symbolic buffer `b`: wait
  for the gathered rows of buffer `b`, run the chunk's pairs, ship the sixteen output rows, and (unless this is the last
  trip) fetch the lists of the chunk after next and start its gather. The printed task is this one by definitional
  unfolding (`trip_eq`, `task_eq`).
-/
module

public import proofs.«01_k».proof.Proof.Body

@[expose] public section

noncomputable section

namespace Cert.Proof.Gather

open Cert.KernelIdeal Cert.KernelIdeal.Gen
open Idealize.ShloMosaic Idealize.SL.Sem

variable {F : FTy → Type} [FloatOps F]

/-! ## The buffers -/

/-- The table, as rows of two 128-word halves. -/
abbrev pV : Memref sig .scVector .hbm S4096x2x128 .f32 := Memref.whole main_v2_scv
/-- The flat list of neighbours. -/
abbrev iV : Memref sig .scVector .hbm S65536 .i32 := Memref.whole main_v0_scv
/-- The flat list of weights. -/
abbrev wV : Memref sig .scVector .hbm S65536 .f32 := Memref.whole main_v1_scv
/-- The output. -/
abbrev oV : Memref sig .scVector .hbm S8192x256 .f32 := Memref.whole main_v3_scv
/-- A tile's two chunks of neighbours, -/
abbrev jV : Memref sig .scVector .vmem S2x128 .i32 := Memref.whole cc0_scratch0
/-- their weights, -/
abbrev uV : Memref sig .scVector .vmem S2x128 .f32 := Memref.whole cc0_scratch1
/-- their gathered rows, -/
abbrev rV : Memref sig .scVector .vmem S2x128x2x128 .f32 := Memref.whole cc0_scratch2
/-- and the sixteen output rows in the making. -/
abbrev aV : Memref sig .scVector .vmem S16x256 .f32 := Memref.whole cc0_scratch3

/-- Row `b` lies in a buffer of two rows, -/
theorem row_inb : ∀ (b : Fin 2) a, (![b.val, 0] : Fin 2 → ℕ) a + S1x128.size a ≤ S2x128.size a := by decide
/-- and block `b` in a buffer of two blocks. -/
theorem rows_inb : ∀ (b : Fin 2) a, (![b.val, 0, 0, 0] : Fin 4 → ℕ) a + S1x128x2x128.size a ≤ S2x128x2x128.size a := by decide

/-- Chunk `b`'s neighbours, -/
abbrev jRow (J : Memref sig .scVector .vmem S2x128 .i32) (b : Fin 2) : Memref sig .scVector .vmem S128 .i32 :=
  ((J).slice (Rect.unit (s := S2x128) ![b.val, 0] S1x128.size (row_inb b)) (fun _ => rfl)).squeeze S128 squeezes_S1x128_S128
/-- weights, -/
abbrev uRow (U : Memref sig .scVector .vmem S2x128 .f32) (b : Fin 2) : Memref sig .scVector .vmem S128 .f32 :=
  ((U).slice (Rect.unit (s := S2x128) ![b.val, 0] S1x128.size (row_inb b)) (fun _ => rfl)).squeeze S128 squeezes_S1x128_S128
/-- and gathered rows. -/
abbrev rRow (R : Memref sig .scVector .vmem S2x128x2x128 .f32) (b : Fin 2) : Memref sig .scVector .vmem S128x2x128 .f32 :=
  ((R).slice (Rect.unit (s := S2x128x2x128) ![b.val, 0, 0, 0] S1x128x2x128.size (rows_inb b)) (fun _ => rfl)).squeeze
    S128x2x128 squeezes_S1x128x2x128_S128x2x128
/-- All of the table, as the gather addresses it. -/
abbrev pAll (P : Memref sig .scVector .hbm S4096x2x128 .f32) : Memref sig .scVector .hbm S4096x2x128 .f32 :=
  (P).slice (Rect.unit (s := S4096x2x128) ![0, 0, 0] S4096x2x128.size inb_S4096x2x128_S4096x2x128_0_0_0) (fun _ => rfl)
/-- 128 words of a flat list, from `off`: of the neighbours, -/
abbrev iCut (I : Memref sig .scVector .hbm S65536 .i32) (off : Fin 1 → ℕ) (inb : ∀ a, off a + S128.size a ≤ S65536.size a) : Memref sig .scVector .hbm S128 .i32 :=
  (I).slice (Rect.unit (s := S65536) off S128.size inb) (fun _ => rfl)
/-- of the weights. -/
abbrev wCut (W : Memref sig .scVector .hbm S65536 .f32) (off : Fin 1 → ℕ) (inb : ∀ a, off a + S128.size a ≤ S65536.size a) : Memref sig .scVector .hbm S128 .f32 :=
  (W).slice (Rect.unit (s := S65536) off S128.size inb) (fun _ => rfl)
/-- Sixteen output rows, from `off`. -/
abbrev oCut (O : Memref sig .scVector .hbm S8192x256 .f32) (off : Fin 2 → ℕ) (inb : ∀ a, off a + S16x256.size a ≤ S8192x256.size a) : Memref sig .scVector .hbm S16x256 .f32 :=
  (O).slice (Rect.unit (s := S8192x256) off S16x256.size inb) (fun _ => rfl)

/-! ## The pieces of a task -/

section Pieces

variable (i : grid0.Coords) (P : Memref sig .scVector .hbm S4096x2x128 .f32) (I : Memref sig .scVector .hbm S65536 .i32)
  (W : Memref sig .scVector .hbm S65536 .f32) (O : Memref sig .scVector .hbm S8192x256 .f32) (J : Memref sig .scVector .vmem S2x128 .i32)
  (U : Memref sig .scVector .vmem S2x128 .f32) (R : Memref sig .scVector .vmem S2x128x2x128 .f32) (A : Memref sig .scVector .vmem S16x256 .f32)
  (hA : A.IsWhole)

/-- The neighbours of a chunk copied in, and waited for. -/
def fetchJ (b : Fin 2) (off : Fin 1 → ℕ) (inb : ∀ a, off a + S128.size a ≤ S65536.size a) (s : DmaSems sig S_) : TP (F := F) i PUnit := do
  Prog.lift (.enqueueDma (iCut I off inb) (.here (jRow J b)) (.dma s.sem) (View.wordExact_bits rfl) ((View.wordExact_bits rfl).reshape _ _) ⟨Or.inl rfl, trivial⟩)
  Prog.lift (.waitDma2 s.sem (iCut I off inb) (jRow J b) (View.wordExact_bits rfl) ((View.wordExact_bits rfl).reshape _ _))

/-- The weights of a chunk copied in, and waited for. -/
def fetchU (b : Fin 2) (off : Fin 1 → ℕ) (inb : ∀ a, off a + S128.size a ≤ S65536.size a) (s : DmaSems sig S_) : TP (F := F) i PUnit := do
  Prog.lift (.enqueueDma (wCut W off inb) (.here (uRow U b)) (.dma s.sem) (View.wordExact_bits rfl) ((View.wordExact_bits rfl).reshape _ _) ⟨Or.inl rfl, trivial⟩)
  Prog.lift (.waitDma2 s.sem (wCut W off inb) (uRow U b) (View.wordExact_bits rfl) ((View.wordExact_bits rfl).reshape _ _))

/-- The gather of a chunk's rows started, -/
def gather (b : Fin 2) (g : DmaSems sig S_) : TP (F := F) i PUnit :=
  SparseCore.enqueueIndirectGather rfl (pAll P) (rRow R b) gathers_S4096x2x128_S128x2x128 (jRow J b) rfl g.sem (View.wordExact_bits rfl) rfl (Or.inl rfl)

/-- and waited for. -/
def arrive (b : Fin 2) (g : DmaSems sig S_) : TP (F := F) i PUnit :=
  SparseCore.waitIndirectGather g.sem (pAll P) (rRow R b) (View.wordExact_bits rfl) ((View.wordExact_bits rfl).reshape _ _)

/-- A chunk begun: its lists fetched, its gather started. -/
def begin (b : Fin 2) (off : Fin 1 → ℕ) (inb : ∀ a, off a + S128.size a ≤ S65536.size a) (s₁ s₂ g : DmaSems sig S_) : TP (F := F) i PUnit := do
  fetchJ i I J b off inb s₁
  fetchU i W U b off inb s₂
  gather i P J R b g

/-- Sixteen output rows shipped, and waited for. -/
def ship (off : Fin 2 → ℕ) (inb : ∀ a, off a + S16x256.size a ≤ S8192x256.size a) (s : DmaSems sig S_) : TP (F := F) i PUnit := do
  Prog.lift (.enqueueDma A (.here (oCut O off inb)) (.dma s.sem) hA.wordExact (View.wordExact_bits rfl) ⟨Or.inl rfl, trivial⟩)
  Prog.lift (.waitDma2 s.sem A (oCut O off inb) hA.wordExact (View.wordExact_bits rfl))

/-- The chunk after next begun, unless there is none; the value passed on. -/
def refill (b : Fin 2) (cond : BitVec 1) (off : Fin 1 → ℕ) (inb : cond = 1#1 → ∀ a, off a + S128.size a ≤ S65536.size a)
    (s₁ s₂ g : DmaSems sig S_) (v : BitVec 32) : TP (F := F) i (BitVec 32) :=
  if h : cond = 1#1 then do
    begin i P I W J U R b off (inb h) s₁ s₂ g
    pure v
  else
    pure v

/-- A chunk's eight pairs. -/
def pairs (l : Scf.Loop 32) (ok : l.OK) {b : Fin 2} (C : (j : Fin 16) → Col l.trips b j) (woff : Fin l.trips → Fin 2 → ℕ)
    (win : ∀ q a, woff q a + S1x16.size a ≤ S2x128.size a) : TP (F := F) i (BitVec 32) :=
  Scf.Loop.for l ok 0#32 fun q _ => pair C i U R A woff win q

/-- The semaphores a half of a trip uses: its gather's, its output's, its two lists'. -/
structure Sems where
  g : DmaSems sig S_
  o : DmaSems sig S_
  s₁ : DmaSems sig S_
  s₂ : DmaSems sig S_

/-- One half of a trip, on buffer `b`. -/
def half (l : Scf.Loop 32) (ok : l.OK) {b : Fin 2} (C : (j : Fin 16) → Col l.trips b j) (woff : Fin l.trips → Fin 2 → ℕ)
    (win : ∀ q a, woff q a + S1x16.size a ≤ S2x128.size a) (oOff : Fin 2 → ℕ) (oInb : ∀ a, oOff a + S16x256.size a ≤ S8192x256.size a)
    (cond : BitVec 1) (off : Fin 1 → ℕ) (inb : cond = 1#1 → ∀ a, off a + S128.size a ≤ S65536.size a) (s : Sems) (v : BitVec 32) :
    TP (F := F) i (BitVec 32) := do
  arrive i P R b s.g
  let _ ← pairs i U R A l ok C woff win
  ship i O A hA oOff oInb s.o
  refill i P I W J U R b cond off inb s.s₁ s.s₂ s.g v

/-- The semaphores of the half on buffer 0, -/
abbrev sems0 : Sems := ⟨cc0_scratch4, cc0_scoped4, cc0_scoped5, cc0_scoped6⟩
/-- and of the half on buffer 1. -/
abbrev sems1 : Sems := ⟨cc0_scratch5, cc0_scoped7, cc0_scoped8, cc0_scoped9⟩

/-- A trip's first half, -/
def half0 (t : Fin k0_t1_loop.trips) (v : BitVec 32) : TP (F := F) i (BitVec 32) :=
  half i P I W O J U R A hA k0_t2_loop k0_t2_ok cols0 k0_off2 k0_off2_inb (k0_off51 i t 0#32) (k0_off51_inb i t 0) (k0_cond1 t) (k0_off52 i t) (k0_off52_inb i t) sems0 v
/-- and its second. -/
def half1 (t : Fin k0_t1_loop.trips) (v : BitVec 32) : TP (F := F) i (BitVec 32) :=
  half i P I W O J U R A hA k0_t3_loop k0_t3_ok cols1 k0_off53 k0_off53_inb (k0_off51 i t 1#32) (k0_off51_inb i t 1) (k0_cond2 t) (k0_off102 i t) (k0_off102_inb i t) sems1 v

/-- A trip of the outer loop: a half on each buffer. -/
def trip (t : Fin k0_t1_loop.trips) : TP (F := F) i (BitVec 32) := do
  let _ ← half0 i P I W O J U R A hA t (Scalar.addi (Scalar.muli (Scf.iv 0#32 1#32 t) 2#32) 1#32)
  half1 i P I W O J U R A hA t 0#32

/-- The task: two chunks begun, then eight trips. -/
def task : TP (F := F) i PUnit := do
  begin i P I W J U R 0 (k0_off1 i 0#32) (k0_off1_inb i 0) cc0_scoped0 cc0_scoped1 cc0_scratch4
  begin i P I W J U R 1 (k0_off1 i 16#32) (k0_off1_inb i 1) cc0_scoped2 cc0_scoped3 cc0_scratch5
  let _ ← Scf.Loop.for k0_t1_loop k0_t1_ok 0#32 fun t _ => trip i P I W O J U R A hA t
  pure ⟨⟩

variable (hP : P.IsWhole) (hI : I.IsWhole) (hW : W.IsWhole) (hO : O.IsWhole) (hJ : J.IsWhole) (hU : U.IsWhole) (hR : R.IsWhole)

set_option maxRecDepth 65536 in
/-- The printed trip is `trip`. -/
theorem trip_eq (t : Fin k0_t1_loop.trips) (v2 a : BitVec 32) :
    k0_t1_body (F := F) i P hP I hI W hW O hO J hJ U hU R hR A hA cc0_scratch4 cc0_scratch5
        cc0_scoped0 cc0_scoped1 cc0_scoped2 cc0_scoped3 cc0_scoped4 cc0_scoped5 cc0_scoped6 cc0_scoped7 cc0_scoped8 cc0_scoped9 v2 t a
      = trip i P I W O J U R A hA t := by
  unfold k0_t1_body
  rw [k0_part153_eq_skeleton, k0_part152_eq_skeleton]
  unfold k0_part153_skel
  rw [k0_part76_eq_skeleton]
  rw [show k0_t2_body (F := F) i P hP I hI W hW O hO J hJ U hU R hR A hA cc0_scratch4 cc0_scratch5
        cc0_scoped0 cc0_scoped1 cc0_scoped2 cc0_scoped3 cc0_scoped4 cc0_scoped5 cc0_scoped6 cc0_scoped7 cc0_scoped8 cc0_scoped9 v2 0#32 1#32 t
    = fun q _ => pair cols0 i U R A k0_off2 k0_off2_inb q from funext fun q => funext fun s => body0_eq i _ _ _ _ _ _ _ _ _ _ _ _ _ _ _ _ _ _ _ _ _ _ _ _ _ _ _ _ _ _ _ _ _ _]
  rw [show k0_t3_body (F := F) i P hP I hI W hW O hO J hJ U hU R hR A hA cc0_scratch4 cc0_scratch5
        cc0_scoped0 cc0_scoped1 cc0_scoped2 cc0_scoped3 cc0_scoped4 cc0_scoped5 cc0_scoped6 cc0_scoped7 cc0_scoped8 cc0_scoped9
    = fun q _ => pair cols1 i U R A k0_off53 k0_off53_inb q from funext fun q => funext fun s => body1_eq i _ _ _ _ _ _ _ _ _ _ _ _ _ _ _ _ _ _ _ _ _ _ _ _ _ _ _ _ _ _]
  rfl

set_option maxRecDepth 65536 in
/-- The printed task i P I W O J U R A hAs `task`. -/
theorem task_eq :
    cc0_k (F := F) i P hP I hI W hW O hO J hJ U hU R hR A hA cc0_scratch4 cc0_scratch5
        cc0_scoped0 cc0_scoped1 cc0_scoped2 cc0_scoped3 cc0_scoped4 cc0_scoped5 cc0_scoped6 cc0_scoped7 cc0_scoped8 cc0_scoped9
      = task i P I W O J U R A hA := by
  rw [cc0_k_eq_skeleton]
  unfold cc0_k_skel
  rw [k0_part154_eq_skeleton, k0_part155_eq_skeleton]
  rw [show k0_t1_body (F := F) i P hP I hI W hW O hO J hJ U hU R hR A hA cc0_scratch4 cc0_scratch5
        cc0_scoped0 cc0_scoped1 cc0_scoped2 cc0_scoped3 cc0_scoped4 cc0_scoped5 cc0_scoped6 cc0_scoped7 cc0_scoped8 cc0_scoped9
    = fun _ t _ => trip i P I W O J U R A hA t from funext fun v => funext fun t => funext fun a => trip_eq i P I W O J U R A hA hP hI hW hO hJ hU hR t v a]
  rfl

end Pieces

end Cert.Proof.Gather
-- ==== Proof.Base.lean ====
/-
  The gather kernel's program as the launch theorem sees it, the tile's thread, and single accesses of the tile's buffers:
  a load of a whole buffer read at an index, and which rows of a buffer an access touches.
-/
module

public import proofs.«01_k».proof.Defs
public import proofs.«01_k».proof.Proof.Task
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.ValueKit.Geometry
public import Idealize.ShloMosaic.Lib.Pipeline.Value
public import Idealize.ShloMosaic.Lib.ValueIdxCore
public import Idealize.ShloMosaic.Lib.ShareLeaves
public import Idealize.ShloMosaic.Lib.Tactic

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

/-- The procedures that the launch knows. -/
abbrev ΛP : Labels := Pipeline.Sig Λ₀ (Fin 0) fun p => (pcfgs (F := F) p).Adm
/-- The SparseCore call. -/
abbrev K : SparseCore.Cfg τ sig (ΛP (F := F)) 1 := sc (F := F)
/-- The procedures' bodies. -/
abbrev D [FloatOps F] : Defs nD τ sig (Elt F) (ΛP (F := F)) := Pipeline.defs pcfgs defs₀
/-- No loop of the host needs a bound, -/
abbrev 𝒱₀ : Variants := Variants.none
/-- nor does any of the call, -/
abbrev 𝒱 : Variants := 𝒱₀.lift
/-- so none is given. -/
abbrev v₀ : 𝒱.V := Sum.inl none

/-- The ghost state of the handshakes, -/
abbrev UH : Type := URounds (GSem nD τ sig) ℕ
/-- with that of the copies' counters. -/
abbrev UU : Type := UH × Counters

local notation "𝕄" => MT nD τ sig (HIx 1) (Elt F) ℕ UU ℕ

/-- Where the handshakes' state lies in the whole. -/
abbrev EH : Emb UH (MT nD τ sig (HIx 1) (Elt F) ℕ UU ℕ) := embL

/-! ## A tile -/

/-- The SparseCore of a grid point, -/
abbrev coreOf (L : grid0.Coords) : Fin τ.nSC := (L 0).castLE hcore0
/-- its subcore, -/
abbrev subOf (L : grid0.Coords) : Fin τ.nSub := (L 1).castLE hsub0
/-- and its thread. -/
abbrev thr (d : Dev nD) (L : grid0.Coords) : Thread nD τ := V d (coreOf L) (subOf L)

variable [FloatOps F] (d : Dev nD) (L : grid0.Coords)

/-- A tile's program `p` ends in `Q`. -/
abbrev run {α : Type} (p : TP (F := F) L α) (Q : α → sProp 𝕄) : sProp 𝕄 :=
  wp frame (wpE (defs₀ (F := F)) 𝒱₀ (thr d L) none) Set.univ p Q

/-- A load of part of a whole buffer, as a program: what it reads, the buffer kept. -/
theorem run_load {sp : CoreSpace} {s : Shape} {e : EltTy} {m : Memref sig .scVector sp s e} {r : Rect s} {hl : m.view.LoadsAt r.toLoadRect}
    {S : Finset (Idx ((m.access r).loc (thr d L)))} {q : PosShare TreeShare} {f : Buf (Elt F) ((m.access r).loc (thr d L))}
    {Q : (r.shape.Idx → Elt F e) → sProp 𝕄} (hS : (m.access r).set ⊆ S) :
    iprop(((m.access r).loc (thr d L) ↦[S]{q} f) ∗ (((m.access r).loc (thr d L) ↦[S]{q} f) -∗ Q ((m.access r).read (Elt F) f)))
      ⊢ run d L (Prog.lift (.load m r.toLoadRect hl)) Q := by
  iintro ⟨H, HQ⟩
  iapply (wp_load_rect 𝒱₀ (thr d L) none Set.univ hS) $$ H
  iintro H
  rw [wp_ret]
  imodintro
  iapply HQ; iexact H

/-- A store of a rectangle, as a program. -/
theorem run_store {sp : CoreSpace} {s : Shape} {e : EltTy} {m : Memref sig .scVector sp s e} {r : Rect s} {w : r.shape.Idx → Elt F e}
    {hx : (m.access r).Stores Finset.univ} {hm}
    {S : Finset (Idx ((m.access r).loc (thr d L)))} {f : Buf (Elt F) ((m.access r).loc (thr d L))}
    {Q : PUnit → sProp 𝕄} (hS : (m.access r).set ⊆ S) :
    iprop(((m.access r).loc (thr d L) ↦[S]{fullShare} f)
        ∗ (((m.access r).loc (thr d L) ↦[S]{fullShare} (m.access r).write (Elt F) f w Finset.univ) -∗ Q ⟨⟩))
      ⊢ run d L (Prog.lift (.store m r w Finset.univ hx hm)) Q := by
  iintro ⟨H, HQ⟩
  iapply (wp_store 𝒱₀ (thr d L) none Set.univ hS) $$ H
  iintro H
  rw [wp_ret]
  imodintro
  iapply HQ; iexact H

/-! ## Which elements an access of a buffer touches -/

/-- Row `b` of the neighbours' buffer, -/
abbrev jSet (b : Fin 2) : Finset S2x128.Idx := (jRow jV b).view.set
/-- of the weights' buffer, -/
abbrev uSet (b : Fin 2) : Finset S2x128.Idx := (uRow uV b).view.set
/-- block `b` of the rows' buffer. -/
abbrev rSet (b : Fin 2) : Finset S2x128x2x128.Idx := (rRow rV b).view.set

/-- Row `b` of the neighbours' buffer, as a rectangle. -/
theorem jSet_eq (b : Fin 2) : jSet b = (Rect.unit (s := S2x128) ![b.val, 0] S1x128.size (row_inb b)).set := by
  show (((jV).view.slice (Rect.unit (s := S2x128) ![b.val, 0] S1x128.size (row_inb b))).reshape S128 squeezes_S1x128_S128.numel_eq).set = _
  rw [View.set_reshape]
  exact View.set_slice_whole (cc0_scratch0 : Ref sig .scVector) _
/-- Block `b` of the rows' buffer, as a rectangle. -/
theorem rSet_eq (b : Fin 2) : rSet b = (Rect.unit (s := S2x128x2x128) ![b.val, 0, 0, 0] S1x128x2x128.size (rows_inb b)).set := by
  show (((rV).view.slice (Rect.unit (s := S2x128x2x128) ![b.val, 0, 0, 0] S1x128x2x128.size (rows_inb b))).reshape S128x2x128
    squeezes_S1x128x2x128_S128x2x128.numel_eq).set = _
  rw [View.set_reshape]
  exact View.set_slice_whole (cc0_scratch2 : Ref sig .scVector) _
/-- An element is of row `b` of the neighbours' buffer exactly if its first coordinate is `b`. -/
theorem mem_jSet (b : Fin 2) (x : S2x128.Idx) : x ∈ jSet b ↔ (x 0).val = b.val := by
  rw [jSet_eq, Rect.mem_set_unit]
  have h0 : (x 0).val < 2 := (x 0).isLt
  have h1 : (x 1).val < 128 := (x 1).isLt
  refine ⟨fun h => ?_, fun h a => ?_⟩
  · have := h 0; simp at this; omega
  · match a with
    | 0 => simp; omega
    | 1 => simp; omega
/-- The same of the weights' buffer, -/
theorem mem_uSet (b : Fin 2) (x : S2x128.Idx) : x ∈ uSet b ↔ (x 0).val = b.val := mem_jSet b x
/-- and of the rows' buffer. -/
theorem mem_rSet (b : Fin 2) (x : S2x128x2x128.Idx) : x ∈ rSet b ↔ (x 0).val = b.val := by
  rw [rSet_eq, Rect.mem_set_unit]
  have h0 : (x 0).val < 2 := (x 0).isLt
  have h1 : (x 1).val < 128 := (x 1).isLt
  have h2 : (x 2).val < 2 := (x 2).isLt
  have h3 : (x 3).val < 128 := (x 3).isLt
  refine ⟨fun h => ?_, fun h a => ?_⟩
  · have := h 0; simp at this; omega
  · match a with
    | 0 => simp; omega
    | 1 => simp; omega
    | 2 => simp; omega
    | 3 => simp; omega

/-- Sixteen lanes of block `b` lie in block `b`. -/
theorem lanes_subset {b : Fin 2} {o : Fin 4 → ℕ} (inb : ∀ a, o a + S1x1x1x16.size a ≤ S2x128x2x128.size a) (h : o 0 = b.val) :
    ((rV).access (Rect.unit (s := S2x128x2x128) o S1x1x1x16.size inb)).set ⊆ rSet b := by
  intro x hx
  rw [mem_rSet]
  have hx' := (ValueKit.mem_set_slice_whole_iff (cc0_scratch2 : Ref sig .scVector) _ x Rect.mem_set_unit).mp hx
  have := hx' 0
  simp at this; omega
/-- Sixteen weights of row `b` lie in row `b`. -/
theorem weights_subset {b : Fin 2} {o : Fin 2 → ℕ} (inb : ∀ a, o a + S1x16.size a ≤ S2x128.size a) (h : o 0 = b.val) :
    ((uV).access (Rect.unit (s := S2x128) o S1x16.size inb)).set ⊆ uSet b := by
  intro x hx
  rw [mem_uSet]
  have hx' := (ValueKit.mem_set_slice_whole_iff (cc0_scratch1 : Ref sig .scVector) _ x Rect.mem_set_unit).mp hx
  have := hx' 0
  simp at this; omega

end Cert.Proof.Gather
-- ==== Proof.Block.lean ====
/-
  What a chunk's arithmetic leaves in the tile's output buffer. The 256 stores of a chunk come in row-major order of their
  sixteen-lane blocks, so "the first `n` blocks are done" (`Done`) is the whole invariant: a store extends it by one block
  (`run_block`), a pair by 32 (`run_pair`).
-/
module

public import proofs.«01_k».proof.Proof.Base

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-! ## The value of a block -/

/-- Eight numbers added from the first. -/
def sum8 (g : Fin 8 → F .f32) : F .f32 :=
  FloatOps.addf (FloatOps.addf (FloatOps.addf (FloatOps.addf (FloatOps.addf (FloatOps.addf (FloatOps.addf (g 0) (g 1)) (g 2)) (g 3)) (g 4)) (g 5)) (g 6)) (g 7)

/-- Neighbour `k` of point `n` is one of a chunk's 128. -/
theorem row_lt {n k : ℕ} (hn : n < 16) (hk : k < 8) : 8 * n + k < 128 := by omega

/-- Output word `(n, c)` of the chunk in buffer `b`: the sum over the row's eight neighbours of the neighbour's weight
    times word `c` of the neighbour's gathered row. -/
def cell (fu : S2x128.Idx → F .f32) (fr : S2x128x2x128.Idx → F .f32) (b : Fin 2) (x : S16x256.Idx) : F .f32 :=
  sum8 fun k => FloatOps.mulf (fu (ix2 b ⟨8 * (x 0).val + k.val, row_lt (x 0).isLt k.isLt⟩))
    (fr (ix4 b ⟨8 * (x 0).val + k.val, row_lt (x 0).isLt k.isLt⟩ ⟨(x 1).val / 128, by have h : (x 1).val < 256 := (x 1).isLt; omega⟩
      ⟨(x 1).val % 128, Nat.mod_lt _ (by omega)⟩))

/-- The first `n` of a chunk's blocks of sixteen words are what they should be. -/
def Done (fu : S2x128.Idx → F .f32) (fr : S2x128x2x128.Idx → F .f32) (b : Fin 2) (fo : S16x256.Idx → F .f32) (n : ℕ) : Prop :=
  ∀ x : S16x256.Idx, 16 * (x 0).val + (x 1).val / 16 < n → fo x = cell fu fr b x

/-- Sixteen loaded words as a vector, -/
theorem cast_lane (x : Vec F S1x1x1x16 .f32) (l : Fin 16) : shapeCast S16 x shapeCasts_S1x1x1x16_S16 (ix1 l) = x (ix4 0 0 0 l) := by
  refine shapeCast_apply x _ _ _ ?_
  rw [Shape.rowMajor_val_four, Shape.rowMajor_val_one]
  simp

/-- a vector as sixteen words to store, -/
theorem uncast_lane (x : Vec F S16 .f32) (y : S1x16.Idx) : shapeCast S1x16 x shapeCasts_S16_S1x16 y = x (ix1 (y 1)) := by
  refine shapeCast_apply x _ _ _ ?_
  rw [Shape.rowMajor_val_two, Shape.rowMajor_val_one]
  have : (y 0).val < 1 := (y 0).isLt
  simp

/-- and sixteen loaded weights as a vector: the words stay in place. -/
theorem cast_weights (x : Vec F S1x16 .f32) (l : Fin 16) : shapeCast S16 x shapeCasts_S1x16_S16 (ix1 l) = x (ix2 0 l) := by
  refine shapeCast_apply x _ _ _ ?_
  rw [Shape.rowMajor_val_two, Shape.rowMajor_val_one]
  simp

/-- A lane is the vector's word. -/
theorem lane_eq (v : FVec F S16 .f32) (n : Fin 16) : lane v n = v (ix1 n) := by
  refine congrArg v (funext fun a => ?_)
  match a with
  | ⟨0, _⟩ => exact Fin.ext (show n.val + 0 = n.val by omega)

/-- A word of the sum of eight weighted vectors is the sum of the eight products. -/
theorem eight_eq (v : FVec F S16 .f32) (n : Fin 8 → Fin 16) (x : Fin 8 → Vec F S1x1x1x16 .f32) (l : Fin 16) :
    eight v n x (ix1 l) = sum8 fun k => FloatOps.mulf (v (ix1 (n k))) (x k (ix4 0 0 0 l)) := by
  show sum8 (fun k => FloatOps.mulf (lane v (n k)) (shapeCast S16 (x k) shapeCasts_S1x1x1x16_S16 (ix1 l))) = _
  simp only [lane_eq]
  exact congrArg sum8 (funext fun k => congrArg _ (cast_lane _ _))

/-- A store of block `(r, j)` that writes `w`: before it the blocks before are done, after it this one too. -/
theorem done_step {fu : S2x128.Idx → F .f32} {fr : S2x128x2x128.Idx → F .f32} {b : Fin 2} {fo : S16x256.Idx → F .f32} {n r j : ℕ}
    (hj : j < 16) (hn : n = 16 * r + j) (h : Done fu fr b fo n) {o : Fin 2 → ℕ} (ho : o = ![r, 16 * j])
    (inb : ∀ a, o a + S1x16.size a ≤ S16x256.size a) (w : S1x16.Idx → F .f32)
    (hw : ∀ (x : S16x256.Idx) (l : Fin 16), (x 0).val = r → (x 1).val = 16 * j + l.val → w (ix2 0 l) = cell fu fr b x) :
    Done fu fr b (((aV).access (Rect.unit (s := S16x256) o S1x16.size inb)).write (Elt F) fo w Finset.univ) (n + 1) := by
  subst ho
  intro x hx
  by_cases hlt : 16 * (x 0).val + (x 1).val / 16 < n
  · rw [View.write_of_not_mem]
    · exact h x hlt
    · intro hm
      have hm' := (ValueKit.mem_set_slice_whole_iff (cc0_scratch3 : Ref sig .scVector) _ x Rect.mem_set_unit).mp hm
      have h0 := hm' 0; have h1 := hm' 1
      simp at h0 h1
      omega
  · have h1 : (x 1).val < 256 := (x 1).isLt
    have e0 : (x 0).val = r := by omega
    have e1 : (x 1).val = 16 * j + (x 1).val % 16 := by omega
    have hl : (x 1).val % 16 < 16 := Nat.mod_lt _ (by omega)
    have hx' : x = ((aV).access (Rect.unit (s := S16x256) ![r, 16 * j] S1x16.size inb)).emb (ix2 0 ⟨(x 1).val % 16, hl⟩) := by
      funext a
      refine Fin.ext ?_
      refine Eq.trans ?_ (ValueKit.view_emb_slice_whole_unit_val (cc0_scratch3 : Ref sig .scVector) _ _ inb _ a).symm
      match a with
      | 0 => simp; omega
      | 1 => simpa using e1
    rw [← hw x ⟨_, hl⟩ e0 e1]
    conv_lhs => rw [hx']
    exact View.write_emb_of_mem _ _ (Finset.mem_univ _)

/-! ## The programs -/

section Run

variable (d : Dev nD) (L : grid0.Coords)

/-- The chunk's gathered rows, held. -/
abbrev rows (b : Fin 2) (fr : Buf (Elt F) ((thr d L).loc cc0_scratch2)) : sProp 𝕄 := (thr d L).loc cc0_scratch2 ↦[rSet b]{fullShare} fr
/-- The chunk's weights, held. -/
abbrev wts (b : Fin 2) (fu : Buf (Elt F) ((thr d L).loc cc0_scratch1)) : sProp 𝕄 := (thr d L).loc cc0_scratch1 ↦[uSet b]{fullShare} fu
/-- The output buffer, held. -/
abbrev acc (fo : Buf (Elt F) ((thr d L).loc cc0_scratch3)) : sProp 𝕄 := (thr d L).loc cc0_scratch3 ↦{fullShare} fo

variable {n : ℕ} {b : Fin 2} {j : Fin 16} (C : Col n b j) (fu : S2x128.Idx → F .f32)
  (fr : Buf (Elt F) ((thr d L).loc cc0_scratch2))

/-- Neighbour `k`'s sixteen lanes as the loads of a block read them. -/
theorem run_ldFirst (q : Fin n) (h : Fin 2) {Q : Vec F S1x1x1x16 .f32 → sProp 𝕄} :
    iprop(rows d L b fr ∗ (rows d L b fr -∗ Q (((rV).access (Rect.unit (s := S2x128x2x128) (C.first q (BitVec.ofNat 32 h.val)) S1x1x1x16.size (C.first_inb q h))).read (Elt F) fr)))
      ⊢ run d L (ldFirst C L rV q h) Q := by
  have hs := lanes_subset (b := b) (C.first_inb q h) (by rw [C.first_eq]; rfl)
  iintro ⟨Hr, HQ⟩
  iapply (run_load d L (m := rV) hs)
  isplitl [Hr]; · iexact Hr
  iexact HQ

/-- The same for the seven neighbours after the first. -/
theorem run_ldRest (q : Fin n) (h : Fin 2) (k : Fin 7) {Q : Vec F S1x1x1x16 .f32 → sProp 𝕄} :
    iprop(rows d L b fr ∗ (rows d L b fr -∗ Q (((rV).access (Rect.unit (s := S2x128x2x128) (C.rest q (BitVec.ofNat 32 h.val) (BitVec.ofNat 32 (1 + k.val))) S1x1x1x16.size
          (C.rest_inb q h k))).read (Elt F) fr)))
      ⊢ run d L (ldRest C L rV q h k) Q := by
  have hs := lanes_subset (b := b) (C.rest_inb q h k) (by rw [C.rest_eq]; rfl)
  iintro ⟨Hr, HQ⟩
  iapply (run_load d L (m := rV) hs)
  isplitl [Hr]; · iexact Hr
  iexact HQ

/-- One block: given the blocks before it, this one too. -/
theorem run_block (q : Fin n) (hq : q.val < 8) (h : Fin 2) (v : FVec F S16 .f32)
    (hv : ∀ l : Fin 16, v (ix1 l) = fu (ix2 b ⟨16 * q.val + l.val, by omega⟩))
    (fo : Buf (Elt F) ((thr d L).loc cc0_scratch3)) {m : ℕ} (hm : m = 32 * q.val + 16 * h.val + j.val) (hfo : Done fu fr b fo m) :
    iprop(rows d L b fr ∗ acc d L fo)
      ⊢ run d L (block C L rV aV q h v) fun _ => iprop(rows d L b fr ∗ ∃ fo', ⌜Done fu fr b fo' (m + 1)⌝ ∗ acc d L fo') := by
  unfold block
  simp only [wp_bind]
  iintro ⟨Hr, Ha⟩
  iapply (run_ldFirst d L C fr q h); isplitl [Hr]; · iexact Hr
  iintro Hr
  iapply (run_ldRest d L C fr q h 0); isplitl [Hr]; · iexact Hr
  iintro Hr
  iapply (run_ldRest d L C fr q h 1); isplitl [Hr]; · iexact Hr
  iintro Hr
  iapply (run_ldRest d L C fr q h 2); isplitl [Hr]; · iexact Hr
  iintro Hr
  iapply (run_ldRest d L C fr q h 3); isplitl [Hr]; · iexact Hr
  iintro Hr
  iapply (run_ldRest d L C fr q h 4); isplitl [Hr]; · iexact Hr
  iintro Hr
  iapply (run_ldRest d L C fr q h 5); isplitl [Hr]; · iexact Hr
  iintro Hr
  iapply (run_ldRest d L C fr q h 6); isplitl [Hr]; · iexact Hr
  iintro Hr
  iapply (run_load d L (m := aV) (Finset.subset_univ _)); isplitl [Ha]; · iexact Ha
  iintro Ha
  iapply (run_store d L (m := aV) (Finset.subset_univ _)); isplitl [Ha]; · iexact Ha
  iintro Ha
  isplitl [Hr]; · iexact Hr
  iexists _; isplitr
  swap; · iexact Ha
  ipureintro
  refine done_step (r := 2 * q.val + h.val) (j := j.val) j.isLt (by omega) hfo (C.out_eq q h) _ _ ?_
  intro x l e0 e1
  rw [uncast_lane]
  show eight _ _ _ (ix1 l) = _
  rw [eight_eq]
  unfold cell
  have hemb : ∀ (o : Fin 4 → ℕ) (inb : ∀ a, o a + S1x1x1x16.size a ≤ S2x128x2x128.size a) (k : Fin 8),
      o = ![b.val, 16 * q.val + 8 * h.val + k.val, j.val / 8, 16 * (j.val % 8)] →
      fr ((Rect.unit (s := S2x128x2x128) o S1x1x1x16.size inb).emb (ix4 0 0 0 l))
        = fr (ix4 b ⟨8 * (x 0).val + k.val, row_lt (x 0).isLt k.isLt⟩ ⟨(x 1).val / 128, by have h : (x 1).val < 256 := (x 1).isLt; omega⟩
            ⟨(x 1).val % 128, Nat.mod_lt _ (by omega)⟩) := by
    intro o inb k ho
    subst ho
    refine congrArg fr (funext fun a => Fin.ext ?_)
    rw [ValueKit.rect_emb_unit_val]
    match a with
    | 0 => simp
    | 1 => simp [e0]; omega
    | 2 => show j.val / 8 + 0 = (x 1).val / 128; omega
    | 3 => show 16 * (j.val % 8) + l.val = (x 1).val % 128; omega
  refine congrArg sum8 (funext fun k => congrArg₂ _ ?_ ?_)
  · rw [hv]
    exact congrArg fu (congrArg (ix2 b) (Fin.ext (show 16 * q.val + (8 * h.val + k.val) = 8 * (x 0).val + k.val by omega)))
  · match k with
    | 0 => exact hemb _ _ 0 (C.first_eq q h)
    | 1 => exact hemb _ _ 1 (C.rest_eq q h 0)
    | 2 => exact hemb _ _ 2 (C.rest_eq q h 1)
    | 3 => exact hemb _ _ 3 (C.rest_eq q h 2)
    | 4 => exact hemb _ _ 4 (C.rest_eq q h 3)
    | 5 => exact hemb _ _ 5 (C.rest_eq q h 4)
    | 6 => exact hemb _ _ 6 (C.rest_eq q h 5)
    | 7 => exact hemb _ _ 7 (C.rest_eq q h 6)

end Run

section Runs

variable (d : Dev nD) (L : grid0.Coords) {n : ℕ} {b : Fin 2} (C : (j : Fin 16) → Col n b j) (fu : S2x128.Idx → F .f32)
  (fr : Buf (Elt F) ((thr d L).loc cc0_scratch2))

/-- The last `k` stores of a pair, from the first `32 - k` done. -/
theorem run_stores (q : Fin n) (hq : q.val < 8) (v : FVec F S16 .f32)
    (hv : ∀ l : Fin 16, v (ix1 l) = fu (ix2 b ⟨16 * q.val + l.val, by omega⟩)) :
    ∀ (k : ℕ) (hk : k ≤ 32) (fo : Buf (Elt F) ((thr d L).loc cc0_scratch3)), Done fu fr b fo (32 * q.val + (32 - k)) →
      iprop(rows d L b fr ∗ acc d L fo)
        ⊢ run d L (stores C L rV aV q v k hk) fun _ => iprop(rows d L b fr ∗ ∃ fo', ⌜Done fu fr b fo' (32 * (q.val + 1))⌝ ∗ acc d L fo') := by
  intro k
  induction k with
  | zero =>
    intro hk fo hfo
    iintro ⟨Hr, Ha⟩
    unfold stores run
    rw [wp_pure]
    imodintro
    isplitl [Hr]; · iexact Hr
    iexists fo; isplitr
    · ipureintro; exact fun x hx => hfo x (by omega)
    iexact Ha
  | succ k ih =>
    intro hk fo hfo
    have hj : (31 - k) % 16 < 16 := Nat.mod_lt _ (by omega)
    have hh : (31 - k) / 16 < 2 := by omega
    have hk' : k ≤ 32 := by omega
    have ek : 32 * q.val + (31 - k) = 32 * q.val + 16 * ((31 - k) / 16) + (31 - k) % 16 := by omega
    unfold stores run
    rw [wp_bind]
    iintro ⟨Hr, Ha⟩
    iapply (wp_wand_r frame (wpE (defs₀ (F := F)) 𝒱₀ (thr d L) none) Set.univ)
    isplitl [Hr Ha]
    · iapply (run_block d L (C ⟨(31 - k) % 16, hj⟩) fu fr q hq ⟨(31 - k) / 16, hh⟩ v hv fo
        (m := 32 * q.val + (31 - k)) ek (fun x hx => hfo x (by omega)))
      isplitl [Hr] <;> iassumption
    · iintro %_ ⟨Hr, %fo', %hfo', Ha⟩
      iapply (ih hk' fo' (fun x hx => hfo' x (by omega)))
      isplitl [Hr] <;> iassumption

/-- A pair: the sixteen weights loaded, the 32 stores. -/
theorem run_pair (woff : Fin n → Fin 2 → ℕ) (win : ∀ q a, woff q a + S1x16.size a ≤ S2x128.size a)
    (hoff : ∀ q, woff q = ![b.val, 16 * q.val]) (q : Fin n) (hq : q.val < 8) (fu : Buf (Elt F) ((thr d L).loc cc0_scratch1))
    (fo : Buf (Elt F) ((thr d L).loc cc0_scratch3)) (hfo : Done fu fr b fo (32 * q.val)) :
    iprop(wts d L b fu ∗ rows d L b fr ∗ acc d L fo)
      ⊢ run d L (pair C L uV rV aV woff win q) fun _ => iprop(wts d L b fu ∗ rows d L b fr
          ∗ ∃ fo', ⌜Done fu fr b fo' (32 * (q.val + 1))⌝ ∗ acc d L fo') := by
  have hs := weights_subset (b := b) (win q) (by rw [hoff]; rfl)
  have hv : ∀ l : Fin 16, shapeCast S16 (((uV).access (Rect.unit (s := S2x128) (woff q) S1x16.size (win q))).read (Elt F) fu)
      shapeCasts_S1x16_S16 (ix1 l) = fu (ix2 b ⟨16 * q.val + l.val, by omega⟩) := by
    intro l
    rw [cast_weights]
    refine congrArg fu (funext fun a => Fin.ext ?_)
    refine (ValueKit.view_emb_slice_whole_unit_val (cc0_scratch1 : Ref sig .scVector) _ _ (win q) _ a).trans ?_
    refine (congrArg (· + _) (congrFun (hoff q) a)).trans ?_
    match a with
    | 0 => show b.val + 0 = b.val; omega
    | 1 => rfl
  unfold pair
  simp only [wp_bind]
  iintro ⟨Hu, Hr, Ha⟩
  iapply (run_load d L (m := uV) hs); isplitl [Hu]; · iexact Hu
  iintro Hu
  iapply (wp_wand_r frame (wpE (defs₀ (F := F)) 𝒱₀ (thr d L) none) Set.univ)
  isplitl [Hr Ha]
  · iapply (run_stores d L C fu fr q hq _ hv 32 le_rfl fo (fun x hx => hfo x (by omega)))
    isplitl [Hr] <;> iassumption
  · iintro %_ ⟨Hr, Hrest⟩
    isplitl [Hu]; · iexact Hu
    isplitl [Hr]; · iexact Hr
    iexact Hrest

set_option maxRecDepth 8192 in
/-- A chunk's eight pairs: all 256 blocks done. -/
theorem run_pairs (l : Scf.Loop 32) (ok : l.OK) (hl : l.trips = 8) {b : Fin 2} (C : (j : Fin 16) → Col l.trips b j) (woff : Fin l.trips → Fin 2 → ℕ)
    (win : ∀ q a, woff q a + S1x16.size a ≤ S2x128.size a) (hoff : ∀ q, woff q = ![b.val, 16 * q.val])
    (fu : Buf (Elt F) ((thr d L).loc cc0_scratch1)) :
    iprop(wts d L b fu ∗ rows d L b fr ∗ ∃ fo, acc d L fo)
      ⊢ run d L (pairs L uV rV aV l ok C woff win) fun _ => iprop(wts d L b fu ∗ rows d L b fr
          ∗ ∃ fo, ⌜∀ x, fo x = cell fu fr b x⌝ ∗ acc d L fo) := by
  have hbody : ∀ (t : Fin l.trips) (_ : BitVec 32), iprop(wts d L b fu ∗ rows d L b fr ∗ ∃ fo, ⌜Done fu fr b fo (32 * t.val)⌝ ∗ acc d L fo)
      ⊢ run d L (pair C L uV rV aV woff win t) fun _ => iprop(wts d L b fu ∗ rows d L b fr ∗ ∃ fo, ⌜Done fu fr b fo (32 * (t.val + 1))⌝ ∗ acc d L fo) := by
    intro t _
    iintro ⟨Hu, Hr, %fo', %hfo', Ha⟩
    iapply (run_pair d L C fr woff win hoff t (by have := t.isLt; omega) fu fo' hfo')
    isplitl [Hu]; · iexact Hu
    isplitl [Hr] <;> iassumption
  unfold pairs
  iintro ⟨Hu, Hr, %fo, Ha⟩
  iapply (Scf.wp_for frame (wpE (defs₀ (F := F)) 𝒱₀ (thr d L) none) Set.univ l.lb l.ub l.st ok 0#32
    (fun q _ => pair C L uV rV aV woff win q) (fun t _ => iprop(wts d L b fu ∗ rows d L b fr ∗ ∃ fo, ⌜Done fu fr b fo (32 * t)⌝ ∗ acc d L fo)) hbody)
  isplitl [Hu Hr Ha]
  · isplitl [Hu]; · iexact Hu
    isplitl [Hr]; · iexact Hr
    iexists fo; isplitr
    · ipureintro; exact fun x hx => absurd hx (by omega)
    iexact Ha
  · iintro %_ ⟨Hu, Hr, %fo', %hfo', Ha⟩
    isplitl [Hu]; · iexact Hu
    isplitl [Hr]; · iexact Hr
    iexists fo'; isplitr
    · ipureintro; intro x
      refine hfo' x ?_
      have h0 : (x 0).val < 16 := (x 0).isLt
      have h1 : (x 1).val < 256 := (x 1).isLt
      have h2 : Scf.trips l.lb l.ub l.st = 8 := hl
      rw [h2]; omega
    iexact Ha

end Runs

end Cert.Proof.Gather
-- ==== Proof.Steps.lean ====
/-
  The transfers of a tile: a copy waited for, the lists of a chunk fetched, the gather of its rows started and waited for,
  sixteen output rows shipped, each with what it leaves in the buffers.
-/
module

public import proofs.«01_k».proof.Proof.Block

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] (d : Dev nD) (L : grid0.Coords)

local notation "𝕄" => MT nD τ sig (HIx 1) (Elt F) ℕ UU ℕ

/-! ## What a tile owes and its counters -/

/-- The tile owes `O`, having waited for nothing new but its own transfers since `W`. -/
def Owes (O : CellTallies nD τ sig (HIx 1)) (W : Waits sig (HIx 1)) : sProp 𝕄 :=
  iprop(∃ W' : Waits sig (HIx 1), ⌜∀ p ∈ W', p ∈ W ∨ p.2 = none⌝ ∗ owes (thr d L) O W')

/-- One of the tile's counters, at zero. -/
abbrev quiet (s : DmaSems sig S_) : sProp 𝕄 := semVal (thr d L, SemLoc.dma s.sem) 0

/-- A wait of the tile's own is allowed whatever it owes. -/
abbrev Waitable (O : CellTallies nD τ sig (HIx 1)) : sProp 𝕄 := Transfers.MayWaits (thr d L) none O

/-- One more wait of the tile's own. -/
theorem owes_wait {O : CellTallies nD τ sig (HIx 1)} {W W' : Waits sig (HIx 1)} {s : SemLoc sig} (h : ∀ p ∈ W', p ∈ W ∨ p.2 = none) :
    owes (thr d L) O (insert (s, none) W') ⊢ (Owes d L O W : sProp 𝕄) := by
  unfold Owes
  iintro HO
  iexists (insert (s, none) W')
  isplitr
  · ipureintro
    intro p hp
    rcases Finset.mem_insert.mp hp with h' | h'
    · exact Or.inr (by rw [h'])
    · exact h p h'
  iexact HO

/-- What the tile owes, spelled out. -/
theorem owes_elim {O : CellTallies nD τ sig (HIx 1)} {W : Waits sig (HIx 1)} :
    (Owes d L O W : sProp 𝕄) ⊢ iprop(∃ W' : Waits sig (HIx 1), ⌜∀ p ∈ W', p ∈ W ∨ p.2 = none⌝ ∗ owes (thr d L) O W') := by
  unfold Owes
  iintro H
  iexact H

/-- A program run after another, -/
theorem run_bind {α β : Type} {p : TP (F := F) L α} {k : α → TP (F := F) L β} {Q : β → sProp 𝕄} :
    run (F := F) d L p (fun a => run (F := F) d L (k a) Q) ⊢ run (F := F) d L (p >>= k) Q := by
  unfold run
  rw [wp_bind]
/-- and none at all. -/
theorem run_pure {α : Type} {a : α} {Q : α → sProp 𝕄} : Q a ⊢ run (F := F) d L (pure a) Q := by
  unfold run
  rw [wp_pure]
  iintro H
  imodintro
  iexact H

/-- A copy into a buffer of the tile's (or out of one), waited for at once. -/
theorem run_copy {sp sp' : Space} {s : Shape} {e : EltTy} {src : Memref sig .scVector sp s e} {dst : Memref sig .scVector sp' s e}
    {sm : DmaSems sig S_} {hsrc hdst hsem hsrc' hdst'}
    {S : Finset (Idx (src.view.loc (thr d L)))} {Sd : Finset (Idx (dst.view.loc (thr d L)))} {q : PosShare TreeShare}
    {fs : Buf (Elt F) (src.view.loc (thr d L))} {fd : Buf (Elt F) (dst.view.loc (thr d L))}
    {O : CellTallies nD τ sig (HIx 1)} {W : Waits sig (HIx 1)}
    (hS : src.view.set ⊆ S) (hSd : dst.view.set ⊆ Sd) (h0 : 0 < dst.view.dmaCredit) :
    iprop((src.view.loc (thr d L) ↦[S]{q} fs) ∗ (dst.view.loc (thr d L) ↦[Sd]{fullShare} fd) ∗ quiet d L sm ∗ Owes d L O W ∗ Waitable d L O)
      ⊢ run (F := F) d L (do
          Prog.lift (TpuEff.enqueueDma src (.here dst) (.dma sm.sem) hsrc hdst hsem)
          Prog.lift (TpuEff.waitDma2 sm.sem src dst hsrc' hdst')) fun _ =>
        iprop((src.view.loc (thr d L) ↦[S]{q} fs)
          ∗ (dst.view.loc (thr d L) ↦[Sd]{fullShare} dst.view.write (Elt F) fd (src.view.read (Elt F) fs) Finset.univ)
          ∗ quiet d L sm ∗ Owes d L O W) := by
  iintro ⟨Hs, Hd, Hv, HO, HM⟩
  ihave ⟨%W', %hW', HO⟩ := (owes_elim d L) $$ HO
  ihave ⟨Hs, Hsr⟩ := (pointsTo_split_subset hS).1 $$ Hs
  iapply (Transfers.wp_dmaLocal countersEmb 𝒱₀ (thr d L) none none dst.view.dmaCredit rfl h0 hSd) $$ [Hs Hd Hv]
  · isplitl [Hs]; · iexact Hs
    isplitl [Hd]; · iexact Hd
    iexact Hv
  iintro HF
  ihave Hm := (Transfers.MayWaits.elim (.dma sm.sem)) $$ HM
  iapply (Transfers.wp_waitLocalO countersEmb 𝒱₀ (thr d L) none none rfl (W := W')) $$ [HF HO Hm]
  · isplitl [HF]; · iexact HF
    isplitl [HO]; · iexact HO
    iexact Hm
  iintro ⟨⟨Hd, Hs⟩, Hv, HO⟩
  rw [wp_ret]
  imodintro
  isplitl [Hs Hsr]
  · iapply (pointsTo_split_subset hS).2; isplitl [Hs]; · iexact Hs
    iexact Hsr
  isplitl [Hd]; · iexact Hd
  isplitl [Hv]; · iexact Hv
  iapply (owes_wait d L hW'); iexact HO

/-! ## Where the views put their elements -/

/-- Word `p` of row `b` of the neighbours' buffer, -/
theorem jRow_emb (b : Fin 2) (p : Fin 128) : (jRow jV b).view.emb (ix1 p) = ix2 b p := by
  have h : Shape.reshapeEquiv squeezes_S1x128_S128.numel_eq (ix1 p) = (ix2 0 p : S1x128.Idx) := by
    refine Shape.reshapeEquiv_eq_of_rowMajor _ ?_
    rw [Shape.rowMajor_val_two, Shape.rowMajor_val_one]
    simp
  refine (congrArg ((jV).view.slice (Rect.unit (s := S2x128) ![b.val, 0] S1x128.size (row_inb b))).emb h).trans ?_
  funext a
  refine Fin.ext ((ValueKit.view_emb_slice_whole_unit_val (cc0_scratch0 : Ref sig .scVector) _ _ _ _ a).trans ?_)
  match a with
  | ⟨0, _⟩ => simp
  | ⟨1, _⟩ => simp
/-- and of the weights' buffer; -/
theorem uRow_emb (b : Fin 2) (p : Fin 128) : (uRow uV b).view.emb (ix1 p) = ix2 b p := jRow_emb b p
/-- word `(p, h, l)` of block `b` of the rows' buffer. -/
theorem rRow_emb (b : Fin 2) (p : Fin 128) (h : Fin 2) (l : Fin 128) : (rRow rV b).view.emb (ix3 p h l) = ix4 b p h l := by
  have e : Shape.reshapeEquiv squeezes_S1x128x2x128_S128x2x128.numel_eq (ix3 p h l) = (ix4 0 p h l : S1x128x2x128.Idx) := by
    refine Shape.reshapeEquiv_eq_of_rowMajor _ ?_
    rw [Shape.rowMajor_val_four, Shape.rowMajor_val_three]
    simp
  refine (congrArg ((rV).view.slice (Rect.unit (s := S2x128x2x128) ![b.val, 0, 0, 0] S1x128x2x128.size (rows_inb b))).emb e).trans ?_
  funext a
  refine Fin.ext ((ValueKit.view_emb_slice_whole_unit_val (cc0_scratch2 : Ref sig .scVector) _ _ _ _ a).trans ?_)
  match a with
  | ⟨0, _⟩ => simp
  | ⟨1, _⟩ => simp
  | ⟨2, _⟩ => simp
  | ⟨3, _⟩ => simp
/-- The gather's view of the table is the table. -/
theorem pAll_read (fp : S4096x2x128.Idx → F .f32) : (pAll pV).view.read (Elt F) fp = fp := by
  funext x
  show fp ((pAll pV).view.emb x) = fp x
  refine congrArg fp (funext fun a => ?_)
  refine Fin.ext ((ValueKit.view_emb_slice_whole_unit_val (main_v2_scv : Ref sig .scVector) _ _ _ _ a).trans ?_)
  match a with
  | ⟨0, _⟩ => simp
  | ⟨1, _⟩ => simp
  | ⟨2, _⟩ => simp
/-- Word `p` of a cut of the neighbours, -/
theorem iCut_read (fi : S65536.Idx → BitVec 32) (off : Fin 1 → ℕ) (inb : ∀ a, off a + S128.size a ≤ S65536.size a) {n : ℕ} (h : off = ![n])
    (p : Fin 128) (hn : n + p.val < 65536) : (iCut iV off inb).view.read (Elt F) fi (ix1 p) = fi (ix1 ⟨n + p.val, hn⟩) := by
  subst h
  refine congrArg fi (funext fun a => ?_)
  refine Fin.ext ((ValueKit.view_emb_slice_whole_unit_val (main_v0_scv : Ref sig .scVector) _ _ _ _ a).trans ?_)
  match a with
  | ⟨0, _⟩ => simp
/-- of the weights. -/
theorem wCut_read (fw : S65536.Idx → F .f32) (off : Fin 1 → ℕ) (inb : ∀ a, off a + S128.size a ≤ S65536.size a) {n : ℕ} (h : off = ![n])
    (p : Fin 128) (hn : n + p.val < 65536) : (wCut wV off inb).view.read (Elt F) fw (ix1 p) = fw (ix1 ⟨n + p.val, hn⟩) := by
  subst h
  refine congrArg fw (funext fun a => ?_)
  refine Fin.ext ((ValueKit.view_emb_slice_whole_unit_val (main_v1_scv : Ref sig .scVector) _ _ _ _ a).trans ?_)
  match a with
  | ⟨0, _⟩ => simp

/-! ## What the output should be -/

/-- Word `n` of the neighbours, as a row of the table. -/
def rowAt (fi : S65536.Idx → BitVec 32) (n : Fin 65536) : Fin 4096 := ⟨(fi (ix1 n)).toNat % 4096, Nat.mod_lt _ (by omega)⟩

/-- Output word `(n, c)`: the sum over point `n`'s eight neighbours of the neighbour's weight times word `c` of its row of the table. -/
def outAt (fp : S4096x2x128.Idx → F .f32) (fi : S65536.Idx → BitVec 32) (fw : S65536.Idx → F .f32) (x : S8192x256.Idx) : F .f32 :=
  sum8 fun k => FloatOps.mulf (fw (ix1 ⟨8 * (x 0).val + k.val, by have h : (x 0).val < 8192 := (x 0).isLt; omega⟩))
    (fp (ix3 (rowAt fi ⟨8 * (x 0).val + k.val, by have h : (x 0).val < 8192 := (x 0).isLt; omega⟩)
      ⟨(x 1).val / 128, by have h : (x 1).val < 256 := (x 1).isLt; omega⟩ ⟨(x 1).val % 128, Nat.mod_lt _ (by omega)⟩))

/-- Row `b` of the weights' buffer is chunk `g` of the weights, -/
def IsW (fw : S65536.Idx → F .f32) (b : Fin 2) (g : Fin 512) (fu : S2x128.Idx → F .f32) : Prop :=
  ∀ p : Fin 128, fu (ix2 b p) = fw (ix1 ⟨128 * g.val + p.val, by omega⟩)
/-- and block `b` of the rows' buffer the rows chunk `g` of the neighbours names. -/
def IsR (fp : S4096x2x128.Idx → F .f32) (fi : S65536.Idx → BitVec 32) (b : Fin 2) (g : Fin 512) (fr : S2x128x2x128.Idx → F .f32) : Prop :=
  ∀ (p : Fin 128) (h : Fin 2) (l : Fin 128), fr (ix4 b p h l) = fp (ix3 (rowAt fi ⟨128 * g.val + p.val, by omega⟩) h l)

/-- A chunk's sixteen rows are sixteen rows of the output. -/
theorem cell_eq {fp : S4096x2x128.Idx → F .f32} {fi : S65536.Idx → BitVec 32} {fw : S65536.Idx → F .f32} {b : Fin 2} {g : Fin 512}
    {fu : S2x128.Idx → F .f32} {fr : S2x128x2x128.Idx → F .f32} (hu : IsW fw b g fu) (hr : IsR fp fi b g fr)
    (x : S16x256.Idx) (y : S8192x256.Idx) (h0 : (y 0).val = 16 * g.val + (x 0).val) (h1 : (y 1).val = (x 1).val) :
    cell fu fr b x = outAt fp fi fw y := by
  unfold cell outAt
  refine congrArg sum8 (funext fun k => ?_)
  have hx : (x 0).val < 16 := (x 0).isLt
  have e : ∀ (hl : 128 * g.val + (8 * (x 0).val + k.val) < 65536) (hr : 8 * (y 0).val + k.val < 65536),
      (⟨128 * g.val + (8 * (x 0).val + k.val), hl⟩ : Fin 65536) = ⟨8 * (y 0).val + k.val, hr⟩ := fun _ _ => Fin.ext (by simp only; omega)
  rw [hu, hr]
  refine congrArg₂ _ (congrArg (fun z => fw (ix1 z)) (e _ _)) (congrArg fp ?_)
  rw [e _ (by omega)]
  congr 1 <;> exact Fin.ext (by simp only [h1])

end Cert.Proof.Gather
-- ==== Proof.Half.lean ====
/-
  A chunk of a tile's work on buffer `b`: begun (its lists fetched, the gather of its rows started), its rows arrived, its
  sixteen output rows summed and shipped.
-/
module

public import proofs.«01_k».proof.Proof.Steps

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] (d : Dev nD) (L : grid0.Coords)

local notation "𝕄" => MT nD τ sig (HIx 1) (Elt F) ℕ UU ℕ

variable (fp : S4096x2x128.Idx → F .f32) (fi : S65536.Idx → BitVec 32) (fw : S65536.Idx → F .f32)

/-! ## The resources -/

/-- Every neighbour is a row of the table. -/
def InRows : Prop := ∀ n : Fin 65536, (fi (ix1 n)).toNat < 4096

/-- A share of the table, -/
abbrev tabs (q : PosShare TreeShare) : sProp 𝕄 := (thr d L).loc main_v2_scv ↦[(pAll pV).view.set]{q} fp
/-- of the two lists. -/
abbrev lists (q : PosShare TreeShare) : sProp 𝕄 := iprop(((thr d L).loc main_v0_scv ↦{q} fi) ∗ ((thr d L).loc main_v1_scv ↦{q} fw))
/-- A row of the neighbours' buffer, -/
abbrev nbrs (b : Fin 2) (fj : Buf (Elt F) ((thr d L).loc cc0_scratch0)) : sProp 𝕄 := (thr d L).loc cc0_scratch0 ↦[jSet b]{fullShare} fj

variable (q : PosShare TreeShare)

/-- The neighbours of chunk `g` fetched into row `b`. -/
theorem run_fetchJ (b : Fin 2) (off : Fin 1 → ℕ) (inb : ∀ a, off a + S128.size a ≤ S65536.size a) (s : DmaSems sig S_) (g : Fin 512)
    (hoff : off = ![128 * g.val]) {O : CellTallies nD τ sig (HIx 1)} {W : Waits sig (HIx 1)} :
    iprop((∃ fj, nbrs d L b fj) ∗ ((thr d L).loc main_v0_scv ↦{q} (fi : Buf (Elt F) ((thr d L).loc main_v0_scv))) ∗ quiet d L s ∗ Owes d L O W ∗ Waitable d L O)
      ⊢ run (F := F) d L (fetchJ L iV jV b off inb s) fun _ =>
        iprop((∃ fj, ⌜∀ p : Fin 128, fj (ix2 b p) = fi (ix1 ⟨128 * g.val + p.val, by omega⟩)⌝ ∗ nbrs d L b fj)
          ∗ ((thr d L).loc main_v0_scv ↦{q} (fi : Buf (Elt F) ((thr d L).loc main_v0_scv))) ∗ quiet d L s ∗ Owes d L O W) := by
  iintro ⟨⟨%fj, Hj⟩, Hi, Hv, HO, HM⟩
  unfold fetchJ
  iapply (wp_wand_r frame (wpE (defs₀ (F := F)) 𝒱₀ (thr d L) none) Set.univ)
  isplitl
  · iapply (run_copy d L (src := iCut iV off inb) (dst := jRow jV b) (sm := s) (fs := fi) (fd := fj) (Sd := jSet b) (W := W)
      (Finset.subset_univ _) (Finset.Subset.refl _) (View.dmaCredit_pos _ (by decide)))
    isplitl [Hi]; · iexact Hi
    isplitl [Hj]; · iexact Hj
    isplitl [Hv]; · iexact Hv
    isplitl [HO]; · iexact HO
    iexact HM
  iintro %_ ⟨Hi, Hj, Hv, HO⟩
  isplitl [Hj]
  · iexists ((jRow jV b).view.write (Elt F) fj ((iCut iV off inb).view.read (Elt F) fi) Finset.univ)
    isplitr
    · ipureintro
      intro p
      rw [← jRow_emb b p]
      refine (View.write_emb_of_mem _ _ (Finset.mem_univ _)).trans ?_
      exact iCut_read fi off inb hoff p (by omega)
    iexact Hj
  isplitl [Hi]; · iexact Hi
  isplitl [Hv]; · iexact Hv
  iexact HO

/-- The weights of chunk `g` fetched into row `b`. -/
theorem run_fetchU (b : Fin 2) (off : Fin 1 → ℕ) (inb : ∀ a, off a + S128.size a ≤ S65536.size a) (s : DmaSems sig S_) (g : Fin 512)
    (hoff : off = ![128 * g.val]) {O : CellTallies nD τ sig (HIx 1)} {W : Waits sig (HIx 1)} :
    iprop((∃ fu, wts d L b fu) ∗ ((thr d L).loc main_v1_scv ↦{q} (fw : Buf (Elt F) ((thr d L).loc main_v1_scv))) ∗ quiet d L s ∗ Owes d L O W ∗ Waitable d L O)
      ⊢ run (F := F) d L (fetchU L wV uV b off inb s) fun _ =>
        iprop((∃ fu, ⌜IsW fw b g fu⌝ ∗ wts d L b fu)
          ∗ ((thr d L).loc main_v1_scv ↦{q} (fw : Buf (Elt F) ((thr d L).loc main_v1_scv))) ∗ quiet d L s ∗ Owes d L O W) := by
  iintro ⟨⟨%fu, Hj⟩, Hi, Hv, HO, HM⟩
  unfold fetchU
  iapply (wp_wand_r frame (wpE (defs₀ (F := F)) 𝒱₀ (thr d L) none) Set.univ)
  isplitl
  · iapply (run_copy d L (src := wCut wV off inb) (dst := uRow uV b) (sm := s) (fs := fw) (fd := fu) (Sd := uSet b) (W := W)
      (Finset.subset_univ _) (Finset.Subset.refl _) (View.dmaCredit_pos _ (by decide)))
    isplitl [Hi]; · iexact Hi
    isplitl [Hj]; · iexact Hj
    isplitl [Hv]; · iexact Hv
    isplitl [HO]; · iexact HO
    iexact HM
  iintro %_ ⟨Hi, Hj, Hv, HO⟩
  isplitl [Hj]
  · iexists ((uRow uV b).view.write (Elt F) fu ((wCut wV off inb).view.read (Elt F) fw) Finset.univ)
    isplitr
    · ipureintro
      intro p
      rw [← uRow_emb b p]
      refine (View.write_emb_of_mem _ _ (Finset.mem_univ _)).trans ?_
      exact wCut_read fw off inb hoff p (by omega)
    iexact Hj
  isplitl [Hi]; · iexact Hi
  isplitl [Hv]; · iexact Hv
  iexact HO

variable (qt : PosShare TreeShare)

/-- What the gather of chunk `g` into block `b` delivers: the rows, the share of the table, the row of neighbours. -/
def Landed (b : Fin 2) (g : Fin 512) : sProp 𝕄 :=
  iprop((∃ fr, ⌜IsR fp fi b g fr⌝ ∗ rows d L b fr) ∗ tabs d L fp qt ∗ ∃ fj, nbrs (F := F) d L b fj)

/-- The units a block's arrival counts. -/
abbrev units (b : Fin 2) : ℕ := (rRow rV b).view.dmaCredit

/-- The rows of an arrival count, together, what the block counts. -/
theorem units_sum (b : Fin 2) : ∑ j, ((rRow rV b).slice (S128x2x128.rowRect gathers_S4096x2x128_S128x2x128.axis' j)
    (S128x2x128.stride_rowRect gathers_S4096x2x128_S128x2x128.axis' j)).view.dmaCredit = units b := by
  match b with
  | 0 => decide
  | 1 => decide

/-- Row `p` of the gather's payload is the row the list names. -/
theorem payload_eq (hfi : InRows fi) {b : Fin 2} {g : Fin 512} {fj : S2x128.Idx → BitVec 32}
    (hj : ∀ p : Fin 128, fj (ix2 b p) = fi (ix1 ⟨128 * g.val + p.val, by omega⟩))
    (hin : ∀ x, ((jRow jV b).view.read (Elt F) fj x).toNat < S4096x2x128.size gathers_S4096x2x128_S128x2x128.axis)
    (p : Fin 128) (h : Fin 2) (l : Fin 128) :
    SparseCore.gatherPayload (F := F) (e := .f32) gathers_S4096x2x128_S128x2x128 fp (SparseCore.rows ((jRow jV b).view.read (Elt F) fj) rfl hin) (ix3 p h l)
      = fp (ix3 (rowAt fi ⟨128 * g.val + p.val, by omega⟩) h l) := by
  refine congrArg fp (funext fun a => ?_)
  match a with
  | ⟨0, _⟩ =>
    refine (Shape.Gathers.idx_axis gathers_S4096x2x128_S128x2x128 _ _).trans (Fin.ext ?_)
    have e : S128.rowMajor.symm (p.cast rfl) = ix1 p := by
      rw [Equiv.symm_apply_eq]
      exact Fin.ext (by rw [Shape.rowMajor_val_one]; rfl)
    show ((jRow jV b).view.read (Elt F) fj (S128.rowMajor.symm (p.cast rfl))).toNat = (fi (ix1 _)).toNat % 4096
    rw [e, Nat.mod_eq_of_lt (hfi _), ← hj p]
    exact congrArg (fun z => (fj z).toNat) (jRow_emb b p)
  | ⟨1, _⟩ => exact Fin.ext (Shape.Gathers.idx_of_ne gathers_S4096x2x128_S128x2x128 _ _ 1 (by decide))
  | ⟨2, _⟩ => exact Fin.ext (Shape.Gathers.idx_of_ne gathers_S4096x2x128_S128x2x128 _ _ 2 (by decide))

/-- The gather of chunk `g` started. -/
theorem run_gather (hfi : InRows fi) (b : Fin 2) (s : DmaSems sig S_) (g : Fin 512) :
    iprop((∃ fr, rows (F := F) d L b fr) ∗ tabs d L fp qt
        ∗ (∃ fj, ⌜∀ p : Fin 128, fj (ix2 b p) = fi (ix1 ⟨128 * g.val + p.val, by omega⟩)⌝ ∗ nbrs (F := F) d L b fj) ∗ quiet d L s)
      ⊢ run (F := F) d L (gather L pV jV rV b s) fun _ =>
        Transfers.Flight countersEmb (thr d L) (.dma s.sem) none (units b) (Landed d L fp fi qt b g) := by
  iintro ⟨⟨%fr, Hr⟩, Ht, ⟨%fj, %hj, Hj⟩, Hv⟩
  have hin : ∀ x, ((jRow jV b).view.read (Elt F) fj x).toNat < S4096x2x128.size gathers_S4096x2x128_S128x2x128.axis := by
    intro x
    obtain ⟨p, rfl⟩ : ∃ p : Fin 128, x = ix1 p := ⟨x 0, eq_ix1 x⟩
    exact lt_of_eq_of_lt (congrArg BitVec.toNat ((congrArg fj (jRow_emb b p)).trans (hj p))) (hfi _)
  have hc : (gather L pV jV rV b s : TP (F := F) L PUnit) = gather L pV jV rV b s >>= fun u => pure u := (Prog.bind_pure _).symm
  rw [hc]
  unfold gather
  iapply (SparseCore.wp_indirectGatherLocal countersEmb 𝒱₀ (thr d L) none (hg := gathers_S4096x2x128_S128x2x128) (src := pAll pV) (dst := rRow rV b)
    (offs := jRow jV b) (q := qt) (qo := fullShare) none (units b) (units_sum b) (by decide) hin) $$ [Hr Ht Hj Hv]
  · isplitl [Ht]; · iexact Ht
    isplitl [Hr]; · iexact Hr
    isplitl [Hj]; · iexact Hj
    iexact Hv
  iintro HF
  rw [show (pure PUnit.unit : TP (F := F) L PUnit) = Prog.ret PUnit.unit from rfl, wp_ret]
  imodintro
  iapply (Transfers.Flight_mono countersEmb (thr d L) _) $$ HF
  unfold Landed
  iintro ⟨Hr, Ht, Hj⟩
  isplitl [Hr]
  · iexists _
    isplitr [Hr]
    rotate_left
    · iexact Hr
    ipureintro
    intro p h l
    rw [← rRow_emb b p h l]
    refine (View.write_emb_of_mem _ _ (Finset.mem_univ _)).trans ?_
    rw [pAll_read]
    exact payload_eq fp fi hfi hj hin p h l
  isplitl [Ht]; · iexact Ht
  iexists fj; iexact Hj

/-! ## A chunk -/

/-- Buffer `b` with chunk `g` begun: its rows under way, its weights in place. -/
def Inflight (b : Fin 2) (s : DmaSems sig S_) (g : Fin 512) : sProp 𝕄 :=
  iprop(Transfers.Flight countersEmb (thr d L) (.dma s.sem) none (units b) (Landed d L fp fi qt b g) ∗ ∃ fu, ⌜IsW fw b g fu⌝ ∗ wts d L b fu)

/-- Buffer `b` with nothing under way. -/
def Idle (b : Fin 2) (s : DmaSems sig S_) : sProp 𝕄 :=
  iprop((∃ fr, rows (F := F) d L b fr) ∗ tabs d L fp qt ∗ (∃ fj, nbrs (F := F) d L b fj) ∗ (∃ fu, wts (F := F) d L b fu) ∗ quiet d L s)

variable {O : CellTallies nD τ sig (HIx 1)} {W : Waits sig (HIx 1)}

/-- A chunk begun. -/
theorem run_begin (hfi : InRows fi) (b : Fin 2) (off : Fin 1 → ℕ) (inb : ∀ a, off a + S128.size a ≤ S65536.size a) (s₁ s₂ s : DmaSems sig S_)
    (g : Fin 512) (hoff : off = ![128 * g.val]) :
    iprop(Idle d L fp qt b s ∗ lists d L fi fw q ∗ quiet d L s₁ ∗ quiet d L s₂ ∗ Owes d L O W ∗ Waitable d L O)
      ⊢ run (F := F) d L (begin L pV iV wV jV uV rV b off inb s₁ s₂ s) fun _ =>
        iprop(Inflight d L fp fi fw qt b s g ∗ lists d L fi fw q ∗ quiet d L s₁ ∗ quiet d L s₂ ∗ Owes d L O W) := by
  unfold Idle begin
  iintro ⟨⟨Hr, Ht, Hj, Hu, Hv⟩, ⟨Hi, Hw⟩, H1, H2, HO, #HM⟩
  iapply (run_bind d L)
  iapply (wp_wand_r frame (wpE (defs₀ (F := F)) 𝒱₀ (thr d L) none) Set.univ)
  isplitl [Hj Hi H1 HO]
  · iapply (run_fetchJ d L fi q b off inb s₁ g hoff (W := W))
    isplitl [Hj]; · iexact Hj
    isplitl [Hi]; · iexact Hi
    isplitl [H1]; · iexact H1
    isplitl [HO]; · iexact HO
    iexact HM
  iintro %_ ⟨Hj, Hi, H1, HO⟩
  iapply (run_bind d L)
  iapply (wp_wand_r frame (wpE (defs₀ (F := F)) 𝒱₀ (thr d L) none) Set.univ)
  isplitl [Hu Hw H2 HO]
  · iapply (run_fetchU d L fw q b off inb s₂ g hoff (W := W))
    isplitl [Hu]; · iexact Hu
    isplitl [Hw]; · iexact Hw
    isplitl [H2]; · iexact H2
    isplitl [HO]; · iexact HO
    iexact HM
  iintro %_ ⟨Hu, Hw, H2, HO⟩
  iapply (wp_wand_r frame (wpE (defs₀ (F := F)) 𝒱₀ (thr d L) none) Set.univ)
  isplitl [Hr Ht Hj Hv]
  · iapply (run_gather d L fp fi qt hfi b s g)
    isplitl [Hr]; · iexact Hr
    isplitl [Ht]; · iexact Ht
    isplitl [Hj]; · iexact Hj
    iexact Hv
  iintro %_ HF
  unfold Inflight
  isplitl [HF Hu]
  · isplitl [HF]; · iexact HF
    iexact Hu
  isplitl [Hi Hw]
  · isplitl [Hi]; · iexact Hi
    iexact Hw
  isplitl [H1]; · iexact H1
  isplitl [H2]; · iexact H2
  iexact HO

/-- A chunk's rows waited for. -/
theorem run_arrive (b : Fin 2) (s : DmaSems sig S_) (g : Fin 512) :
    iprop(Transfers.Flight countersEmb (thr d L) (.dma s.sem) none (units b) (Landed d L fp fi qt b g) ∗ Owes d L O W ∗ Waitable d L O)
      ⊢ run (F := F) d L (arrive L pV rV b s) fun _ => iprop(Landed d L fp fi qt b g ∗ quiet d L s ∗ Owes d L O W) := by
  iintro ⟨HF, HO, HM⟩
  ihave ⟨%W', %hW', HO⟩ := (owes_elim d L) $$ HO
  ihave Hm := (Transfers.MayWaits.elim (.dma s.sem)) $$ HM
  unfold arrive SparseCore.waitIndirectGather
  iapply (Transfers.wp_waitLocalO countersEmb 𝒱₀ (thr d L) none none rfl (W := W')) $$ [HF HO Hm]
  · isplitl [HF]; · iexact HF
    isplitl [HO]; · iexact HO
    iexact Hm
  iintro ⟨HD, Hv, HO⟩
  rw [wp_ret]
  imodintro
  isplitl [HD]; · iexact HD
  isplitl [Hv]; · iexact Hv
  iapply (owes_wait d L hW'); iexact HO

/-- The output rows of tile `n`. -/
def tileRows (n : ℕ) : Finset S8192x256.Idx := Finset.univ.filter fun x => (x 0).val / 256 = n

/-- A row is of tile `n` exactly if it is one of its 256. -/
theorem mem_tileRows (n : ℕ) (x : S8192x256.Idx) : x ∈ tileRows n ↔ (x 0).val / 256 = n := by
  unfold tileRows; rw [Finset.mem_filter]; exact ⟨fun h => h.2, fun h => ⟨Finset.mem_univ _, h⟩⟩

/-- The tile's output rows, those before row `16 m` what they should be. -/
def Out (n m : ℕ) : sProp 𝕄 :=
  iprop(∃ fo : S8192x256.Idx → F .f32, ⌜∀ x ∈ tileRows n, (x 0).val < 16 * m → fo x = outAt fp fi fw x⌝
    ∗ (thr d L).loc main_v3_scv ↦[tileRows n]{fullShare} (fo : Buf (Elt F) ((thr d L).loc main_v3_scv)))

/-- A cut of the output: where its elements lie. -/
theorem oCut_emb (off : Fin 2 → ℕ) (inb : ∀ a, off a + S16x256.size a ≤ S8192x256.size a) {n : ℕ} (h : off = ![n, 0]) (y : S16x256.Idx) (hn : n + (y 0).val < 8192) :
    (oCut oV off inb).view.emb y = (ix2 ⟨n + (y 0).val, hn⟩ (y 1) : S8192x256.Idx) := by
  subst h
  funext a
  refine Fin.ext ((ValueKit.view_emb_slice_whole_unit_val (main_v3_scv : Ref sig .scVector) _ _ _ _ a).trans ?_)
  match a with
  | ⟨0, _⟩ => simp
  | ⟨1, _⟩ => simp

/-- and which they are. -/
theorem mem_oCut (off : Fin 2 → ℕ) (inb : ∀ a, off a + S16x256.size a ≤ S8192x256.size a) {n : ℕ} (h : off = ![n, 0]) (x : S8192x256.Idx) :
    x ∈ (oCut oV off inb).view.set ↔ n ≤ (x 0).val ∧ (x 0).val < n + 16 := by
  subst h
  refine (ValueKit.mem_set_slice_whole_iff (main_v3_scv : Ref sig .scVector) _ x Rect.mem_set_unit).trans ?_
  have h1 : (x 1).val < 256 := (x 1).isLt
  refine ⟨fun h => ?_, fun h a => ?_⟩
  · have := h 0; simp at this; omega
  · match a with
    | 0 => simp; omega
    | 1 => simp; omega

/-- The chunk's rows shipped. -/
theorem run_ship (off : Fin 2 → ℕ) (inb : ∀ a, off a + S16x256.size a ≤ S8192x256.size a) (s : DmaSems sig S_) (g : Fin 512)
    (hoff : off = ![16 * g.val, 0]) {n : ℕ} (hn : g.val / 16 = n) (hA : (aV).IsWhole) {b : Fin 2} {fu : S2x128.Idx → F .f32} {fr : S2x128x2x128.Idx → F .f32}
    (hu : IsW fw b g fu) (hr : IsR fp fi b g fr) (fa : Buf (Elt F) ((thr d L).loc cc0_scratch3)) (hfa : ∀ x, fa x = cell fu fr b x) :
    iprop(acc d L fa ∗ Out d L fp fi fw n g.val ∗ quiet d L s ∗ Owes d L O W ∗ Waitable d L O)
      ⊢ run (F := F) d L (ship L oV aV hA off inb s) fun _ =>
        iprop((∃ fa, acc (F := F) d L fa) ∗ Out d L fp fi fw n (g.val + 1) ∗ quiet d L s ∗ Owes d L O W) := by
  unfold Out
  iintro ⟨Ha, ⟨%fo, %hfo, Ho⟩, Hv, HO, HM⟩
  unfold ship
  have hsub : (oCut oV off inb).view.set ⊆ tileRows n := by
    intro x hx
    have := (mem_oCut off inb hoff x).mp hx
    rw [mem_tileRows]; omega
  iapply (wp_wand_r frame (wpE (defs₀ (F := F)) 𝒱₀ (thr d L) none) Set.univ)
  isplitl
  · iapply (run_copy d L (src := aV) (dst := oCut oV off inb) (sm := s) (fs := fa) (fd := fo) (Sd := tileRows n) (W := W)
      (Finset.subset_univ _) hsub (View.dmaCredit_pos _ (by decide)))
    isplitl [Ha]; · iexact Ha
    isplitl [Ho]; · iexact Ho
    isplitl [Hv]; · iexact Hv
    isplitl [HO]; · iexact HO
    iexact HM
  iintro %_ ⟨Ha, Ho, Hv, HO⟩
  isplitl [Ha]; · iexists fa; iexact Ha
  isplitl [Ho]
  · iexists ((oCut oV off inb).view.write (Elt F) fo ((aV).view.read (Elt F) fa) Finset.univ)
    isplitr
    · ipureintro
      intro x hx hlt
      by_cases h : (x 0).val < 16 * g.val
      · have hnot : x ∉ (oCut oV off inb).view.setOn Finset.univ := fun hm =>
          absurd ((mem_oCut off inb hoff x).mp hm).1 (by omega)
        exact (View.write_of_not_mem _ _ _ hnot).trans (hfo x hx h)
      · obtain ⟨y, hy0, hy1⟩ : ∃ y : S16x256.Idx, (x 0).val = 16 * g.val + (y 0).val ∧ (x 1).val = (y 1).val :=
          ⟨ix2 ⟨(x 0).val - 16 * g.val, by omega⟩ ⟨(x 1).val, (x 1).isLt⟩, by show (x 0).val = 16 * g.val + ((x 0).val - 16 * g.val); omega, rfl⟩
        have hx0 : (x 0).val < 8192 := (x 0).isLt
        have e : (oCut oV off inb).view.emb y = x := by
          rw [oCut_emb off inb hoff y (by omega)]
          funext a
          match a with
          | ⟨0, _⟩ => exact Fin.ext hy0.symm
          | ⟨1, _⟩ => exact Fin.ext hy1.symm
        rw [← e]
        refine (View.write_emb_of_mem _ _ (Finset.mem_univ _)).trans ?_
        rw [e]
        exact (hfa y).trans (cell_eq hu hr y x hy0 hy1)
    iexact Ho
  isplitl [Hv]; · iexact Hv
  iexact HO

/-- What a half of a trip leaves of buffer `b`: the chunk after next begun, or nothing under way after the last trip. -/
def Refilled (b : Fin 2) (s : DmaSems sig S_) (cond : BitVec 1) (g : Fin 512) : sProp 𝕄 :=
  if cond = 1#1 then Inflight d L fp fi fw qt b s g else Idle d L fp qt b s

/-- The chunk after next begun, unless there is none. -/
theorem run_refill (hfi : InRows fi) (b : Fin 2) (cond : BitVec 1) (off : Fin 1 → ℕ) (inb : cond = 1#1 → ∀ a, off a + S128.size a ≤ S65536.size a)
    (s₁ s₂ s : DmaSems sig S_) (v : BitVec 32) (g : Fin 512) (hoff : cond = 1#1 → off = ![128 * g.val]) :
    iprop(Idle d L fp qt b s ∗ lists d L fi fw q ∗ quiet d L s₁ ∗ quiet d L s₂ ∗ Owes d L O W ∗ Waitable d L O)
      ⊢ run (F := F) d L (refill L pV iV wV jV uV rV b cond off inb s₁ s₂ s v) fun _ =>
        iprop(Refilled d L fp fi fw qt b s cond g ∗ lists d L fi fw q ∗ quiet d L s₁ ∗ quiet d L s₂ ∗ Owes d L O W) := by
  unfold refill Refilled
  by_cases h : cond = 1#1
  · rw [dif_pos h]
    simp only [if_pos h]
    iintro H
    iapply (run_bind d L)
    iapply (wp_wand_r frame (wpE (defs₀ (F := F)) 𝒱₀ (thr d L) none) Set.univ)
    isplitl
    · iapply (run_begin d L fp fi fw q qt hfi b off (inb h) s₁ s₂ s g (hoff h) (W := W)); iexact H
    iintro %_ H
    iapply (run_pure d L)
    iexact H
  · rw [dif_neg h]
    simp only [if_neg h]
    iintro ⟨H, Hl, H1, H2, HO, HM⟩
    iapply (run_pure d L)
    isplitl [H]; · iexact H
    isplitl [Hl]; · iexact Hl
    isplitl [H1]; · iexact H1
    isplitl [H2]; · iexact H2
    iexact HO

/-- One half of a trip: chunk `g`, begun in buffer `b`, becomes its sixteen output rows, and the buffer is refilled. -/
theorem run_half (hfi : InRows fi) (hA : (aV).IsWhole) (l : Scf.Loop 32) (ok : l.OK) (hl : l.trips = 8) {b : Fin 2} (C : (j : Fin 16) → Col l.trips b j)
    (woff : Fin l.trips → Fin 2 → ℕ) (win : ∀ q a, woff q a + S1x16.size a ≤ S2x128.size a) (hwoff : ∀ q, woff q = ![b.val, 16 * q.val])
    (oOff : Fin 2 → ℕ) (oInb : ∀ a, oOff a + S16x256.size a ≤ S8192x256.size a)
    (cond : BitVec 1) (off : Fin 1 → ℕ) (inb : cond = 1#1 → ∀ a, off a + S128.size a ≤ S65536.size a) (s : Sems) (v : BitVec 32)
    (g : Fin 512) {n : ℕ} (hn : g.val / 16 = n) (hoOff : oOff = ![16 * g.val, 0]) (g' : Fin 512) (hoff : cond = 1#1 → off = ![128 * g'.val]) :
    iprop(Inflight d L fp fi fw qt b s.g g ∗ (∃ fa, acc (F := F) d L fa) ∗ Out d L fp fi fw n g.val ∗ lists d L fi fw q
        ∗ quiet d L s.o ∗ quiet d L s.s₁ ∗ quiet d L s.s₂ ∗ Owes d L O W ∗ Waitable d L O)
      ⊢ run (F := F) d L (half L pV iV wV oV jV uV rV aV hA l ok C woff win oOff oInb cond off inb s v) fun _ =>
        iprop(Refilled d L fp fi fw qt b s.g cond g' ∗ (∃ fa, acc (F := F) d L fa) ∗ Out d L fp fi fw n (g.val + 1) ∗ lists d L fi fw q
          ∗ quiet d L s.o ∗ quiet d L s.s₁ ∗ quiet d L s.s₂ ∗ Owes d L O W) := by
  unfold Inflight half
  iintro ⟨⟨HF, ⟨%fu, %hu, Hu⟩⟩, Ha, Ho, Hl, Hso, H1, H2, HO, #HM⟩
  iapply (run_bind d L)
  iapply (wp_wand_r frame (wpE (defs₀ (F := F)) 𝒱₀ (thr d L) none) Set.univ)
  isplitl [HF HO]
  · iapply (run_arrive d L fp fi qt b s.g g (W := W))
    isplitl [HF]; · iexact HF
    isplitl [HO]; · iexact HO
    iexact HM
  iintro %_ ⟨HD, Hv, HO⟩
  unfold Landed
  icases HD with ⟨⟨%fr, %hr, Hr⟩, Ht, Hj⟩
  iapply (run_bind d L)
  iapply (wp_wand_r frame (wpE (defs₀ (F := F)) 𝒱₀ (thr d L) none) Set.univ)
  isplitl [Hu Hr Ha]
  · iapply (run_pairs d L fr l ok hl C woff win hwoff fu)
    isplitl [Hu]; · iexact Hu
    isplitl [Hr]; · iexact Hr
    iexact Ha
  iintro %_ ⟨Hu, Hr, ⟨%fa, %hfa, Ha⟩⟩
  iapply (run_bind d L)
  iapply (wp_wand_r frame (wpE (defs₀ (F := F)) 𝒱₀ (thr d L) none) Set.univ)
  isplitl [Ha Ho Hso HO]
  · iapply (run_ship d L fp fi fw oOff oInb s.o g hoOff hn hA hu hr fa hfa (W := W))
    isplitl [Ha]; · iexact Ha
    isplitl [Ho]; · iexact Ho
    isplitl [Hso]; · iexact Hso
    isplitl [HO]; · iexact HO
    iexact HM
  iintro %_ ⟨Ha, Ho, Hso, HO⟩
  iapply (wp_wand_r frame (wpE (defs₀ (F := F)) 𝒱₀ (thr d L) none) Set.univ)
  isplitl [Hr Ht Hj Hu Hv Hl H1 H2 HO]
  · iapply (run_refill d L fp fi fw q qt hfi b cond off inb s.s₁ s.s₂ s.g v g' hoff (W := W))
    isplitl [Hr Ht Hj Hu Hv]
    · unfold Idle
      isplitl [Hr]; · iexists fr; iexact Hr
      isplitl [Ht]; · iexact Ht
      isplitl [Hj]; · iexact Hj
      isplitl [Hu]; · iexists fu; iexact Hu
      iexact Hv
    isplitl [Hl]; · iexact Hl
    isplitl [H1]; · iexact H1
    isplitl [H2]; · iexact H2
    isplitl [HO]; · iexact HO
    iexact HM
  iintro %_ ⟨HR, Hl, H1, H2, HO⟩
  isplitl [HR]; · iexact HR
  isplitl [Ha]; · iexact Ha
  isplitl [Ho]; · iexact Ho
  isplitl [Hl]; · iexact Hl
  isplitl [Hso]; · iexact Hso
  isplitl [H1]; · iexact H1
  isplitl [H2]; · iexact H2
  iexact HO

end Cert.Proof.Gather
-- ==== Proof.Tile.lean ====
/-
  A tile's whole task: two chunks begun, then eight trips of two chunks each; its 256 output rows are what they should be.
-/
module

public import proofs.«01_k».proof.Proof.Half

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] (d : Dev nD) (L : grid0.Coords)

local notation "𝕄" => MT nD τ sig (HIx 1) (Elt F) ℕ UU ℕ

variable (fp : S4096x2x128.Idx → F .f32) (fi : S65536.Idx → BitVec 32) (fw : S65536.Idx → F .f32)
  (q qt₀ qt₁ : PosShare TreeShare) {O : CellTallies nD τ sig (HIx 1)} {W : Waits sig (HIx 1)}

/-- A tile's number, in the order of its output rows. -/
abbrev tileNo : ℕ := 2 * (L 1).val + (L 0).val

/-- There are thirty-two tiles. -/
theorem tileNo_lt : tileNo L < 32 := by
  have h0 : (L 0).val < 2 := (L 0).isLt
  have h1 : (L 1).val < 16 := (L 1).isLt
  show 2 * (L 1).val + (L 0).val < 32
  omega

/-- The tile's chunk `k`, among all the chunks. -/
def chunk (k : ℕ) : Fin 512 := ⟨(16 * tileNo L + k) % 512, Nat.mod_lt _ (by omega)⟩

/-- A tile has sixteen chunks, in a row. -/
theorem chunk_val {k : ℕ} (h : k < 16) : (chunk L k).val = 16 * tileNo L + k := by
  have := tileNo_lt L
  exact Nat.mod_eq_of_lt (by omega)

/-- Buffer `b` before trip `t`: its chunk of the trip begun, nothing under way after the last. -/
def Ahead (qt : PosShare TreeShare) (b : Fin 2) (s : DmaSems sig S_) (t : ℕ) : sProp 𝕄 :=
  if t < 8 then Inflight d L fp fi fw qt b s (chunk L (2 * t + b.val)) else Idle d L fp qt b s

/-- The first buffer is refilled in every trip but the last, -/
theorem cond1_iff : ∀ t : Fin k0_t1_loop.trips, k0_cond1 t = 1#1 ↔ t.val + 1 < 8 := by decide
/-- and so is the second. -/
theorem cond2_iff : ∀ t : Fin k0_t1_loop.trips, k0_cond2 t = 1#1 ↔ t.val + 1 < 8 := by decide
/-- A tile makes eight trips, -/
theorem trips1 : k0_t1_loop.trips = 8 := by decide
/-- and sums eight pairs of points in the first buffer -/
theorem trips2 : k0_t2_loop.trips = 8 := by decide
/-- and in the second. -/
theorem trips3 : k0_t3_loop.trips = 8 := by decide

/-- A refilled buffer is the buffer before the next trip. -/
theorem refilled_ahead {qt : PosShare TreeShare} {b : Fin 2} {s : DmaSems sig S_} {cond : BitVec 1} (t : ℕ) (h : cond = 1#1 ↔ t + 1 < 8) :
    Refilled d L fp fi fw qt b s cond (chunk L (2 * (t + 1) + b.val))
      ⊢ iprop(if t + 1 < 8 then Inflight d L fp fi fw qt b s (chunk L (2 * (t + 1) + b.val)) else Idle d L fp qt b s) := by
  unfold Refilled
  by_cases hc : t + 1 < 8
  · rw [if_pos hc, if_pos (h.mpr hc)]
  · rw [if_neg hc, if_neg (fun h' => hc (h.mp h'))]

/-- What a tile keeps beside its two buffers: before trip `t`, the first `32 t` of its output rows done. -/
def Kept (O : CellTallies nD τ sig (HIx 1)) (W : Waits sig (HIx 1)) (m : ℕ) : sProp 𝕄 :=
  iprop((∃ fa, acc (F := F) d L fa) ∗ Out d L fp fi fw (tileNo L) m ∗ lists d L fi fw q ∗ Owes d L O W)

/-- The counters of a half that are at zero between halves. -/
def Still (s : Sems) : sProp 𝕄 := iprop(quiet d L s.o ∗ quiet d L s.s₁ ∗ quiet d L s.s₂)

/-- A trip's first half. -/
theorem run_half0 (hfi : InRows fi) (hA : (aV).IsWhole) (t : Fin k0_t1_loop.trips) (v : BitVec 32) :
    iprop(Ahead d L fp fi fw qt₀ 0 sems0.g t.val ∗ Kept d L fp fi fw q O W (16 * tileNo L + 2 * t.val) ∗ Still (F := F) d L sems0 ∗ Waitable d L O)
      ⊢ run (F := F) d L (half0 L pV iV wV oV jV uV rV aV hA t v) fun _ =>
        iprop(Ahead d L fp fi fw qt₀ 0 sems0.g (t.val + 1) ∗ Kept d L fp fi fw q O W (16 * tileNo L + 2 * t.val + 1) ∗ Still (F := F) d L sems0) := by
  have ht : t.val < 8 := by have := t.isLt; have := trips1; omega
  have hg := chunk_val L (k := 2 * t.val + 0) (by omega)
  have hcond := cond1_iff t
  have e1 : (16 * tileNo L + 2 * t.val) = (chunk L (2 * t.val + 0)).val := by rw [hg]; omega
  unfold Ahead Kept Still half0
  rw [if_pos ht, e1]
  iintro ⟨HF, ⟨Ha, Ho, Hl, HO⟩, ⟨H1, H2, H3⟩, HM⟩
  iapply (wp_wand_r frame (wpE (defs₀ (F := F)) 𝒱₀ (thr d L) none) Set.univ)
  isplitl
  · have h1 : (chunk L (2 * t.val + 0)).val / 16 = tileNo L := by rw [hg]; omega
    have h2 : k0_off51 L t 0#32 = ![16 * (chunk L (2 * t.val + 0)).val, 0] := by
      refine (k0_off51_eq L t 0).trans ?_
      rw [hg]
      congr 1
      show 512 * (L 1).val + 256 * (L 0).val + 32 * t.val + 16 * 0 = 16 * (16 * (2 * (L 1).val + (L 0).val) + (2 * t.val + 0))
      omega
    have h3 : k0_cond1 t = 1#1 → k0_off52 L t = ![128 * (chunk L (2 * (t.val + 1) + (0 : Fin 2).val)).val] := by
      intro hc
      have hc' := hcond.mp hc
      rw [chunk_val L (show 2 * (t.val + 1) + (0 : Fin 2).val < 16 by show 2 * (t.val + 1) + 0 < 16; omega)]
      refine (k0_off52_eq L t).trans ?_
      congr 1
      show 4096 * (L 1).val + 2048 * (L 0).val + 256 * t.val + 256 = 128 * (16 * (2 * (L 1).val + (L 0).val) + (2 * (t.val + 1) + 0))
      omega
    iapply (run_half d L fp fi fw q qt₀ hfi hA k0_t2_loop k0_t2_ok trips2 cols0 k0_off2 k0_off2_inb k0_off2_eq (k0_off51 L t 0#32) (k0_off51_inb L t 0)
      (k0_cond1 t) (k0_off52 L t) (k0_off52_inb L t) sems0 v (chunk L (2 * t.val + 0)) h1 h2 (chunk L (2 * (t.val + 1) + (0 : Fin 2).val)) h3 (O := O) (W := W))
    isplitl [HF]; · iexact HF
    isplitl [Ha]; · iexact Ha
    isplitl [Ho]; · iexact Ho
    isplitl [Hl]; · iexact Hl
    isplitl [H1]; · iexact H1
    isplitl [H2]; · iexact H2
    isplitl [H3]; · iexact H3
    isplitl [HO]; · iexact HO
    iexact HM
  iintro %_ ⟨HR, Ha, Ho, Hl, H1, H2, H3, HO⟩
  isplitl [HR]
  · iapply (refilled_ahead d L fp fi fw _ hcond); iexact HR
  isplitl [Ha Ho Hl HO]
  · isplitl [Ha]; · iexact Ha
    isplitl [Ho]; · iexact Ho
    isplitl [Hl]; · iexact Hl
    iexact HO
  isplitl [H1]; · iexact H1
  isplitl [H2]; · iexact H2
  iexact H3

/-- A trip's second half. -/
theorem run_half1 (hfi : InRows fi) (hA : (aV).IsWhole) (t : Fin k0_t1_loop.trips) (v : BitVec 32) :
    iprop(Ahead d L fp fi fw qt₁ 1 sems1.g t.val ∗ Kept d L fp fi fw q O W (16 * tileNo L + 2 * t.val + 1) ∗ Still (F := F) d L sems1 ∗ Waitable d L O)
      ⊢ run (F := F) d L (half1 L pV iV wV oV jV uV rV aV hA t v) fun _ =>
        iprop(Ahead d L fp fi fw qt₁ 1 sems1.g (t.val + 1) ∗ Kept d L fp fi fw q O W (16 * tileNo L + 2 * (t.val + 1)) ∗ Still (F := F) d L sems1) := by
  have ht : t.val < 8 := by have := t.isLt; have := trips1; omega
  have hg := chunk_val L (k := 2 * t.val + 1) (by omega)
  have hcond := cond2_iff t
  have e1 : (16 * tileNo L + 2 * t.val + 1) = (chunk L (2 * t.val + 1)).val := by rw [hg]; omega
  have e2 : 16 * tileNo L + 2 * (t.val + 1) = (chunk L (2 * t.val + 1)).val + 1 := by rw [hg]; omega
  unfold Ahead Kept Still half1
  rw [if_pos ht, e1, e2]
  iintro ⟨HF, ⟨Ha, Ho, Hl, HO⟩, ⟨H1, H2, H3⟩, HM⟩
  iapply (wp_wand_r frame (wpE (defs₀ (F := F)) 𝒱₀ (thr d L) none) Set.univ)
  isplitl
  · have h1 : (chunk L (2 * t.val + 1)).val / 16 = tileNo L := by rw [hg]; omega
    have h2 : k0_off51 L t 1#32 = ![16 * (chunk L (2 * t.val + 1)).val, 0] := by
      refine (k0_off51_eq L t 1).trans ?_
      rw [hg]
      congr 1
      show 512 * (L 1).val + 256 * (L 0).val + 32 * t.val + 16 * 1 = 16 * (16 * (2 * (L 1).val + (L 0).val) + (2 * t.val + 1))
      omega
    have h3 : k0_cond2 t = 1#1 → k0_off102 L t = ![128 * (chunk L (2 * (t.val + 1) + (1 : Fin 2).val)).val] := by
      intro hc
      have hc' := hcond.mp hc
      rw [chunk_val L (show 2 * (t.val + 1) + (1 : Fin 2).val < 16 by show 2 * (t.val + 1) + 1 < 16; omega)]
      refine (k0_off102_eq L t).trans ?_
      congr 1
      show 4096 * (L 1).val + 2048 * (L 0).val + 256 * t.val + 384 = 128 * (16 * (2 * (L 1).val + (L 0).val) + (2 * (t.val + 1) + 1))
      omega
    iapply (run_half d L fp fi fw q qt₁ hfi hA k0_t3_loop k0_t3_ok trips3 cols1 k0_off53 k0_off53_inb k0_off53_eq (k0_off51 L t 1#32) (k0_off51_inb L t 1)
      (k0_cond2 t) (k0_off102 L t) (k0_off102_inb L t) sems1 v (chunk L (2 * t.val + 1)) h1 h2 (chunk L (2 * (t.val + 1) + (1 : Fin 2).val)) h3 (O := O) (W := W))
    isplitl [HF]; · iexact HF
    isplitl [Ha]; · iexact Ha
    isplitl [Ho]; · iexact Ho
    isplitl [Hl]; · iexact Hl
    isplitl [H1]; · iexact H1
    isplitl [H2]; · iexact H2
    isplitl [H3]; · iexact H3
    isplitl [HO]; · iexact HO
    iexact HM
  iintro %_ ⟨HR, Ha, Ho, Hl, H1, H2, H3, HO⟩
  isplitl [HR]
  · iapply (refilled_ahead d L fp fi fw _ hcond); iexact HR
  isplitl [Ha Ho Hl HO]
  · isplitl [Ha]; · iexact Ha
    isplitl [Ho]; · iexact Ho
    isplitl [Hl]; · iexact Hl
    iexact HO
  isplitl [H1]; · iexact H1
  isplitl [H2]; · iexact H2
  iexact H3

/-- A tile before trip `t`. -/
def Inv (O : CellTallies nD τ sig (HIx 1)) (W : Waits sig (HIx 1)) (t : ℕ) : sProp 𝕄 :=
  iprop(Ahead d L fp fi fw qt₀ 0 sems0.g t ∗ Ahead d L fp fi fw qt₁ 1 sems1.g t ∗ Kept d L fp fi fw q O W (16 * tileNo L + 2 * t)
    ∗ Still (F := F) d L sems0 ∗ Still (F := F) d L sems1)

/-- A trip. -/
theorem run_trip (hfi : InRows fi) (hA : (aV).IsWhole) (t : Fin k0_t1_loop.trips) :
    iprop(Inv d L fp fi fw q qt₀ qt₁ O W t.val ∗ Waitable d L O)
      ⊢ run (F := F) d L (trip L pV iV wV oV jV uV rV aV hA t) fun _ => Inv d L fp fi fw q qt₀ qt₁ O W (t.val + 1) := by
  unfold Inv trip
  iintro ⟨⟨H0, H1, Hk, Hs0, Hs1⟩, #HM⟩
  iapply (run_bind d L)
  iapply (wp_wand_r frame (wpE (defs₀ (F := F)) 𝒱₀ (thr d L) none) Set.univ)
  isplitl [H0 Hk Hs0]
  · iapply (run_half0 d L fp fi fw q qt₀ hfi hA t _ (O := O) (W := W))
    isplitl [H0]; · iexact H0
    isplitl [Hk]; · iexact Hk
    isplitl [Hs0]; · iexact Hs0
    iexact HM
  iintro %_ ⟨H0, Hk, Hs0⟩
  iapply (wp_wand_r frame (wpE (defs₀ (F := F)) 𝒱₀ (thr d L) none) Set.univ)
  isplitl [H1 Hk Hs1]
  · iapply (run_half1 d L fp fi fw q qt₁ hfi hA t _ (O := O) (W := W))
    isplitl [H1]; · iexact H1
    isplitl [Hk]; · iexact Hk
    isplitl [Hs1]; · iexact Hs1
    iexact HM
  iintro %_ ⟨H1, Hk, Hs1⟩
  isplitl [H0]; · iexact H0
  isplitl [H1]; · iexact H1
  isplitl [Hk]; · iexact Hk
  isplitl [Hs0]; · iexact Hs0
  iexact Hs1

/-- The four counters of the task's two first fetches. -/
def First : sProp 𝕄 :=
  iprop(quiet (F := F) d L cc0_scoped0 ∗ quiet (F := F) d L cc0_scoped1 ∗ quiet (F := F) d L cc0_scoped2 ∗ quiet (F := F) d L cc0_scoped3)

set_option maxRecDepth 8192 in
/-- The task: its output rows are what they should be, everything else as it was. -/
theorem run_task (hfi : InRows fi) (hA : (aV).IsWhole) :
    iprop(Idle d L fp qt₀ 0 sems0.g ∗ Idle d L fp qt₁ 1 sems1.g ∗ Kept d L fp fi fw q O W (16 * tileNo L)
        ∗ Still (F := F) d L sems0 ∗ Still (F := F) d L sems1 ∗ First (F := F) d L ∗ Waitable d L O)
      ⊢ run (F := F) d L (task L pV iV wV oV jV uV rV aV hA) fun _ =>
        iprop(Idle d L fp qt₀ 0 sems0.g ∗ Idle d L fp qt₁ 1 sems1.g ∗ Kept d L fp fi fw q O W (16 * tileNo L + 16)
          ∗ Still (F := F) d L sems0 ∗ Still (F := F) d L sems1 ∗ First (F := F) d L) := by
  unfold First task
  iintro ⟨H0, H1, Hk, Hs0, Hs1, ⟨Hf0, Hf1, Hf2, Hf3⟩, #HM⟩
  unfold Kept
  icases Hk with ⟨Ha, Ho, Hl, HO⟩
  have hoff0 : k0_off1 L 0#32 = ![128 * (chunk L 0).val] := by
    refine (k0_off1_eq L 0).trans ?_
    rw [chunk_val L (by omega)]
    congr 1
    show 4096 * (L 1).val + 2048 * (L 0).val + 128 * 0 = 128 * (16 * (2 * (L 1).val + (L 0).val) + 0)
    omega
  have hoff1 : k0_off1 L 16#32 = ![128 * (chunk L 1).val] := by
    refine (k0_off1_eq L 1).trans ?_
    rw [chunk_val L (by omega)]
    congr 1
    show 4096 * (L 1).val + 2048 * (L 0).val + 128 * 1 = 128 * (16 * (2 * (L 1).val + (L 0).val) + 1)
    omega
  iapply (run_bind d L)
  iapply (wp_wand_r frame (wpE (defs₀ (F := F)) 𝒱₀ (thr d L) none) Set.univ)
  isplitl [H0 Hl Hf0 Hf1 HO]
  · iapply (run_begin d L fp fi fw q qt₀ hfi 0 (k0_off1 L 0#32) (k0_off1_inb L 0) cc0_scoped0 cc0_scoped1 cc0_scratch4 (chunk L 0) hoff0 (O := O) (W := W))
    isplitl [H0]; · iexact H0
    isplitl [Hl]; · iexact Hl
    isplitl [Hf0]; · iexact Hf0
    isplitl [Hf1]; · iexact Hf1
    isplitl [HO]; · iexact HO
    iexact HM
  iintro %_ ⟨H0, Hl, Hf0, Hf1, HO⟩
  iapply (run_bind d L)
  iapply (wp_wand_r frame (wpE (defs₀ (F := F)) 𝒱₀ (thr d L) none) Set.univ)
  isplitl [H1 Hl Hf2 Hf3 HO]
  · iapply (run_begin d L fp fi fw q qt₁ hfi 1 (k0_off1 L 16#32) (k0_off1_inb L 1) cc0_scoped2 cc0_scoped3 cc0_scratch5 (chunk L 1) hoff1 (O := O) (W := W))
    isplitl [H1]; · iexact H1
    isplitl [Hl]; · iexact Hl
    isplitl [Hf2]; · iexact Hf2
    isplitl [Hf3]; · iexact Hf3
    isplitl [HO]; · iexact HO
    iexact HM
  iintro %_ ⟨H1, Hl, Hf2, Hf3, HO⟩
  iapply (run_bind d L)
  iapply (wp_wand_r frame (wpE (defs₀ (F := F)) 𝒱₀ (thr d L) none) Set.univ)
  have hbody : ∀ (t : Fin k0_t1_loop.trips) (_ : BitVec 32), iprop(Inv d L fp fi fw q qt₀ qt₁ O W t.val ∗ Waitable d L O)
      ⊢ run (F := F) d L (trip L pV iV wV oV jV uV rV aV hA t) fun _ => iprop(Inv d L fp fi fw q qt₀ qt₁ O W (t.val + 1) ∗ Waitable d L O) := by
    intro t _
    iintro ⟨HI, #HM⟩
    iapply (wp_wand_r frame (wpE (defs₀ (F := F)) 𝒱₀ (thr d L) none) Set.univ)
    isplitl
    · iapply (run_trip d L fp fi fw q qt₀ qt₁ hfi hA t (O := O) (W := W))
      isplitl [HI]; · iexact HI
      iexact HM
    iintro %_ HI
    isplitl [HI]; · iexact HI
    iexact HM
  isplitl [H0 H1 Ha Ho Hl HO Hs0 Hs1]
  · iapply (Scf.wp_for frame (wpE (defs₀ (F := F)) 𝒱₀ (thr d L) none) Set.univ _ _ _ k0_t1_ok (0#32 : BitVec 32)
      (fun t _ => trip L pV iV wV oV jV uV rV aV hA t) (fun t _ => iprop(Inv d L fp fi fw q qt₀ qt₁ O W t ∗ Waitable d L O)) hbody)
    isplitl
    · isplitl
      · unfold Inv Ahead Kept
        rw [if_pos (by omega), if_pos (by omega)]
        isplitl [H0]; · iexact H0
        isplitl [H1]; · iexact H1
        isplitl [Ha Ho Hl HO]
        · isplitl [Ha]; · iexact Ha
          isplitl [Ho]; · iexact Ho
          isplitl [Hl]; · iexact Hl
          iexact HO
        isplitl [Hs0]; · iexact Hs0
        iexact Hs1
      iexact HM
    iintro %_ H
    iexact H
  iintro %_ ⟨H, -⟩
  iapply (run_pure d L)
  rw [show Scf.trips k0_t1_loop.lb k0_t1_loop.ub k0_t1_loop.st = 8 from trips1]
  unfold Inv Ahead Kept
  rw [if_neg (by omega), if_neg (by omega)]
  icases H with ⟨H0, H1, Hk, Hs0, Hs1⟩
  isplitl [H0]; · iexact H0
  isplitl [H1]; · iexact H1
  isplitl [Hk]; · iexact Hk
  isplitl [Hs0]; · iexact Hs0
  isplitl [Hs1]; · iexact Hs1
  isplitl [Hf0]; · iexact Hf0
  isplitl [Hf1]; · iexact Hf1
  isplitl [Hf2]; · iexact Hf2
  iexact Hf3

end Cert.Proof.Gather
-- ==== Proof.Storage.lean ====
/-
  A tile's own storage: its two-row buffers as their two rows, its buffers and counters taken out of all that it owns.
-/
module

public import proofs.«01_k».proof.Proof.Tile
public import Idealize.ShloMosaic.Lib.SparseCore.Launch

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] (d : Dev nD) (L : grid0.Coords)

local notation "𝕄" => MT nD τ sig (HIx 1) (Elt F) ℕ UU ℕ

/-! ## Buffers of two rows -/

/-- A buffer at some contents is its two rows, each at some contents. -/
theorem two_rows {ℓ : Loc nD τ sig} (K : Fin 2 → Finset (Idx ℓ)) (hd : Disjoint (K 0) (K 1)) (hc : K 0 ∪ K 1 = Finset.univ) :
    (iprop(∃ f : Buf (Elt F) ℓ, ℓ ↦{fullShare} f) : sProp 𝕄)
      = iprop((∃ f : Buf (Elt F) ℓ, ℓ ↦[K 0]{fullShare} f) ∗ ∃ f : Buf (Elt F) ℓ, ℓ ↦[K 1]{fullShare} f) := by
  have hs : (Finset.univ : Finset (Idx ℓ)) \ K 0 = K 1 := by
    ext x
    rw [Finset.mem_sdiff]
    constructor
    · intro h
      rcases Finset.mem_union.mp (hc ▸ h.1) with h' | h'
      · exact absurd h' h.2
      · exact h'
    · intro h
      exact ⟨Finset.mem_univ x, Finset.disjoint_right.mp hd h⟩
  have cut : (iprop(∃ f : Buf (Elt F) ℓ, ℓ ↦{fullShare} f) : sProp 𝕄)
      ⊢ iprop((∃ f : Buf (Elt F) ℓ, ℓ ↦[K 0]{fullShare} f) ∗ ∃ f : Buf (Elt F) ℓ, ℓ ↦[K 1]{fullShare} f) := by
    iintro ⟨%f, H⟩
    ihave H' := (pointsTo_split_subset (q := fullShare) (f := f) (Finset.subset_univ (K 0))).1 $$ H
    rw [hs]
    icases H' with ⟨H0, H1⟩
    isplitl [H0]
    · iexists f; iexact H0
    · iexists f; iexact H1
  have join : (iprop((∃ f : Buf (Elt F) ℓ, ℓ ↦[K 0]{fullShare} f) ∗ ∃ f : Buf (Elt F) ℓ, ℓ ↦[K 1]{fullShare} f) : sProp 𝕄)
      ⊢ iprop(∃ f : Buf (Elt F) ℓ, ℓ ↦{fullShare} f) := by
    iintro ⟨⟨%f, H0⟩, ⟨%g, H1⟩⟩
    ihave H := (pointsTo_join (f := f) (g := g) (q := fullShare) hd) $$ [H0 H1]
    · isplitl [H0]; · iexact H0
      iexact H1
    rw [hc]
    iexists ((K 1).piecewise g f)
    iexact H
  exact BI.Entails.antisymm cut join

/-- The neighbours' buffer is its two rows, -/
theorem jRows : (iprop(∃ f, (thr d L).loc cc0_scratch0 ↦{fullShare} f) : sProp 𝕄)
    = iprop((∃ f, nbrs (F := F) d L 0 f) ∗ ∃ f, nbrs (F := F) d L 1 f) := by
  refine two_rows (ℓ := (thr d L).loc cc0_scratch0) jSet ?_ ?_
  · refine Finset.disjoint_left.mpr fun x h h' => ?_
    have := (mem_jSet 0 x).mp h; have := (mem_jSet 1 x).mp h'; simp_all
  · ext x
    have h : (x 0).val < 2 := (x 0).isLt
    have e : x ∈ jSet 0 ∪ jSet 1 := by
      rw [Finset.mem_union, mem_jSet, mem_jSet]
      show (x 0).val = 0 ∨ (x 0).val = 1
      omega
    exact ⟨fun _ => Finset.mem_univ _, fun _ => e⟩
/-- so is the weights', -/
theorem uRows : (iprop(∃ f, (thr d L).loc cc0_scratch1 ↦{fullShare} f) : sProp 𝕄)
    = iprop((∃ f, wts (F := F) d L 0 f) ∗ ∃ f, wts (F := F) d L 1 f) := by
  refine two_rows (ℓ := (thr d L).loc cc0_scratch1) uSet ?_ ?_
  · refine Finset.disjoint_left.mpr fun x h h' => ?_
    have := (mem_uSet 0 x).mp h; have := (mem_uSet 1 x).mp h'; simp_all
  · ext x
    have h : (x 0).val < 2 := (x 0).isLt
    have e : x ∈ uSet 0 ∪ uSet 1 := by
      rw [Finset.mem_union, mem_uSet, mem_uSet]
      show (x 0).val = 0 ∨ (x 0).val = 1
      omega
    exact ⟨fun _ => Finset.mem_univ _, fun _ => e⟩
/-- and the rows' buffer is its two blocks. -/
theorem rRows : (iprop(∃ f, (thr d L).loc cc0_scratch2 ↦{fullShare} f) : sProp 𝕄)
    = iprop((∃ f, rows (F := F) d L 0 f) ∗ ∃ f, rows (F := F) d L 1 f) := by
  refine two_rows (ℓ := (thr d L).loc cc0_scratch2) rSet ?_ ?_
  · refine Finset.disjoint_left.mpr fun x h h' => ?_
    have := (mem_rSet 0 x).mp h; have := (mem_rSet 1 x).mp h'; simp_all
  · ext x
    have h : (x 0).val < 2 := (x 0).isLt
    have e : x ∈ rSet 0 ∪ rSet 1 := by
      rw [Finset.mem_union, mem_rSet, mem_rSet]
      show (x 0).val = 0 ∨ (x 0).val = 1
      omega
    exact ⟨fun _ => Finset.mem_univ _, fun _ => e⟩

/-- The table as the gather names it is all of it. -/
theorem pAll_set : (pAll pV).view.set = (Finset.univ : Finset S4096x2x128.Idx) := by
  refine (View.set_slice_whole (main_v2_scv : Ref sig .scVector) _).trans ?_
  ext x
  rw [Rect.mem_set_unit]
  refine ⟨fun _ => Finset.mem_univ _, fun _ a => ?_⟩
  match a with
  | 0 => exact ⟨Nat.zero_le _, by simpa using (x 0).isLt⟩
  | 1 => exact ⟨Nat.zero_le _, by simpa using (x 1).isLt⟩
  | 2 => exact ⟨Nat.zero_le _, by simpa using (x 2).isLt⟩

/-! ## All that a tile owns -/

/-- The tile's buffers that the task uses, among its own. -/
abbrev mine : Finset (DevRef τ sig) :=
  {(thr d L).2.devRef cc0_scratch0, (thr d L).2.devRef cc0_scratch1, (thr d L).2.devRef cc0_scratch2, (thr d L).2.devRef cc0_scratch3}

/-- Different names of a tile name different buffers. -/
theorem ref_ne {a b : Ref sig .scVector} (h : a ≠ b) : (thr d L).2.devRef a ≠ (thr d L).2.devRef b :=
  fun e => h (Proc.devRef_injective _ e)

/-- A tile's own buffers: the four that the task uses, and the rest. -/
theorem own_bufs : (ownBufs (thr d L) : sProp 𝕄)
    = iprop(((∃ f, (thr d L).loc cc0_scratch0 ↦{fullShare} f) ∗ (∃ f, (thr d L).loc cc0_scratch1 ↦{fullShare} f)
        ∗ (∃ f, (thr d L).loc cc0_scratch2 ↦{fullShare} f) ∗ ∃ f, (thr d L).loc cc0_scratch3 ↦{fullShare} f)
      ∗ bigSep (ownRefs (thr d L).2 \ mine d L) fun b => iprop(∃ f, ((d, b) : Loc nD τ sig) ↦{fullShare} f)) := by
  unfold SparseCore.Cfg.ownBufs
  have hsub : mine d L ⊆ ownRefs (thr d L).2 := by
    intro b hb
    simp only [mine, Finset.mem_insert, Finset.mem_singleton] at hb
    rcases hb with rfl | rfl | rfl | rfl <;> exact SparseCore.Cfg.mem_ownRefs_of_owner rfl
  rw [SparseCore.bigSep_sdiff_split' hsub]
  congr 1
  unfold mine
  rw [SparseCore.bigSep_insert', SparseCore.bigSep_insert', SparseCore.bigSep_insert', bigSep_singleton]
  · rw [Finset.mem_singleton]
    exact ref_ne d L (by decide)
  · rw [Finset.mem_insert, Finset.mem_singleton, not_or]
    exact ⟨ref_ne d L (by decide), ref_ne d L (by decide)⟩
  · rw [Finset.mem_insert, Finset.mem_insert, Finset.mem_singleton, not_or, not_or]
    exact ⟨ref_ne d L (by decide), ref_ne d L (by decide), ref_ne d L (by decide)⟩

/-- The tile's counters that the task uses. -/
abbrev counted : Finset (SemLoc sig) :=
  {.dma cc0_scratch4.sem, .dma cc0_scratch5.sem, .dma cc0_scoped4.sem, .dma cc0_scoped5.sem, .dma cc0_scoped6.sem,
    .dma cc0_scoped7.sem, .dma cc0_scoped8.sem, .dma cc0_scoped9.sem,
    .dma cc0_scoped0.sem, .dma cc0_scoped1.sem, .dma cc0_scoped2.sem, .dma cc0_scoped3.sem}

/-- All the counters that are a tile's own. -/
abbrev counters : Finset (SemLoc sig) := Finset.univ.filter fun s : SemLoc sig => s.isScoped .scVector = true

/-- A tile's own counters at zero: the twelve that the task uses, and the rest. -/
theorem own_sems : (ownSems0 (thr d L) : sProp 𝕄)
    = iprop((quiet d L cc0_scratch4 ∗ quiet d L cc0_scratch5 ∗ (quiet d L cc0_scoped4 ∗ quiet d L cc0_scoped5 ∗ quiet d L cc0_scoped6
        ∗ (quiet d L cc0_scoped7 ∗ quiet d L cc0_scoped8 ∗ quiet d L cc0_scoped9
        ∗ (quiet d L cc0_scoped0 ∗ quiet d L cc0_scoped1 ∗ quiet d L cc0_scoped2 ∗ quiet d L cc0_scoped3))))
      ∗ bigSep (counters \ counted) fun s => semVal (thr d L, s) 0) := by
  rw [SparseCore.Cfg.ownSems0_eq]
  rw [SparseCore.bigSep_sdiff_split' (show counted ⊆ Finset.univ.filter fun s : SemLoc sig => s.isScoped (thr d L).2.kind = true from by
    show counted ⊆ counters
    decide)]
  congr 1
  unfold counted
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

end Cert.Proof.Gather
-- ==== Proof.Launch.lean ====
/-
  The gather kernel's launch: what each of the thirty-two tiles takes and brings back, a tile's task from what it takes, and
  the whole program's run from a launch memory whose neighbours are all rows of the table.
-/
module

public import proofs.«01_k».proof.Proof.Storage

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.ShareLeaves (leaf pointsTo_leaves)

variable {F : FTy → Type} [FloatOps F]

local notation "𝕄" => MT nD τ sig (HIx 1) (Elt F) ℕ UU ℕ

/-- What the launch asks of the program's counters and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays -/

/-- The table of features, -/
abbrev xLoc (d : Dev nD) : Loc nD τ sig := (SparseCore.T d).loc main_arg0
/-- the indices, -/
abbrev jLoc (d : Dev nD) : Loc nD τ sig := (SparseCore.T d).loc main_arg1
/-- the weights, -/
abbrev uLoc (d : Dev nD) : Loc nD τ sig := (SparseCore.T d).loc main_arg2
/-- the indices as a list, -/
abbrev fiLoc (d : Dev nD) : Loc nD τ sig := (SparseCore.T d).loc main_v0
/-- the weights as a list, -/
abbrev fwLoc (d : Dev nD) : Loc nD τ sig := (SparseCore.T d).loc main_v1
/-- the table with its rows cut in two, -/
abbrev fpLoc (d : Dev nD) : Loc nD τ sig := (SparseCore.T d).loc main_v2
/-- and the output. -/
abbrev outLoc (d : Dev nD) : Loc nD τ sig := (SparseCore.T d).loc main_v3

variable (d : Dev nD) (fp : S4096x2x128.Idx → F .f32) (fi : S65536.Idx → BitVec 32) (fw : S65536.Idx → F .f32)

/-- Tile `n`'s share of what every tile reads. -/
abbrev shareOf (n : Fin 32) : PosShare TreeShare := leaf 5 fullShare n

/-- What tile `n` reads: its share of the table and of the two lists. -/
def reads (n : Fin 32) : sProp 𝕄 :=
  iprop((fpLoc d ↦{shareOf n} (fp : Buf (Elt F) (fpLoc d))) ∗ (fiLoc d ↦{shareOf n} (fi : Buf (Elt F) (fiLoc d))) ∗ fwLoc d ↦{shareOf n} (fw : Buf (Elt F) (fwLoc d)))

/-- What tile `n` takes: what it reads, and its rows of the output, -/
def takes (n : Fin 32) : sProp 𝕄 := iprop(reads d fp fi fw n ∗ ∃ fo : Buf (Elt F) (outLoc d), outLoc d ↦[tileRows n.val]{fullShare} fo)
/-- and brings back: its rows of the output at their values. -/
def brings (n : Fin 32) : sProp 𝕄 :=
  iprop(reads d fp fi fw n ∗ outLoc d ↦[tileRows n.val]{fullShare} (outAt fp fi fw : Buf (Elt F) (outLoc d)))

/-- What a tile takes may be handed over, -/
instance takes_storable (n : Fin 32) : BI.Storable (upEmb : UEmb _ 𝕄) (takes d fp fi fw n) := by
  unfold takes reads; infer_instance
/-- and so may what it brings back. -/
instance brings_storable (n : Fin 32) : BI.Storable (upEmb : UEmb _ 𝕄) (brings d fp fi fw n) := by
  unfold brings reads; infer_instance

/-! ## A tile's task -/

section Tile

variable (L : grid0.Coords)

/-- The tile's number, as one of thirty-two. -/
def nL : Fin 32 := ⟨tileNo L, tileNo_lt L⟩

/-- A tile's rows done are its rows at their values. -/
theorem out_done : Out d L fp fi fw (tileNo L) (16 * tileNo L + 16)
    ⊢ (outLoc d ↦[tileRows (nL L).val]{fullShare} (outAt fp fi fw : Buf (Elt F) (outLoc d)) : sProp 𝕄) := by
  unfold Out
  iintro ⟨%fo, %h, H⟩
  have e : (outLoc d ↦[tileRows (nL L).val]{fullShare} (fo : Buf (Elt F) (outLoc d)) : sProp 𝕄)
      = outLoc d ↦[tileRows (nL L).val]{fullShare} (outAt fp fi fw : Buf (Elt F) (outLoc d)) := by
    refine pointsTo_congr fun x hx => h x hx ?_
    have := (mem_tileRows _ _).mp hx
    have hn : (nL L).val = tileNo L := rfl
    omega
  iapply (Entails.of_eq e)
  iexact H

/-- The table as a tile's gathers hold it, all of it. -/
theorem tabs_all (q : PosShare TreeShare) : (tabs d L fp q : sProp 𝕄) = fpLoc d ↦{q} (fp : Buf (Elt F) (fpLoc d)) := by
  show ((thr d L).loc main_v2_scv ↦[(pAll pV).view.set]{q} (fp : Buf (Elt F) ((thr d L).loc main_v2_scv)) : sProp 𝕄) = _
  rw [pAll_set]

set_option maxHeartbeats 1000000 in
/-- The task on tile `L` of device `d`, from what the tile takes and owns to what it brings back. -/
theorem tile_body (hfi : InRows fi) (O : CellTallies nD τ sig (HIx 1)) (W : Waits sig (HIx 1)) (hO : ∀ g, O g none = 0) :
    iprop(levAts (K (F := F)).L (K (F := F)).lev ∗ emp ∗ takes d fp fi fw (nL L)
        ∗ scopedBufs (thr d L) ∗ scopedSems0 (thr d L) ∗ owes (thr d L) O W)
      ⊢ run (F := F) d L
          (cc0_k L pV (Memref.isWhole_whole _) iV (Memref.isWhole_whole _) wV (Memref.isWhole_whole _) oV (Memref.isWhole_whole _)
            jV (Memref.isWhole_whole _) uV (Memref.isWhole_whole _) rV (Memref.isWhole_whole _) aV (Memref.isWhole_whole _)
            cc0_scratch4 cc0_scratch5 cc0_scoped0 cc0_scoped1 cc0_scoped2 cc0_scoped3 cc0_scoped4 cc0_scoped5 cc0_scoped6 cc0_scoped7 cc0_scoped8 cc0_scoped9)
          fun _ => iprop(brings d fp fi fw (nL L) ∗ scopedBufs (thr d L) ∗ scopedSems0 (thr d L)
            ∗ ∃ W', ⌜∀ p ∈ W', p ∈ W ∨ p.2 = none⌝ ∗ owes (thr d L) O W') := by
  rw [task_eq, (K (F := F)).scopedBufs_V facts d (coreOf L) (subOf L), SparseCore.Cfg.scopedSems0_V (Val := Elt F) d (coreOf L) (subOf L),
    own_bufs, own_sems, jRows, uRows, rRows]
  unfold takes brings reads
  iintro ⟨#Hlv, -, ⟨⟨Hp, Hi, Hw⟩, ⟨%fo, Ho⟩⟩, ⟨⟨⟨Hj0, Hj1⟩, ⟨Hu0, Hu1⟩, ⟨Hr0, Hr1⟩, Ha⟩, Hbufs⟩,
    ⟨⟨Hg0, Hg1, H4, H5, H6, H7, H8, H9, Hf0, Hf1, Hf2, Hf3⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hp' := (pointsTo_share (PosShare.mem_left_op_right (shareOf (nL L)))).1 $$ Hp
  icases Hp' with ⟨Hp0, Hp1⟩
  iapply (wp_wand_r frame (wpE (defs₀ (F := F)) 𝒱₀ (thr d L) none) Set.univ)
  isplitl [Hj0 Hj1 Hu0 Hu1 Hr0 Hr1 Ha Hg0 Hg1 H4 H5 H6 H7 H8 H9 Hf0 Hf1 Hf2 Hf3 HO Hp0 Hp1 Hi Hw Ho]
  · iapply (run_task d L fp fi fw (shareOf (nL L)) (shareOf (nL L)).left (shareOf (nL L)).right (O := O) (W := W) hfi (Memref.isWhole_whole _))
    unfold Idle Kept Still First Out Owes
    rw [tabs_all, tabs_all]
    isplitl [Hr0 Hp0 Hj0 Hu0 Hg0]
    · isplitl [Hr0]; · iexact Hr0
      isplitl [Hp0]; · iexact Hp0
      isplitl [Hj0]; · iexact Hj0
      isplitl [Hu0]; · iexact Hu0
      iexact Hg0
    isplitl [Hr1 Hp1 Hj1 Hu1 Hg1]
    · isplitl [Hr1]; · iexact Hr1
      isplitl [Hp1]; · iexact Hp1
      isplitl [Hj1]; · iexact Hj1
      isplitl [Hu1]; · iexact Hu1
      iexact Hg1
    isplitl [Ha Ho Hi Hw HO]
    · isplitl [Ha]; · iexact Ha
      isplitl [Ho]
      · iexists fo
        isplitr
        · ipureintro
          intro x hx hlt
          have := (mem_tileRows _ _).mp hx
          omega
        iexact Ho
      isplitl [Hi Hw]
      · isplitl [Hi]; · iexact Hi
        iexact Hw
      iexists W
      isplitr
      · ipureintro; intro p hp; exact Or.inl hp
      iexact HO
    isplitl [H4 H5 H6]
    · isplitl [H4]; · iexact H4
      isplitl [H5]; · iexact H5
      iexact H6
    isplitl [H7 H8 H9]
    · isplitl [H7]; · iexact H7
      isplitl [H8]; · iexact H8
      iexact H9
    isplitl [Hf0 Hf1 Hf2 Hf3]
    · isplitl [Hf0]; · iexact Hf0
      isplitl [Hf1]; · iexact Hf1
      isplitl [Hf2]; · iexact Hf2
      iexact Hf3
    iexact Hmw
  unfold Idle Kept Still First
  rw [tabs_all, tabs_all]
  iintro %_ ⟨⟨Hr0, Hp0, Hj0, Hu0, Hg0⟩, ⟨Hr1, Hp1, Hj1, Hu1, Hg1⟩, ⟨Ha, Ho, ⟨Hi, Hw⟩, HO⟩, ⟨H4, H5, H6⟩, ⟨H7, H8, H9⟩, ⟨Hf0, Hf1, Hf2, Hf3⟩⟩
  ihave Ho := (out_done d fp fi fw L) $$ Ho
  ihave HO := (owes_elim d L) $$ HO
  ihave Hp := (pointsTo_share (PosShare.mem_left_op_right (shareOf (nL L)))).2 $$ [Hp0 Hp1]
  · isplitl [Hp0]; · iexact Hp0
    iexact Hp1
  isplitl [Hp Hi Hw Ho]
  · isplitl [Hp Hi Hw]
    · isplitl [Hp]; · iexact Hp
      isplitl [Hi]; · iexact Hi
      iexact Hw
    iexact Ho
  isplitl [Hr0 Hj0 Hu0 Hr1 Hj1 Hu1 Ha Hbufs]
  · isplitr [Hbufs]
    · isplitl [Hj0 Hj1]
      · isplitl [Hj0]; · iexact Hj0
        iexact Hj1
      isplitl [Hu0 Hu1]
      · isplitl [Hu0]; · iexact Hu0
        iexact Hu1
      isplitl [Hr0 Hr1]
      · isplitl [Hr0]; · iexact Hr0
        iexact Hr1
      iexact Ha
    iexact Hbufs
  isplitr [HO]
  · isplitr [Hsems]
    · isplitl [Hg0]; · iexact Hg0
      isplitl [Hg1]; · iexact Hg1
      isplitl [H4]; · iexact H4
      isplitl [H5]; · iexact H5
      isplitl [H6]; · iexact H6
      isplitl [H7]; · iexact H7
      isplitl [H8]; · iexact H8
      isplitl [H9]; · iexact H9
      isplitl [Hf0]; · iexact Hf0
      isplitl [Hf1]; · iexact Hf1
      isplitl [Hf2]; · iexact Hf2
      iexact Hf3
    iexact Hsems
  iexact HO

end Tile

end Cert.Proof.Gather
-- ==== Proof.Run.lean ====
/-
  The whole program's run: the host reshapes, the arrays dealt to the thirty-two tiles and collected from them, the launch.
-/
module

public import proofs.«01_k».proof.Proof.Launch

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.ShareLeaves (leaf pointsTo_leaves)

variable {F : FTy → Type} [FloatOps F]

local notation "𝕄" => MT nD τ sig (HIx 1) (Elt F) ℕ UU ℕ

/-! ## Dealing the arrays out and collecting them -/

/-- The tile of a SparseCore and a subcore. -/
abbrev tileAt (c : Fin 2) (s : Fin 16) : Fin 32 := ⟨2 * s.val + c.val, by omega⟩

/-- Tiles by their SparseCore and their subcore. -/
def tileEquiv : Fin 2 × Fin 16 ≃ Fin 32 := (Equiv.prodComm _ _).trans (finProdFinEquiv (m := 16) (n := 2))

/-- They are numbered subcore by subcore. -/
theorem tileEquiv_apply (c : Fin 2) (s : Fin 16) : tileEquiv (c, s) = tileAt c s := by
  apply Fin.ext
  show c.val + 2 * s.val = 2 * s.val + c.val
  omega

/-- Something of every tile, core by core. -/
theorem by_core (Φ : Fin 32 → sProp 𝕄) :
    bigSep Finset.univ Φ = bigSep Finset.univ fun c : Fin 2 => bigSep Finset.univ fun s : Fin 16 => Φ (tileAt c s) := by
  rw [bigSep_univ_equiv tileEquiv Φ, bigSep_univ_prod]
  exact bigSep_congr fun c _ => bigSep_congr fun s _ => by rw [tileEquiv_apply]

variable (d : Dev nD) (fp : S4096x2x128.Idx → F .f32) (fi : S65536.Idx → BitVec 32) (fw : S65536.Idx → F .f32)

/-- No row is of two tiles, -/
theorem tileRows_disjoint : ∀ i ∈ (Finset.univ : Finset (Fin 32)), ∀ j ∈ (Finset.univ : Finset (Fin 32)), i ≠ j →
    Disjoint (tileRows i.val) (tileRows j.val) := by
  intro i _ j _ h
  refine Finset.disjoint_left.mpr fun x hx hx' => h (Fin.ext ?_)
  rw [← (mem_tileRows _ _).mp hx, ← (mem_tileRows _ _).mp hx']

/-- and every row is of one. -/
theorem tileRows_cover : (Finset.univ : Finset (Fin 32)).biUnion (fun n => tileRows n.val) = Finset.univ := by
  ext x
  have hx : (x 0).val < 8192 := (x 0).isLt
  refine ⟨fun _ => Finset.mem_univ _, fun _ => Finset.mem_biUnion.mpr ⟨⟨(x 0).val / 256, by omega⟩, Finset.mem_univ _, (mem_tileRows _ _).mpr rfl⟩⟩

/-- The output is its thirty-two tiles' rows. -/
theorem out_rows (f : Buf (Elt F) (outLoc d)) :
    (outLoc d ↦{fullShare} f : sProp 𝕄) = bigSep Finset.univ fun n : Fin 32 => outLoc d ↦[tileRows n.val]{fullShare} f := by
  rw [← pointsTo_biUnion (ℓ := outLoc d) Finset.univ (fun n : Fin 32 => tileRows n.val) tileRows_disjoint]
  exact congrArg (fun s => (outLoc d ↦[s]{fullShare} f : sProp 𝕄)) tileRows_cover.symm

/-- The table and the lists, whole. -/
abbrev inputs : sProp 𝕄 :=
  iprop((fpLoc d ↦{fullShare} (fp : Buf (Elt F) (fpLoc d))) ∗ (fiLoc d ↦{fullShare} (fi : Buf (Elt F) (fiLoc d))) ∗ fwLoc d ↦{fullShare} (fw : Buf (Elt F) (fwLoc d)))

/-- An array is its thirty-two shares. -/
theorem shares {ℓ : Loc nD τ sig} (f : Buf (Elt F) ℓ) :
    (ℓ ↦{fullShare} f : sProp 𝕄) = bigSep Finset.univ fun n : Fin 32 => ℓ ↦{shareOf n} f :=
  pointsTo_leaves Finset.univ f 5 fullShare

/-- They are what the tiles read of them. -/
theorem reads_all : (inputs d fp fi fw : sProp 𝕄) = bigSep Finset.univ fun n : Fin 32 => reads d fp fi fw n := by
  unfold inputs reads
  rw [bigSep_sep', bigSep_sep', shares, shares, shares]

/-- A tile takes its rows whatever they hold. -/
theorem takes_intro (n : Fin 32) (fo : Buf (Elt F) (outLoc d)) :
    (iprop(reads d fp fi fw n ∗ outLoc d ↦[tileRows n.val]{fullShare} fo) : sProp 𝕄) ⊢ takes d fp fi fw n := by
  unfold takes
  iintro ⟨H, Ho⟩
  isplitl [H]; · iexact H
  iexists fo; iexact Ho

/-- The arrays, dealt to the tiles. -/
theorem deal (fo : Buf (Elt F) (outLoc d)) :
    iprop(inputs d fp fi fw ∗ outLoc d ↦{fullShare} fo)
      ⊢ (bigSep Finset.univ fun c : Fin 2 => bigSep Finset.univ fun s : Fin 16 => takes d fp fi fw (tileAt c s) : sProp 𝕄) := by
  rw [← by_core (takes d fp fi fw), reads_all, out_rows, ← bigSep_sep']
  exact bigSep_mono fun n _ => takes_intro d fp fi fw n fo

/-- What the tiles bring back, together. -/
theorem collect :
    (bigSep Finset.univ fun c : Fin 2 => bigSep Finset.univ fun s : Fin 16 => brings d fp fi fw (tileAt c s) : sProp 𝕄)
      ⊢ iprop(inputs d fp fi fw ∗ outLoc d ↦{fullShare} (outAt fp fi fw : Buf (Elt F) (outLoc d))) := by
  rw [← by_core (brings d fp fi fw), reads_all, out_rows, ← bigSep_sep']
  exact Entails.of_eq rfl

/-! ## What the call takes, from the launch memory -/

variable (m : (ℓ : Loc nD τ sig) → Buf (Elt F) ℓ) (ρ : Dev nD → PrngReg)

/-- The table as the host reshapes it, -/
def table : S4096x2x128.Idx → F .f32 := fun i => shapeCast S4096x2x128 (m (xLoc d) : S4096x256.Idx → F .f32) shapeCasts_S4096x256_S4096x2x128 i
/-- the neighbours as a list, -/
def neighbours : S65536.Idx → BitVec 32 := fun i => shapeCast S65536 (m (jLoc d) : S8192x8.Idx → BitVec 32) shapeCasts_S8192x8_S65536 i
/-- the weights as a list. -/
def weights : S65536.Idx → F .f32 := fun i => shapeCast S65536 (m (uLoc d) : S8192x8.Idx → F .f32) shapeCasts_S8192x8_S65536 i

/-- What the call leaves in the output. -/
def gathered : S8192x256.Idx → F .f32 := outAt (table d m) (neighbours d m) (weights d m)

/-- What the proof asks of the launch memory: every neighbour is a row of the table. -/
def RowsOK : Prop := ∀ d : Dev nD, InRows (neighbours d m)

/-- What tile `n` of device `d` takes in this run, -/
abbrev takesAt (n : Fin 32) : sProp 𝕄 := takes d (table d m) (neighbours d m) (weights d m) n
/-- and brings back. -/
abbrev bringsAt (n : Fin 32) : sProp 𝕄 := brings d (table d m) (neighbours d m) (weights d m) n

/-- The call runs on two SparseCores, -/
theorem nCore_zero : (K (F := F)).nCore 0 = 2 := rfl
/-- on sixteen subcores of each. -/
theorem nSub_zero : (K (F := F)).nSub 0 = 16 := rfl

/-- Each SparseCore takes what its sixteen tiles take, and brings back what they bring back. -/
def P : (K (F := F)).Pay (nD := nD) (Val := Elt F) (Name := ℕ) (U := UU) where
  st := fun q d c => match q with | 0 => bigSep Finset.univ fun s : Fin 16 => takesAt d m (tileAt (Fin.cast nCore_zero c) s)
  dn := fun q d c => match q with | 0 => bigSep Finset.univ fun s : Fin 16 => bringsAt d m (tileAt (Fin.cast nCore_zero c) s)
  go := fun q d c s => match q with | 0 => takesAt d m (tileAt (Fin.cast nCore_zero c) (Fin.cast nSub_zero s))
  td := fun q d c s => match q with | 0 => bringsAt d m (tileAt (Fin.cast nCore_zero c) (Fin.cast nSub_zero s))
  x := fun _ _ => iprop(emp)

/-- All that is taken and brought back may be handed over. -/
instance P_storable : (P (F := F) m).IsStorable where
  st q d c := match q with
    | 0 => (inferInstance : BI.Storable (upEmb : UEmb _ 𝕄) (bigSep Finset.univ fun s : Fin 16 => takesAt d m (tileAt (Fin.cast nCore_zero c) s)))
  dn q d c := match q with
    | 0 => (inferInstance : BI.Storable (upEmb : UEmb _ 𝕄) (bigSep Finset.univ fun s : Fin 16 => bringsAt d m (tileAt (Fin.cast nCore_zero c) s)))
  go q d c s := match q with
    | 0 => (inferInstance : BI.Storable (upEmb : UEmb _ 𝕄) (takesAt d m (tileAt (Fin.cast nCore_zero c) (Fin.cast nSub_zero s))))
  td q d c s := match q with
    | 0 => (inferInstance : BI.Storable (upEmb : UEmb _ 𝕄) (bringsAt d m (tileAt (Fin.cast nCore_zero c) (Fin.cast nSub_zero s))))

/-! ## The obligation of a tile -/

/-- The grid point of a SparseCore and a subcore. -/
def pointAt (c : Fin (grid0.bound 0)) (s : Fin (grid0.bound 1)) : grid0.Coords :=
  fun | 0 => c | 1 => s | ⟨_ + 2, h⟩ => absurd h (Nat.not_lt.2 (Nat.le_add_left _ _))

/-- A grid point's number is its tile's. -/
theorem nL_pointAt (c : Fin 2) (s : Fin 16) : nL (pointAt c s) = tileAt c s := rfl

/-- What a subcore runs in the call. -/
theorem defs₀_vector (c : Fin τ.nSC) (s : Fin τ.nSub) :
    defs₀ (F := F) (.scVector c s) 0 ()
      = SparseCore.onTile hcore0 hsub0 (fun c s => cc0_k (pointAt c s)
          pV (Memref.isWhole_whole _) iV (Memref.isWhole_whole _) wV (Memref.isWhole_whole _) oV (Memref.isWhole_whole _)
          jV (Memref.isWhole_whole _) uV (Memref.isWhole_whole _) rV (Memref.isWhole_whole _) aV (Memref.isWhole_whole _)
          cc0_scratch4 cc0_scratch5 cc0_scoped0 cc0_scoped1 cc0_scoped2 cc0_scoped3 cc0_scoped4 cc0_scoped5 cc0_scoped6 cc0_scoped7 cc0_scoped8 cc0_scoped9) ⟨⟩ c s := rfl

/-- The task's end, with waits of the call itself allowed for. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile does its task. -/
theorem tileObl (hm : RowsOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (table d m) (neighbours d m) (weights d m) (pointAt ⟨_, hci.1⟩ ⟨_, hci.2⟩) (hm d) O W hO).trans
    (wp_mono frame _ _ fun _ => obl_post)

/-- A SparseCore hands its tiles what it took, and takes what they bring. -/
theorem vecSplit : (K (F := F)).VecSplit' (P m) 0 := by
  intro d c
  show (bigSep Finset.univ fun s : Fin 16 => takesAt d m (tileAt (Fin.cast nCore_zero c) s)) ⊢ |={Set.univ}=> iprop(
      (bigSep Finset.univ fun s : Fin 16 => takesAt d m (tileAt (Fin.cast nCore_zero c) s))
      ∗ ((bigSep Finset.univ fun s : Fin 16 => bringsAt d m (tileAt (Fin.cast nCore_zero c) s))
          -∗ bigSep Finset.univ fun s : Fin 16 => bringsAt d m (tileAt (Fin.cast nCore_zero c) s)))
  iintro H; imodintro
  isplitl [H]; · iexact H
  iintro H'; iexact H'

/-! ## The launch element of the ghost state -/

/-- The ghost state at the launch. -/
def u₀ : UU := (initOf (K (F := F)).hsCells (K (F := F)).hsToks, 1)

/-- Nothing, of each of several, is nothing. -/
theorem emps {I : Type} (s : Finset I) : (bigSep s fun _ => iprop(emp)) = (iprop(emp) : sProp 𝕄) := bigSep_emp_const s

/-- It gives the handshakes their state and the rest nothing. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), emps]
  iempintro

/-! ## The host's operations -/

/-- The table, -/
abbrev x' : DevRef τ sig := Proc.devRef .tc main_arg0
/-- the indices, -/
abbrev j' : DevRef τ sig := Proc.devRef .tc main_arg1
/-- the weights, -/
abbrev u' : DevRef τ sig := Proc.devRef .tc main_arg2
/-- the indices as a list, -/
abbrev fi' : DevRef τ sig := Proc.devRef .tc main_v0
/-- the weights as a list, -/
abbrev fw' : DevRef τ sig := Proc.devRef .tc main_v1
/-- the table with its rows cut in two, -/
abbrev fp' : DevRef τ sig := Proc.devRef .tc main_v2
/-- and the output, as the host names them. -/
abbrev out' : DevRef τ sig := Proc.devRef .tc main_v3
/-- All the arrays. -/
abbrev arrays : Finset (DevRef τ sig) := {x', j', u', fi', fw', fp', out'}

/-- The host makes the indices a list, -/
abbrev opI : HloOp τ sig (Elt F) := StableHlo.reshape main_arg1 main_v0 (rfl : (.i32 : EltTy) = .i32) shapeCasts_S8192x8_S65536
/-- and the weights, -/
abbrev opW : HloOp τ sig (Elt F) := StableHlo.reshape main_arg2 main_v1 (rfl : (.f32 : EltTy) = .f32) shapeCasts_S8192x8_S65536
/-- and cuts the table's rows in two. -/
abbrev opP : HloOp τ sig (Elt F) := StableHlo.reshape main_arg0 main_v2 (rfl : (.f32 : EltTy) = .f32) shapeCasts_S4096x256_S4096x2x128

/-- The arrays at the launch, -/
def V0 : Valuation τ sig (Elt F) := fun b => m (d, b)
/-- and before the call. -/
def V1 : Valuation τ sig (Elt F) := (opP (F := F)).result ((opW (F := F)).result ((opI (F := F)).result (V0 d m)))

/-- Holding all the arrays, array by array. -/
theorem held_arrays (W : Valuation τ sig (Elt F)) :
    (held (SparseCore.T d) arrays W : sProp 𝕄)
      = iprop((xLoc d ↦{fullShare} W x') ∗ (jLoc d ↦{fullShare} W j') ∗ (uLoc d ↦{fullShare} W u') ∗ (fiLoc d ↦{fullShare} W fi')
          ∗ (fwLoc d ↦{fullShare} W fw') ∗ (fpLoc d ↦{fullShare} W fp') ∗ outLoc d ↦{fullShare} W out') := by
  unfold held arrays
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch memory holds all the arrays. -/
theorem unscoped_held : (unscopedBufs d (fun b => m ((SparseCore.T d).loc b)) : sProp 𝕄) = held (SparseCore.T d) arrays (V0 d m) := by
  rw [held_arrays]
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- Before the call the table is as launched, -/
theorem V1_x : V1 d m x' = m (xLoc d) := by
  unfold V1
  rw [StableHlo.reshape_result_ne, StableHlo.reshape_result_ne, StableHlo.reshape_result_ne]
  · rfl
  all_goals decide
/-- and the indices, -/
theorem V1_j : V1 d m j' = m (jLoc d) := by
  unfold V1
  rw [StableHlo.reshape_result_ne, StableHlo.reshape_result_ne, StableHlo.reshape_result_ne]
  · rfl
  all_goals decide
/-- and the weights. -/
theorem V1_u : V1 d m u' = m (uLoc d) := by
  unfold V1
  rw [StableHlo.reshape_result_ne, StableHlo.reshape_result_ne, StableHlo.reshape_result_ne]
  · rfl
  all_goals decide
/-- The indices' list is made of the indices, -/
theorem V1_fi : V1 d m fi' = neighbours d m := by
  unfold V1
  rw [StableHlo.reshape_result_ne, StableHlo.reshape_result_ne, StableHlo.reshape_result]
  · rfl
  all_goals decide
/-- the weights' list of the weights, -/
theorem V1_fw : V1 d m fw' = weights d m := by
  unfold V1
  rw [StableHlo.reshape_result_ne, StableHlo.reshape_result, StableHlo.reshape_result_ne]
  · rfl
  all_goals decide
/-- and the cut table of the table. -/
theorem V1_fp : V1 d m fp' = table d m := by
  unfold V1
  rw [StableHlo.reshape_result, StableHlo.reshape_result_ne, StableHlo.reshape_result_ne]
  · rfl
  all_goals decide

/-- The arguments, kept. -/
abbrev kept : sProp 𝕄 := iprop((xLoc d ↦{fullShare} m (xLoc d)) ∗ (jLoc d ↦{fullShare} m (jLoc d)) ∗ uLoc d ↦{fullShare} m (uLoc d))

/-- Before the call: the arguments, what the call reads, and the output at something. -/
theorem held_V1 : (held (SparseCore.T d) arrays ((opP (F := F)).result ((opW (F := F)).result ((opI (F := F)).result (V0 d m)))) : sProp 𝕄)
    ⊢ iprop(kept d m ∗ inputs d (table d m) (neighbours d m) (weights d m) ∗ outLoc d ↦{fullShare} V1 d m out') := by
  show held (SparseCore.T d) arrays (V1 d m) ⊢ _
  rw [held_arrays, V1_x, V1_j, V1_u, V1_fi, V1_fw, V1_fp]
  iintro ⟨H1, H2, H3, H4, H5, H6, H7⟩
  isplitl [H1 H2 H3]
  · isplitl [H1]; · iexact H1
    isplitl [H2]; · iexact H2
    iexact H3
  isplitl [H4 H5 H6]
  · isplitl [H6]; · iexact H6
    isplitl [H4]; · iexact H4
    iexact H5
  iexact H7

/-! ## The host program -/

/-- What the program leaves: the arguments as they were, the output at its values. -/
abbrev FIN : sProp 𝕄 := iprop(kept d m ∗ outLoc d ↦{fullShare} (gathered d m : Buf (Elt F) (outLoc d)))

/-- What the call takes, tile by tile, -/
theorem st0_eq : (bigSep Finset.univ fun c : Fin ((K (F := F)).nCore 0) => (P m).st 0 d c)
    = bigSep Finset.univ fun c : Fin 2 => bigSep Finset.univ fun s : Fin 16 => takesAt d m (tileAt c s) := rfl
/-- and what it brings back. -/
theorem dn0_eq : (bigSep Finset.univ fun c : Fin ((K (F := F)).nCore 0) => (P m).dn 0 d c)
    = bigSep Finset.univ fun c : Fin 2 => bigSep Finset.univ fun s : Fin 16 => bringsAt d m (tileAt c s) := rfl

/-- The host program: it makes the lists, cuts the table, deals the arrays, runs the call and collects. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN d m ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, -⟩
  iapply (wp_hlo_within 𝒱 (SparseCore.T d) none Set.univ (op := opI) (S := arrays) (show ({j', fi'} : Finset (DevRef τ sig)) ⊆ arrays by decide)
    (V := V0 d m)) $$ [Hb Hh]
  · isplitl [Hb] <;> iassumption
  iintro ⟨Hb, Hh⟩
  rw [wp_ret]; imodintro
  iapply (wp_hlo_within 𝒱 (SparseCore.T d) none Set.univ (op := opW) (S := arrays) (show ({u', fw'} : Finset (DevRef τ sig)) ⊆ arrays by decide)
    (V := (opI (F := F)).result (V0 d m))) $$ [Hb Hh]
  · isplitl [Hb] <;> iassumption
  iintro ⟨Hb, Hh⟩
  rw [wp_ret]; imodintro
  iapply (wp_hlo_within 𝒱 (SparseCore.T d) none Set.univ (op := opP) (S := arrays) (show ({x', fp'} : Finset (DevRef τ sig)) ⊆ arrays by decide)
    (V := (opW (F := F)).result ((opI (F := F)).result (V0 d m)))) $$ [Hb Hh]
  · isplitl [Hb] <;> iassumption
  iintro ⟨Hb, Hh⟩
  rw [wp_ret]; imodintro
  ihave Hh := (held_V1 d m) $$ Hh
  icases Hh with ⟨Hk, Hin, Ho⟩
  iapply ((K (F := F)).wp_run (D (F := F)) 𝒱 (EH := EH) (P := P m) κ d 0) $$ [Hst Hk Hin Ho Hb Hts]
  isplitr; · iexact Hctx
  isplitl [Hst]; · iexact Hst
  isplitl [Hin Ho]
  · rw [st0_eq]
    iapply (deal d (table d m) (neighbours d m) (weights d m) (V1 d m out'))
    isplitl [Hin]; · iexact Hin
    iexact Ho
  iintro ⟨Hst, Hdn⟩
  ihave Hdn := (Entails.of_eq (dn0_eq d m)) $$ Hdn
  ihave Hdn := (collect d (table d m) (neighbours d m) (weights d m)) $$ Hdn
  icases Hdn with ⟨-, Ho⟩
  imodintro
  isplitl [Hst]; · iexact Hst
  isplitr [Hb Hts]
  · isplitl [Hk]; · iexact Hk
    iexact Ho
  isplitl [Hb] <;> iassumption

/-- What a final state holds. -/
def fq (d : Dev nD) (s' : Phys nD τ sig (Elt F)) : Prop :=
  (s'.mem.mem (xLoc d) = m (xLoc d) ∧ s'.mem.mem (jLoc d) = m (jLoc d) ∧ s'.mem.mem (uLoc d) = m (uLoc d)) ∧ s'.mem.mem (outLoc d) = gathered d m

/-- An array held is what the state holds. -/
theorem agree {ℓ : Loc nD τ sig} (f : Buf (Elt F) ℓ) (s' : Phys nD τ sig (Elt F)) :
    (iprop((ℓ ↦{fullShare} f) ∗ SI s') : sProp 𝕄) ⊢ iprop(⌜s'.mem.mem ℓ = f⌝ ∗ SI s') := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

/-- What is held at the end is what the final state holds. -/
theorem hfin (d : Dev nD) (s' : Phys nD τ sig (Elt F)) : iprop(FIN d m ∗ SI s') ⊢ (⌜fq m d s'⌝ : sProp 𝕄) := by
  iintro ⟨⟨⟨Hx, Hj, Hu⟩, Ho⟩, HSI⟩
  ihave H := (agree (m (xLoc d)) s') $$ [HSI Hx]
  · isplitl [Hx] <;> iassumption
  icases H with ⟨%h1, HSI⟩
  ihave H := (agree (m (jLoc d)) s') $$ [HSI Hj]
  · isplitl [Hj] <;> iassumption
  icases H with ⟨%h2, HSI⟩
  ihave H := (agree (m (uLoc d)) s') $$ [HSI Hu]
  · isplitl [Hu] <;> iassumption
  icases H with ⟨%h3, HSI⟩
  ihave H := (agree (ℓ := outLoc d) (gathered d m) s') $$ [HSI Ho]
  · isplitl [Ho] <;> iassumption
  icases H with ⟨%h4, -⟩
  ipureintro
  exact ⟨⟨h1, h2, h3⟩, h4⟩

/-! ## The program's run -/

/-- The end of the run: arguments as they were, the output at its values, all counters at zero. -/
def QC : PUnit × MemSt nD τ sig (Elt F) → Prop := fun r =>
  (∀ c : Dev nD, (r.2.mem (xLoc c) = m (xLoc c) ∧ r.2.mem (jLoc c) = m (jLoc c) ∧ r.2.mem (uLoc c) = m (uLoc c)) ∧ r.2.mem (outLoc c) = gathered c m)
    ∧ r.2.sem = fun _ => 0

/-- From a memory whose neighbours are all rows of the table, the program ends, its arguments as they were, its output the
    weighted sums, its counters at zero. -/
theorem run_main [∀ e, Nonempty (Elt F e)] (hm : RowsOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm)
    (fun q _ => match q with | 0 => SparseCore.Cfg.VecSplit.of_plain (vecSplit m))
    m ρ main (fun _ => iprop(emp)) (fun d => FIN d m) (u₀ (F := F)) (sep_elim_left.trans (hu₀ m)) (hmain m ρ) (fq m) (hfin m) (QC m) (fun _ h hz => ⟨h, hz⟩)

end Cert.Proof.Gather
-- ==== Proof.Summed.lean ====
/-
  The reference's composed term, read at an index: for indices within the table, entry `(n, c)` is zero plus the sum over
  the eight neighbours of the neighbour's table entry in column `c` times its weight (`refOut_apply`).
-/
module

public import proofs.«01_k».proof.Proof.Gen.ReferenceIdeal.Run
public import Idealize.ShloMosaic.Lib.ReduceAll
public import Idealize.ShloMosaic.Lib.Affine
public import Idealize.ShloMosaic.Lib.StableHlo.Predicate
public import Idealize.ShloMosaic.Lib.Routing.Ops
public import Idealize.ShloMosaic.Lib.IdealHost
public import Idealize.ShloMosaic.Lib.Pipeline.Value
public import Idealize.ShloMosaic.PureOps.Ideal.Laws

@[expose] public section

set_option maxRecDepth 16384

noncomputable section

namespace Cert.Proof.Summed

open Cert.ReferenceIdeal Cert.ReferenceIdeal.Gen

open Idealize.ShloMosaic
open Idealize.ShloMosaic.ValueIdx
open Idealize.SL.Sem

variable {F : FTy → Type} [FloatOps F]

/-! ## The reference's value -/

section

variable (A : S4096x256.Idx → F .f32) (I : S8192x8.Idx → BitVec 32) (W : S8192x8.Idx → F .f32)

/-- The indices as a column. -/
abbrev column : IVec S65536x1 32 := broadcastInDim S65536x1 ![0] bcast_S65536_S65536x1_0 (shapeCast S65536 I shapeCasts_S8192x8_S65536)

/-- The column with a negative index counted from the table's end. -/
abbrev normal : IVec S65536x1 32 :=
  select (cmpi .slt (column I) (broadcastInDim S65536x1 ![] bcast_S_S65536x1 (constantI S_ 32 0#32)))
    (addi (column I) (broadcastInDim S65536x1 ![] bcast_S_S65536x1 (constantI S_ 32 4096#32))) (column I)

/-- Where the index is one of the table's rows. -/
abbrev within : IVec S65536 1 :=
  Host.reduce IntOp.andi
    (andi (cmpi .sge (normal I) (broadcastInDim S65536x1 ![] bcast_S_S65536x1 (constantI S_ 32 0#32)))
      (cmpi .sle (normal I) (broadcastInDim S65536x1 ![0, 1] bcast_S1x1_S65536x1_0_1 (broadcastInDim S1x1 ![1] bcast_S1_S1x1_1 (constantI S1 32 4095#32)))))
    (constantI S_ 1 1#1) reducesTo_S65536x1_S65536_d1 h_S_

/-- The rows taken, one per index. -/
abbrev taken : Vec F S65536x256 .f32 :=
  select (broadcastInDim S65536x256 ![0] bcast_S65536_S65536x256_0 (within I))
    (Host.gather gather_S4096x256_S65536x1_S65536x256_1_0_n_n_0_1_1256 A (normal I))
    (broadcastInDim S65536x256 ![] bcast_S_S65536x256 (constant S_ .f32 0x7FC00000#32))

/-- The reference's result. -/
abbrev refOut : Vec F S8192x256 .f32 :=
  Host.reduceAdd (mulf (shapeCast S8192x8x256 (taken A I) shapeCasts_S65536x256_S8192x8x256)
      (broadcastInDim S8192x8x256 ![0, 1, 2] bcast_S8192x8x1_S8192x8x256_0_1_2 (broadcastInDim S8192x8x1 ![0, 1] bcast_S8192x8_S8192x8x1_0_1 W)))
    (constant S_ .f32 0x00000000#32) reducesTo_S8192x8x256_S8192x256_d1 h_S_

/-- A word below 4096 reads the same signed. -/
theorem toInt_row (v : BitVec 32) (h : v.toNat < 4096) : v.toInt = v.toNat :=
  StableHlo.Predicate.toInt_eq_toNat_of_lt (by omega)

variable (hI : ∀ i, (I i).toNat < 4096)
include hI

/-- No index is negative, so each is counted from the table's start. -/
theorem normal_eq : normal I = column I := by
  funext j
  have hj : (column I j).toNat < 4096 := hI _
  show (if IntOp.cmpi .slt (column I j) 0#32 = 1#1 then _ else column I j) = _
  refine if_neg fun e => ?_
  rw [IntOp.cmpi_slt, toInt_row _ hj] at e
  have h0 : ((column I j).toNat : ℤ) < 0 := e
  omega

/-- Every index names a row of the table. -/
theorem within_one (n : S65536.Idx) : within I n = 1#1 := by
  refine Host.reduce_andi_one _ _ _ _ _ rfl fun i => ?_
  have hj : (column I i).toNat < 4096 := hI _
  show IntOp.andi (IntOp.cmpi .sge (normal I i) 0#32) (IntOp.cmpi .sle (normal I i) 4095#32) = 1#1
  rw [normal_eq I hI]
  have h1 : IntOp.cmpi .sge (column I i) 0#32 = 1#1 := by
    rw [IntOp.cmpi_sge, toInt_row _ hj]
    show (0 : ℤ) ≤ ((column I i).toNat : ℤ)
    omega
  have h2 : IntOp.cmpi .sle (column I i) 4095#32 = 1#1 := by
    rw [IntOp.cmpi_sle, toInt_row _ hj]
    show ((column I i).toNat : ℤ) ≤ 4095
    omega
  rw [h1, h2]; rfl

/-- Row `8 n + k` of the rows taken is the table's row that entry `(n, k)` of the indices names. -/
theorem taken_apply (n : Fin 8192) (k : Fin 8) (q : Fin 65536) (hq : q.val = 8 * n.val + k.val) (c : Fin 256) :
    taken A I (ix2 q c) = A (ix2 ⟨(I (ix2 n k)).toNat, hI _⟩ c) := by
  have hw : taken A I (ix2 q c) = Host.gather gather_S4096x256_S65536x1_S65536x256_1_0_n_n_0_1_1256 A (normal I) (ix2 q c) := by
    have hb : broadcastInDim S65536x256 ![0] bcast_S65536_S65536x256_0 (within I) (ix2 q c) = within I (ix1 q) :=
      broadcastInDim_apply _ _ _ _ _ fun a => match a with | 0 => rfl
    rw [within_one I hI] at hb
    unfold taken select
    rw [hb]
    exact select_one _ _
  rw [hw, normal_eq I hI]
  refine Routing.gather_row _ rfl rfl rfl rfl rfl A (column I) q c ⟨(I (ix2 n k)).toNat, hI _⟩ ?_ (by omega)
  have hc : column I (ix2 q (0 : Fin 1)) = I (ix2 n k) := by
    refine (?_ : _ = shapeCast S65536 I shapeCasts_S8192x8_S65536 (ix1 q)).trans (shapeCast_apply I _ _ _ ?_)
    · exact broadcastInDim_apply _ _ _ _ _ fun a => match a with | 0 => rfl
    · rw [Shape.rowMajor_val_one, Shape.rowMajor_val_two]
      show n.val * 8 + k.val = q.val
      omega
  rw [hc]
  exact (BitVec.eq_of_toNat_eq (by rw [BitVec.toNat_ofNat, Nat.mod_eq_of_lt (I (ix2 n k)).isLt]))

omit hI in
/-- The weights spread over the columns. -/
theorem spread_apply (n : Fin 8192) (k : Fin 8) (c : Fin 256) :
    broadcastInDim S8192x8x256 ![0, 1, 2] bcast_S8192x8x1_S8192x8x256_0_1_2 (broadcastInDim S8192x8x1 ![0, 1] bcast_S8192x8_S8192x8x1_0_1 W)
      (ix3 n k c) = W (ix2 n k) := by
  refine (broadcastInDim_apply _ _ _ _ (ix3 n k (0 : Fin 1)) ?_).trans (broadcastInDim_apply _ _ _ _ (ix2 n k) ?_)
  · intro a; match a with
    | 0 => rfl
    | 1 => rfl
    | 2 => rfl
  · intro a; match a with
    | 0 => rfl
    | 1 => rfl

end

/-- The reference's entry `(n, c)` over the extended reals. -/
theorem refOut_apply (A : S4096x256.Idx → EReal) (I : S8192x8.Idx → BitVec 32) (W : S8192x8.Idx → EReal)
    (hI : ∀ i, (I i).toNat < 4096) (n : Fin 8192) (c : Fin 256) :
    refOut (F := Ideal) A I W (ix2 n c) = ∑ k : Fin 8, A (ix2 ⟨(I (ix2 n k)).toNat, hI _⟩ c) * W (ix2 n k) := by
  unfold refOut
  have hr : S8192x8x256.Reduces [1] S8192x256 := by decide
  rw [hostReduceAdd_apply, Ideal.hostReduceAdd_single _ hr]
  have h0 : (constant (F := Ideal) S_ .f32 0x00000000#32) (Shape.Idx.first h_S_) = (0 : EReal) := Ideal.ofBits_zero_f32
  rw [h0, zero_add]
  refine Finset.sum_congr rfl fun (k : Fin 8) _ => ?_
  have hl : hr.lift (ix2 n c) k = ix3 n k c := by
    funext a
    match a with
    | 0 => rfl
    | 1 => rfl
    | 2 => rfl
  rw [hl]
  refine congrArg₂ (· * ·) ?_ (spread_apply (F := Ideal) W n k c)
  refine (shapeCast_apply _ _ _ (ix2 ⟨8 * n.val + k.val, by omega⟩ c) ?_).trans (taken_apply (F := Ideal) A I hI n k ⟨8 * n.val + k.val, by omega⟩ rfl c)
  rw [Shape.rowMajor_val_three, Shape.rowMajor_val_two]
  show (8 * n.val + k.val) * 256 + c.val = (n.val * 8 + k.val) * 256 + c.val
  omega

end Cert.Proof.Summed

end
-- ==== Proof.Value.lean ====
/-
  What the gather kernel computes, against the reference: the index range the claims assume gives every neighbour a row of
  the table (`rows_of_pre`), and over the extended reals the rows the tiles leave are the reference's weighted sums
  (`gathered_eq`).
-/
module

public import proofs.«01_k».proof.Proof.Run
public import proofs.«01_k».proof.Proof.Gen.Kernel
public import proofs.«01_k».proof.Proof.Gen.Pre_idx_in_rows
public import proofs.«01_k».proof.Proof.Summed
public import proofs.«01_k».proof.Defs
public import Idealize.ShloMosaic.Lib.ReduceAll
public import Idealize.ShloMosaic.Lib.Affine

@[expose] public section

set_option maxRecDepth 16384

noncomputable section

namespace Cert.Proof.Gather

open Cert.KernelIdeal Cert.KernelIdeal.Gen

open Idealize.ShloMosaic
open Idealize.ShloMosaic.ValueIdx
open Idealize.SL.Sem

variable {F : FTy → Type} [FloatOps F]

/-! ## The index range -/

/-- A word that compares at least 0 and below 4096, both signed, is below 4096. -/
theorem word_in_rows (v : BitVec 32) (h : IntOp.andi (IntOp.cmpi .sge v 0#32) (IntOp.cmpi .slt v 4096#32) = 1#1) : v.toNat < 4096 := by
  have one (p : Bool) : BitVec.ofBool p = 1#1 ↔ p = true := by cases p <;> decide
  have both (p q : Bool) : IntOp.andi (BitVec.ofBool p) (BitVec.ofBool q) = BitVec.ofBool (p && q) := by cases p <;> cases q <;> decide
  simp only [IntOp.cmpi, both, one, Bool.and_eq_true, BitVec.sle_eq_decide, BitVec.slt_eq_decide, decide_eq_true_eq,
    BitVec.toInt_eq_toNat_cond, BitVec.toNat_ofNat, Nat.reducePow, Nat.reduceMod] at h
  omega

/-- The range the claims assume bounds every entry of the index array. -/
theorem entries_of_pre (A : S4096x256.Idx → F .f32) (I : S8192x8.Idx → BitVec 32) (W : S8192x8.Idx → F .f32)
    (h : Cert.Pre_idx_in_rows.fn (F := F) A I W = fun _ => 1#1) (i : S8192x8.Idx) : (I i).toNat < 4096 := by
  have e := congrFun h ix0
  dsimp only [Cert.Pre_idx_in_rows.fn] at e
  haveI : Subsingleton Cert.Pre_idx_in_rows.S_.Idx := ⟨fun a b => funext fun k => k.elim0⟩
  exact word_in_rows _ (Host.reduce_andi_all _ _ _ _ _ e i)

/-- Entry `(n, k)` of an `[8192, 8]` array is entry `8 n + k` of the array laid out flat. -/
theorem flat_apply {α : Type} (X : S8192x8.Idx → α) (n : Fin 8192) (k : Fin 8) (q : Fin 65536) (hq : q.val = 8 * n.val + k.val) :
    shapeCast S65536 X shapeCasts_S8192x8_S65536 (ix1 q) = X (ix2 n k) := by
  refine shapeCast_apply X _ _ _ ?_
  rw [Shape.rowMajor_val_one, Shape.rowMajor_val_two]
  show n.val * 8 + k.val = q.val
  omega

/-- Entry `(r, c)` of the table is word `c % 128` of half `c / 128` of its row cut in two. -/
theorem table_apply {α : Type} (A : S4096x256.Idx → α) (r : Fin 4096) (c : Fin 256) (h : Fin 2) (l : Fin 128) (hc : c.val = 128 * h.val + l.val) :
    shapeCast S4096x2x128 A shapeCasts_S4096x256_S4096x2x128 (ix3 r h l) = A (ix2 r c) := by
  refine shapeCast_apply A _ _ _ ?_
  rw [Shape.rowMajor_val_three, Shape.rowMajor_val_two]
  show r.val * 256 + c.val = (r.val * 2 + h.val) * 128 + l.val
  omega

/-- Every neighbour index names a row when every entry of the index array does. -/
theorem inRows_of_entries (I : S8192x8.Idx → BitVec 32) (h : ∀ i, (I i).toNat < 4096) :
    InRows (fun i => shapeCast S65536 I shapeCasts_S8192x8_S65536 i) := fun n => h _

/-! ## The value -/

section Value

variable (m : (ℓ : Loc nD τ sig) → Buf (Elt Ideal) ℓ) (d : Dev nD) (h : ∀ i : S8192x8.Idx, (show BitVec 32 from m (jLoc d) i).toNat < 4096)

/-- The weight of neighbour `k` of output row `n`. -/
theorem weights_at (n : Fin 8192) (k : Fin 8) (q : Fin 65536) (hq : q.val = 8 * n.val + k.val) :
    weights d m (ix1 q) = m (uLoc d) (ix2 n k) := flat_apply _ n k q hq

/-- The table row of neighbour `k` of output row `n`. -/
theorem row_at (n : Fin 8192) (k : Fin 8) (q : Fin 65536) (hq : q.val = 8 * n.val + k.val) :
    rowAt (neighbours d m) q = ⟨(show BitVec 32 from m (jLoc d) (ix2 n k)).toNat, h _⟩ := by
  have hj : neighbours d m (ix1 q) = m (jLoc d) (ix2 n k) := flat_apply _ n k q hq
  unfold rowAt
  refine Fin.ext ?_
  show BitVec.toNat _ % 4096 = BitVec.toNat _
  rw [hj]
  exact Nat.mod_eq_of_lt (h _)

/-- One product of the sum that makes entry `(n, c)`. -/
theorem product_at (n : Fin 8192) (k : Fin 8) (c : Fin 256) (q : Fin 65536) (hq : q.val = 8 * n.val + k.val) (a : Fin 2) (b : Fin 128)
    (hc : c.val = 128 * a.val + b.val) :
    FloatOps.mulf (F := Ideal) (φ := .f32) (weights d m (ix1 q)) (table d m (ix3 (rowAt (neighbours d m) q) a b))
      = (show EReal from m (xLoc d) (ix2 ⟨(show BitVec 32 from m (jLoc d) (ix2 n k)).toNat, h _⟩ c)) * (show EReal from m (uLoc d) (ix2 n k)) := by
  have ht : table d m (ix3 (rowAt (neighbours d m) q) a b) = m (xLoc d) (ix2 ⟨(show BitVec 32 from m (jLoc d) (ix2 n k)).toNat, h _⟩ c) := by
    rw [row_at m d h n k q hq]
    exact table_apply _ _ c a b hc
  rw [weights_at m d n k q hq, ht]
  exact mul_comm (G := EReal) _ _

/-- Over the extended reals, eight numbers added from the first are their sum. -/
theorem sum8_eq (g : Fin 8 → EReal) : sum8 (F := Ideal) g = ∑ k, g k := (Fin.sum_univ_eight g).symm

/-- Entry `(n, c)` of the rows the tiles leave. -/
theorem gathered_at (n : Fin 8192) (c : Fin 256) : gathered d m (ix2 n c)
    = ∑ k : Fin 8, (show EReal from m (xLoc d) (ix2 ⟨(show BitVec 32 from m (jLoc d) (ix2 n k)).toNat, h _⟩ c)) * (show EReal from m (uLoc d) (ix2 n k)) := by
  unfold gathered outAt
  refine (sum8_eq _).trans (Finset.sum_congr rfl fun k _ => ?_)
  exact product_at m d h n k c _ rfl _ _ (Nat.div_add_mod c.val 128).symm

include h in
/-- The rows the tiles leave are the reference's, over the extended reals, where the indices lie within the table. -/
theorem gathered_eq : gathered d m = Summed.refOut (F := Ideal) (m (xLoc d)) (m (jLoc d)) (m (uLoc d)) := by
  funext x
  rw [eq_ix2 x]
  exact (gathered_at m d h _ _).trans (Summed.refOut_apply _ _ _ h _ _).symm

end Value

/-! ## The claims -/

/-- Where the assumed range holds of the arguments, every device's neighbours are rows of the table. -/
theorem rows_of_pre (m : (ℓ : Loc nD τ sig) → Buf (Elt F) ℓ)
    (h : ∀ c : Dev nD, Cert.Pre_idx_in_rows.fn (F := F) (m (xLoc c)) (m (jLoc c)) (m (uLoc c)) = fun _ => 1#1) : RowsOK m :=
  fun d => inRows_of_entries _ (entries_of_pre _ _ _ (h d))

/-- `Cert.quiescent_Kernel` (Defs.lean). -/
theorem frame_kernel : Cert.quiescent_Kernel := fun m ρ h =>
  (θ_run Cert.KernelIdeal.defs _ _).mono (fun _ e => ⟨fun c => (e.1 c).1, e.2⟩) (run_main (F := Bits) m ρ (rows_of_pre m h))

/-- `Cert.quiescent_KernelIdeal` (Defs.lean). -/
theorem frame_kernelIdeal : Cert.quiescent_KernelIdeal := fun m ρ h =>
  (θ_run Cert.KernelIdeal.defs _ _).mono (fun _ e => ⟨fun c => (e.1 c).1, e.2⟩) (run_main (F := Ideal) m ρ (rows_of_pre m h))

/-- `Cert.quiescent_ReferenceIdeal` (Defs.lean): the reference declares no semaphore. -/
theorem frame_reference : Cert.quiescent_ReferenceIdeal := fun m ρ _ =>
  (θ_run Cert.ReferenceIdeal.defs _ _).mono (fun r e => ⟨fun c => (e c).2, sem_eq_zero_of_no_sems (by decide) r.2⟩)
    (Cert.ReferenceIdeal.Value.run (F := Ideal) m ρ)

/-- `Cert.quiescent_ReferenceIdeal_pre_idx_in_rows` (Defs.lean). -/
theorem frame_reference_pre : Cert.quiescent_ReferenceIdeal_pre_idx_in_rows := fun m ρ _ => frame_reference m ρ trivial

/-- `Cert.algebraic_KernelIdeal_ReferenceIdeal` (Defs.lean): the shared value is `gathered`. -/
theorem algebraic : Cert.algebraic_KernelIdeal_ReferenceIdeal := by
  intro m ρ m' ρ' h hm
  refine ⟨fun c => gathered c m, (θ_run Cert.KernelIdeal.defs _ _).mono (fun _ e c => ⟨(e.1 c).2, (e.1 c).1⟩)
    (run_main (F := Ideal) m ρ (rows_of_pre m h)), ?_⟩
  refine (θ_run Cert.ReferenceIdeal.defs _ _).mono (fun _ e c => ⟨(e c).1.trans ?_, (e c).2⟩) (Cert.ReferenceIdeal.Value.run (F := Ideal) m' ρ')
  rw [(hm c).1, (hm c).2.1, (hm c).2.2]
  exact (gathered_eq m c (entries_of_pre _ _ _ (h c))).symm

end Cert.Proof.Gather

end
-- ==== Proof.Layers.lean ====
/-
  The two small networks that turn the local features of a point into its displacement and its material value, written
  with sums over plain positions. A point's features are its three coordinates, its 256 local features and the 512 global
  features that all points share. The first layer of each network meets these 771 numbers in three separate sums, because
  the two programs compared in Perceptron.lean group those sums differently.
-/
module

public import Idealize.ShloMosaic.PureOps.Ideal
public import Idealize.ShloMosaic.Lib.Pointwise

@[expose] public section

noncomputable section

namespace Cert.Proof.Layers

open Idealize.ShloMosaic
open scoped BigOperators

/-- A table of numbers with `a` rows and `b` columns. -/
abbrev Table (a b : ℕ) := FVec Ideal ⟨2, ![a, b]⟩ .f32
/-- A list of `a` numbers. -/
abbrev List1 (a : ℕ) := FVec Ideal ⟨1, ![a]⟩ .f32
/-- One batch of `b` numbers for each of `a` points. -/
abbrev Batch (a b : ℕ) := FVec Ideal ⟨3, ![1, a, b]⟩ .f32

variable (T : Batch 8192 3) (L : Batch 8192 256) (G : Table 1 512)

/-- One unit `j` of a first layer at point `p`: the weighted coordinates, local features and global features, and the
    unit's bias. -/
def first {n : ℕ} (W : Table n 771) (b : List1 n) (p : Fin 8192) (j : Fin n) : EReal :=
  (∑ k : Fin 3, T (ix3 0 p k) * W (ix2 j ⟨k.val, by omega⟩))
    + (∑ k : Fin 256, L (ix3 0 p k) * W (ix2 j ⟨3 + k.val, by omega⟩))
    + (∑ k : Fin 512, G (ix2 0 k) * W (ix2 j ⟨259 + k.val, by omega⟩))
    + b (ix1 j)

/-- One unit of a later layer: the weighted units of the layer before, and the unit's bias. -/
def next {n m : ℕ} (h : Fin m → EReal) (W : Table n m) (b : List1 n) (j : Fin n) : EReal :=
  (∑ k : Fin m, h k * W (ix2 j k)) + b (ix1 j)

/-- The two layers of the displacement network, with the direct path from the features added. -/
def deep (W1 : Table 256 771) (b1 : List1 256) (W2 : Table 256 256) (b2 : List1 256) (Ws : Table 256 771)
    (bs : List1 256) (p : Fin 8192) (j : Fin 256) : EReal :=
  max (next (fun k => max (first T L G W1 b1 p k) 0) W2 b2 j) 0 + first T L G Ws bs p j

/-- The displacement of point `p` along axis `j`. -/
def displacement (W1 : Table 256 771) (b1 : List1 256) (W2 : Table 256 256) (b2 : List1 256) (Ws : Table 256 771)
    (bs : List1 256) (Wo : Table 3 256) (bo : List1 3) (p : Fin 8192) (j : Fin 3) : EReal :=
  next (deep T L G W1 b1 W2 b2 Ws bs p) Wo bo j * Ideal.ofBits .f32 0x3E99999A#32

/-- The two layers of the material network. -/
def gate (W1 : Table 128 771) (b1 : List1 128) (W2 : Table 64 128) (b2 : List1 64) (p : Fin 8192) (j : Fin 64) : EReal :=
  max (next (fun k => max (first T L G W1 b1 p k) 0) W2 b2 j) 0

/-- The material value of point `p`: the logistic function of the material network's last unit. -/
def material (W1 : Table 128 771) (b1 : List1 128) (W2 : Table 64 128) (b2 : List1 64) (W3 : Table 1 64)
    (b3 : List1 1) (p : Fin 8192) : EReal :=
  Ideal.div 1 (1 + Ideal.exp (-(next (gate T L G W1 b1 W2 b2 p) W3 b3 0)))

end Cert.Proof.Layers

end
-- ==== Proof.Plain.lean ====
/-
  What the plain program for the two networks computes, entry by entry: its first result is the displacement and its
  second the material value of Layers.lean. The program joins a point's coordinates, local features and the global
  features into one row of 771 numbers and multiplies the row by a whole weight table; cutting the sum over the row at the
  two joints gives the three sums of Layers.lean.
-/
module

public import proofs.«01_k».proof.Proof.Layers
public import proofs.«01_k».proof.Proof.Gen.MlpReferenceIdeal
public import proofs.«01_k».proof.Proof.Gen.MlpReferenceIdeal.Run

@[expose] public section

set_option maxRecDepth 16384

noncomputable section

namespace Cert.Proof.Plain

open Cert.MlpReferenceIdeal Cert.MlpReferenceIdeal.Gen
open Idealize.ShloMosaic
open Cert.Proof.Layers
open scoped BigOperators

variable (T : Batch 8192 3) (L : Batch 8192 256) (G : Layers.Table 1 512)

/-- The rows of 771 numbers. -/
abbrev features : FVec Ideal S1x8192x771 .f32 :=
  concatenate S1x8192x771 2 [⟨S1x8192x3, (T : (⟨S1x8192x3, .f32⟩ : BufTy).Contents (Elt Ideal))⟩,
    ⟨S1x8192x256, (L : (⟨S1x8192x256, .f32⟩ : BufTy).Contents (Elt Ideal))⟩,
    ⟨S1x8192x512, ((broadcastInDim S1x8192x512 ![0, 1, 2] bcast_S1x1x512_S1x8192x512_0_1_2
      (broadcastInDim S1x1x512 ![0, 2] bcast_S1x512_S1x1x512_0_2 G)) : (⟨S1x8192x512, .f32⟩ : BufTy).Contents (Elt Ideal))⟩]
    concatenates_S1x8192x3_S1x8192x256_S1x8192x512_S1x8192x771_d2

/-- A first layer of 256 units. -/
abbrev wide (W : Layers.Table 256 771) (b : List1 256) : FVec Ideal S1x8192x256 .f32 :=
  addf (Host.dotGeneral dot_S1x8192x771_S771x256_S1x8192x256_2_0_01_1_n_n none (features T L G)
      (transpose S771x256 [1, 0] W transposes_S256x771_S771x256_1_0))
    (broadcastInDim S1x8192x256 ![0, 1, 2] bcast_S1x1x256_S1x8192x256_0_1_2 (broadcastInDim S1x1x256 ![2] bcast_S256_S1x1x256_2 b))

/-- A first layer of 128 units. -/
abbrev narrow (W : Layers.Table 128 771) (b : List1 128) : FVec Ideal S1x8192x128 .f32 :=
  addf (Host.dotGeneral dot_S1x8192x771_S771x128_S1x8192x128_2_0_01_1_n_n none (features T L G)
      (transpose S771x128 [1, 0] W transposes_S128x771_S771x128_1_0))
    (broadcastInDim S1x8192x128 ![0, 1, 2] bcast_S1x1x128_S1x8192x128_0_1_2 (broadcastInDim S1x1x128 ![2] bcast_S128_S1x1x128_2 b))

/-- The second layer of the displacement network, with the direct path. -/
abbrev second (h : FVec Ideal S1x8192x256 .f32) (s : FVec Ideal S1x8192x256 .f32) (W : Layers.Table 256 256) (b : List1 256) :
    FVec Ideal S1x8192x256 .f32 :=
  addf (maximumf (addf (Host.dotGeneral dot_S1x8192x256_S256x256_S1x8192x256_2_0_01_1_n_n none
      (maximumf h (broadcastInDim S1x8192x256 ![] bcast_S_S1x8192x256 (constant S_ .f32 0x00000000#32)))
      (transpose S256x256 [1, 0] W transposes_S256x256_S256x256_1_0))
    (broadcastInDim S1x8192x256 ![0, 1, 2] bcast_S1x1x256_S1x8192x256_0_1_2 (broadcastInDim S1x1x256 ![2] bcast_S256_S1x1x256_2 b)))
    (broadcastInDim S1x8192x256 ![] bcast_S_S1x8192x256 (constant S_ .f32 0x00000000#32))) s

/-- The first result. -/
abbrev moved (h : FVec Ideal S1x8192x256 .f32) (W : Layers.Table 3 256) (b : List1 3) : FVec Ideal S1x8192x3 .f32 :=
  mulf (addf (Host.dotGeneral dot_S1x8192x256_S256x3_S1x8192x3_2_0_01_1_n_n none h
      (transpose S256x3 [1, 0] W transposes_S3x256_S256x3_1_0))
    (broadcastInDim S1x8192x3 ![0, 1, 2] bcast_S1x1x3_S1x8192x3_0_1_2 (broadcastInDim S1x1x3 ![2] bcast_S3_S1x1x3_2 b)))
    (broadcastInDim S1x8192x3 ![] bcast_S_S1x8192x3 (constant S_ .f32 0x3E99999A#32))

/-- The second layer of the material network. -/
abbrev small (h : FVec Ideal S1x8192x128 .f32) (W : Layers.Table 64 128) (b : List1 64) : FVec Ideal S1x8192x64 .f32 :=
  maximumf (addf (Host.dotGeneral dot_S1x8192x128_S128x64_S1x8192x64_2_0_01_1_n_n none
      (maximumf h (broadcastInDim S1x8192x128 ![] bcast_S_S1x8192x128 (constant S_ .f32 0x00000000#32)))
      (transpose S128x64 [1, 0] W transposes_S64x128_S128x64_1_0))
    (broadcastInDim S1x8192x64 ![0, 1, 2] bcast_S1x1x64_S1x8192x64_0_1_2 (broadcastInDim S1x1x64 ![2] bcast_S64_S1x1x64_2 b)))
    (broadcastInDim S1x8192x64 ![] bcast_S_S1x8192x64 (constant S_ .f32 0x00000000#32))

/-- The second result. -/
abbrev weighed (h : FVec Ideal S1x8192x64 .f32) (W : Layers.Table 1 64) (b : List1 1) : FVec Ideal S1x8192x1 .f32 :=
  Host.divf (broadcastInDim S1x8192x1 ![] bcast_S_S1x8192x1 (constant S_ .f32 0x3F800000#32))
    (addf (broadcastInDim S1x8192x1 ![] bcast_S_S1x8192x1 (constant S_ .f32 0x3F800000#32))
      (Host.exp (Host.negf (addf (Host.dotGeneral dot_S1x8192x64_S64x1_S1x8192x1_2_0_01_1_n_n none h
          (transpose S64x1 [1, 0] W transposes_S1x64_S64x1_1_0))
        (broadcastInDim S1x8192x1 ![0, 1, 2] bcast_S1x1x1_S1x8192x1_0_1_2 (broadcastInDim S1x1x1 ![2] bcast_S1_S1x1x1_2 b))))))

/-- The 256 units of a first layer. -/
theorem wide_apply (W : Layers.Table 256 771) (b : List1 256) (p : Fin 8192) (j : Fin 256) :
    wide T L G W b (ix3 0 p j) = first T L G W b p j := by
  unfold first
  pointwise! [features, wide, sumSplitAll]

/-- The 128 units of a first layer. -/
theorem narrow_apply (W : Layers.Table 128 771) (b : List1 128) (p : Fin 8192) (j : Fin 128) :
    narrow T L G W b (ix3 0 p j) = first T L G W b p j := by
  unfold first
  pointwise! [features, narrow, sumSplitAll]

/-- The first result of the plain program is the displacement. -/
theorem moved_apply (W1 : Layers.Table 256 771) (b1 : List1 256) (W2 : Layers.Table 256 256) (b2 : List1 256)
    (Ws : Layers.Table 256 771) (bs : List1 256) (Wo : Layers.Table 3 256) (bo : List1 3) (p : Fin 8192) (j : Fin 3) :
    moved (second (wide T L G W1 b1) (wide T L G Ws bs) W2 b2) Wo bo (ix3 0 p j)
      = displacement T L G W1 b1 W2 b2 Ws bs Wo bo p j := by
  have e1 := wide_apply T L G W1 b1
  have es := wide_apply T L G Ws bs
  generalize wide T L G W1 b1 = x at e1
  generalize wide T L G Ws bs = y at es
  unfold displacement deep next
  pointwise [moved, second]
  simp only [e1, es]

/-- The second result of the plain program is the material value. -/
theorem weighed_apply (W1 : Layers.Table 128 771) (b1 : List1 128) (W2 : Layers.Table 64 128) (b2 : List1 64)
    (W3 : Layers.Table 1 64) (b3 : List1 1) (p : Fin 8192) :
    weighed (small (narrow T L G W1 b1) W2 b2) W3 b3 (ix3 0 p 0) = material T L G W1 b1 W2 b2 W3 b3 p := by
  have e1 := narrow_apply T L G W1 b1
  generalize narrow T L G W1 b1 = x at e1
  unfold material gate next
  pointwise [weighed, small]
  simp only [e1]

end Cert.Proof.Plain

end
-- ==== Proof.Perceptron.lean ====
/-
  The networks' program on the TensorCore: sixteen grid points, each of which takes 512 points' coordinates and local
  features, the global features and all weights, and leaves the 512 points' displacements and material values. Its inputs
  are prepared from the arguments: each first layer's weight table is cut into the columns of the coordinates, of the
  local features and of the global features, and all weight tables are turned.

  First each window's block, read at a position, is the argument's entry it was taken from. Then what a grid point leaves
  is the displacement and the material value of Layers.lean at that point's rows, so the two result arrays hold them
  everywhere, as the plain program's results do (Plain.lean).
-/
module

public import proofs.«01_k».proof.Defs
public import proofs.«01_k».proof.Proof.Plain
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import Idealize.ShloMosaic.Lib.Pipeline.ValueKit
public import Idealize.ShloMosaic.Lib.Claim

@[expose] public section

set_option maxRecDepth 16384

noncomputable section

namespace Cert.Proof.Perceptron

open Cert.MlpIdeal Cert.MlpIdeal.Gen
open Idealize.ShloMosaic Idealize.ShloMosaic.TcCoe Idealize.SL.Sem
open Cert.Proof.Layers
open scoped BigOperators

section Blocks

variable (m : (ℓ : Loc nD τ sig) → Buf (Elt Ideal) ℓ) (c : Dev nD) (t : Fin cfg0.N)

/-- There are sixteen grid points. -/
theorem points : t.val < 16 := by
  have h : cfg0.N = 16 := N_0
  have := t.isLt
  omega

/-- The point that row `r` of grid point `t`'s block belongs to. -/
def row (r : Fin 512) : Fin 8192 := ⟨512 * t.val + r.val, by have := points t; omega⟩

/-! ### Each input window's block, read at a position -/

/-- The points' coordinates. -/
theorem block0 (r : Fin 512) (k : Fin 3) : iblk m c 0 t (ix3 0 r k) = m ((c.tc : Thread nD τ).loc main_arg0) (ix3 0 (row t r) k) := by
  have idx : ∀ t : Fin cfg0.N, win0_0.index t = ![0, t.val, 0] := by decide +kernel
  have := points t
  unfold row
  blk_ext! [iblk, V, idx t]

/-- The points' local features. -/
theorem block1 (r : Fin 512) (k : Fin 256) : iblk m c 1 t (ix3 0 r k) = m ((c.tc : Thread nD τ).loc main_arg1) (ix3 0 (row t r) k) := by
  have idx : ∀ t : Fin cfg0.N, win0_1.index t = ![0, t.val, 0] := by decide +kernel
  have := points t
  unfold row
  blk_ext! [iblk, V, idx t]

/-- The global features. -/
theorem block2 (k : Fin 512) : iblk m c 2 t (ix3 0 0 k) = m ((c.tc : Thread nD τ).loc main_arg2) (ix2 0 k) := by
  have idx : ∀ t : Fin cfg0.N, win0_2.index t = ![0, 0, 0] := by decide +kernel
  blk_ext! [iblk, V, idx t]

/-- The displacement network's first layer, the columns of the coordinates. -/
theorem block3 (k : Fin 3) (j : Fin 256) : iblk m c 3 t (ix2 k j) = m ((c.tc : Thread nD τ).loc main_arg3) (ix2 j ⟨k.val, by omega⟩) := by
  have idx : ∀ t : Fin cfg0.N, win0_3.index t = ![0, 0] := by decide +kernel
  blk_ext! [iblk, V, idx t]

/-- The displacement network's first layer, the columns of the local features. -/
theorem block4 (k : Fin 256) (j : Fin 256) : iblk m c 4 t (ix2 k j) = m ((c.tc : Thread nD τ).loc main_arg3) (ix2 j ⟨3 + k.val, by omega⟩) := by
  have idx : ∀ t : Fin cfg0.N, win0_4.index t = ![0, 0] := by decide +kernel
  blk_ext! [iblk, V, idx t]

/-- The displacement network's first layer, the columns of the global features. -/
theorem block5 (k : Fin 512) (j : Fin 256) : iblk m c 5 t (ix2 k j) = m ((c.tc : Thread nD τ).loc main_arg3) (ix2 j ⟨259 + k.val, by omega⟩) := by
  have idx : ∀ t : Fin cfg0.N, win0_5.index t = ![0, 0] := by decide +kernel
  blk_ext! [iblk, V, idx t]

/-- The displacement network's first layer, the biases. -/
theorem block6 (j : Fin 256) : iblk m c 6 t (ix2 0 j) = m ((c.tc : Thread nD τ).loc main_arg4) (ix1 j) := by
  have idx : ∀ t : Fin cfg0.N, win0_6.index t = ![0, 0] := by decide +kernel
  blk_ext! [iblk, V, idx t]

/-- The displacement network's second layer, the weights. -/
theorem block7 (k : Fin 256) (j : Fin 256) : iblk m c 7 t (ix2 k j) = m ((c.tc : Thread nD τ).loc main_arg5) (ix2 j k) := by
  have idx : ∀ t : Fin cfg0.N, win0_7.index t = ![0, 0] := by decide +kernel
  blk_ext! [iblk, V, idx t]

/-- The displacement network's second layer, the biases. -/
theorem block8 (j : Fin 256) : iblk m c 8 t (ix2 0 j) = m ((c.tc : Thread nD τ).loc main_arg6) (ix1 j) := by
  have idx : ∀ t : Fin cfg0.N, win0_8.index t = ![0, 0] := by decide +kernel
  blk_ext! [iblk, V, idx t]

/-- The direct path, the columns of the coordinates. -/
theorem block9 (k : Fin 3) (j : Fin 256) : iblk m c 9 t (ix2 k j) = m ((c.tc : Thread nD τ).loc main_arg7) (ix2 j ⟨k.val, by omega⟩) := by
  have idx : ∀ t : Fin cfg0.N, win0_9.index t = ![0, 0] := by decide +kernel
  blk_ext! [iblk, V, idx t]

/-- The direct path, the columns of the local features. -/
theorem block10 (k : Fin 256) (j : Fin 256) : iblk m c 10 t (ix2 k j) = m ((c.tc : Thread nD τ).loc main_arg7) (ix2 j ⟨3 + k.val, by omega⟩) := by
  have idx : ∀ t : Fin cfg0.N, win0_10.index t = ![0, 0] := by decide +kernel
  blk_ext! [iblk, V, idx t]

/-- The direct path, the columns of the global features. -/
theorem block11 (k : Fin 512) (j : Fin 256) : iblk m c 11 t (ix2 k j) = m ((c.tc : Thread nD τ).loc main_arg7) (ix2 j ⟨259 + k.val, by omega⟩) := by
  have idx : ∀ t : Fin cfg0.N, win0_11.index t = ![0, 0] := by decide +kernel
  blk_ext! [iblk, V, idx t]

/-- The direct path, the biases. -/
theorem block12 (j : Fin 256) : iblk m c 12 t (ix2 0 j) = m ((c.tc : Thread nD τ).loc main_arg8) (ix1 j) := by
  have idx : ∀ t : Fin cfg0.N, win0_12.index t = ![0, 0] := by decide +kernel
  blk_ext! [iblk, V, idx t]

/-- The displacement network's last layer, the weights. -/
theorem block13 (k : Fin 256) (j : Fin 3) : iblk m c 13 t (ix2 k j) = m ((c.tc : Thread nD τ).loc main_arg9) (ix2 j k) := by
  have idx : ∀ t : Fin cfg0.N, win0_13.index t = ![0, 0] := by decide +kernel
  blk_ext! [iblk, V, idx t]

/-- The displacement network's last layer, the biases. -/
theorem block14 (j : Fin 3) : iblk m c 14 t (ix2 0 j) = m ((c.tc : Thread nD τ).loc main_arg10) (ix1 j) := by
  have idx : ∀ t : Fin cfg0.N, win0_14.index t = ![0, 0] := by decide +kernel
  blk_ext! [iblk, V, idx t]

/-- The material network's first layer, the columns of the coordinates. -/
theorem block15 (k : Fin 3) (j : Fin 128) : iblk m c 15 t (ix2 k j) = m ((c.tc : Thread nD τ).loc main_arg11) (ix2 j ⟨k.val, by omega⟩) := by
  have idx : ∀ t : Fin cfg0.N, win0_15.index t = ![0, 0] := by decide +kernel
  blk_ext! [iblk, V, idx t]

/-- The material network's first layer, the columns of the local features. -/
theorem block16 (k : Fin 256) (j : Fin 128) : iblk m c 16 t (ix2 k j) = m ((c.tc : Thread nD τ).loc main_arg11) (ix2 j ⟨3 + k.val, by omega⟩) := by
  have idx : ∀ t : Fin cfg0.N, win0_16.index t = ![0, 0] := by decide +kernel
  blk_ext! [iblk, V, idx t]

/-- The material network's first layer, the columns of the global features. -/
theorem block17 (k : Fin 512) (j : Fin 128) : iblk m c 17 t (ix2 k j) = m ((c.tc : Thread nD τ).loc main_arg11) (ix2 j ⟨259 + k.val, by omega⟩) := by
  have idx : ∀ t : Fin cfg0.N, win0_17.index t = ![0, 0] := by decide +kernel
  blk_ext! [iblk, V, idx t]

/-- The material network's first layer, the biases. -/
theorem block18 (j : Fin 128) : iblk m c 18 t (ix2 0 j) = m ((c.tc : Thread nD τ).loc main_arg12) (ix1 j) := by
  have idx : ∀ t : Fin cfg0.N, win0_18.index t = ![0, 0] := by decide +kernel
  blk_ext! [iblk, V, idx t]

/-- The material network's second layer, the weights. -/
theorem block19 (k : Fin 128) (j : Fin 64) : iblk m c 19 t (ix2 k j) = m ((c.tc : Thread nD τ).loc main_arg13) (ix2 j k) := by
  have idx : ∀ t : Fin cfg0.N, win0_19.index t = ![0, 0] := by decide +kernel
  blk_ext! [iblk, V, idx t]

/-- The material network's second layer, the biases. -/
theorem block20 (j : Fin 64) : iblk m c 20 t (ix2 0 j) = m ((c.tc : Thread nD τ).loc main_arg14) (ix1 j) := by
  have idx : ∀ t : Fin cfg0.N, win0_20.index t = ![0, 0] := by decide +kernel
  blk_ext! [iblk, V, idx t]

/-- The material network's last layer, the weights. -/
theorem block21 (k : Fin 64) (j : Fin 1) : iblk m c 21 t (ix2 k j) = m ((c.tc : Thread nD τ).loc main_arg15) (ix2 j k) := by
  have idx : ∀ t : Fin cfg0.N, win0_21.index t = ![0, 0] := by decide +kernel
  blk_ext! [iblk, V, idx t]

/-- The material network's last layer, the biases. -/
theorem block22 (j : Fin 1) : iblk m c 22 t (ix2 0 j) = m ((c.tc : Thread nD τ).loc main_arg16) (ix1 j) := by
  have idx : ∀ t : Fin cfg0.N, win0_22.index t = ![0, 0] := by decide +kernel
  blk_ext! [iblk, V, idx t]

/-! ### What a grid point leaves -/

/-- The displacements of grid point `t`'s rows. -/
theorem left_moved (r : Fin 512) (j : Fin 3) :
    out0_23 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t) (iblk m c 20 t)
      (iblk m c 21 t) (iblk m c 22 t) (ix3 0 r j)
      = displacement (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (row t r) j := by
  frame_out
  unfold_payloads
  pointwise
  simp only [block0, block1, block2, block3, block4, block5, block6, block7, block8, block9, block10, block11, block12,
    block13, block14]
  unfold displacement next deep next first
  simp only [zero_sub, add_assoc]

/-- The material values of grid point `t`'s rows. -/
theorem left_weighed (r : Fin 512) :
    out0_24 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t) (iblk m c 20 t)
      (iblk m c 21 t) (iblk m c 22 t) (ix3 0 r 0)
      = material (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (row t r) := by
  frame_out
  unfold_payloads
  pointwise
  simp only [block0, block1, block2, block15, block16, block17, block18, block19, block20, block21, block22]
  unfold material next gate next first
  simp only [zero_sub, add_assoc]

end Blocks

end Cert.Proof.Perceptron

end
-- ==== Proof.Networks.lean ====
/-
  The networks' claims: the frames of the program as printed, of the program at exact arithmetic and of the plain program,
  and that at exact arithmetic the two programs' results are equal. The result arrays of the grid program are put together
  from what its sixteen points leave (Perceptron.lean); each result of the plain program is read at an entry (Plain.lean).
-/
module

public import proofs.«01_k».proof.Proof.Perceptron

@[expose] public section

set_option maxRecDepth 16384

noncomputable section

namespace Cert.Proof.Networks

open Cert.MlpIdeal Cert.MlpIdeal.Gen
open Idealize.ShloMosaic Idealize.ShloMosaic.TcCoe Idealize.SL.Sem
open Cert.Proof.Layers Cert.Proof.Perceptron

variable (m : (ℓ : Loc nD τ sig) → Buf (Elt Ideal) ℓ) (c : Dev nD)

/-- The first result array: every point's displacement, from the arguments. -/
def movedOut : FVec Ideal S1x8192x3 .f32 := fun i =>
  displacement (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 1) (i 2)

/-- The second result array: every point's material value, from the arguments. -/
def weighedOut : FVec Ideal S1x8192x1 .f32 := fun i =>
  material (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (i 1)

/-- After the run the first result array holds the displacements. -/
theorem moved_final : (dats m 0 c).arrAt 23 cfg0.N = movedOut m c := by
  refine (dats m 0 c).arrAt_eq_of_covers 23 _ (by decide +kernel) fun t hf y => ?_
  blk_simp
  rw [after0_23]
  have idx : ∀ t : Fin cfg0.N, win0_23.index t = ![0, t.val, 0] := by decide +kernel
  obtain ⟨a, r, j, rfl⟩ : ∃ (a : Fin 1) (r : Fin 512) (j : Fin 3), y = ix3 a r j := ⟨y 0, y 1, y 2, eq_ix3 y⟩
  obtain rfl : a = 0 := Subsingleton.elim _ _
  refine (left_moved m c t r j).trans ?_
  have e : ((View.whole main_v30_0).slice (win0_23.rect t)).emb (ix3 0 r j) = ix3 0 (row t r) j := by
    unfold row
    blk_ext [idx t]
  rw [e]
  rfl

/-- After the run the second result array holds the material values. -/
theorem weighed_final : (dats m 0 c).arrAt 24 cfg0.N = weighedOut m c := by
  refine (dats m 0 c).arrAt_eq_of_covers 24 _ (by decide +kernel) fun t hf y => ?_
  blk_simp
  rw [after0_24]
  have idx : ∀ t : Fin cfg0.N, win0_24.index t = ![0, t.val, 0] := by decide +kernel
  obtain ⟨a, r, j, rfl⟩ : ∃ (a : Fin 1) (r : Fin 512) (j : Fin 1), y = ix3 a r j := ⟨y 0, y 1, y 2, eq_ix3 y⟩
  obtain rfl : a = 0 := Subsingleton.elim _ _
  obtain rfl : j = 0 := Subsingleton.elim _ _
  refine (left_weighed m c t r).trans ?_
  have e : ((View.whole main_v30_1).slice (win0_24.rect t)).emb (ix3 0 r 0) = ix3 0 (row t r) 0 := by
    unfold row
    blk_ext [idx t]
  rw [e]
  rfl

/-- The plain program's first result is the same array. -/
theorem moved_plain : Plain.moved (Plain.second (Plain.wide (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (Plain.wide (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8))) (m ((c.tc : Thread nD τ).loc main_arg5)) (m ((c.tc : Thread nD τ).loc main_arg6))) (m ((c.tc : Thread nD τ).loc main_arg9)) (m ((c.tc : Thread nD τ).loc main_arg10))
    = movedOut m c := by
  funext i
  obtain ⟨a, p, j, rfl⟩ : ∃ (a : Fin 1) (p : Fin 8192) (j : Fin 3), i = ix3 a p j := ⟨i 0, i 1, i 2, eq_ix3 i⟩
  obtain rfl : a = 0 := Subsingleton.elim _ _
  exact Plain.moved_apply _ _ _ _ _ _ _ _ _ _ _ p j

/-- The plain program's second result is the same array. -/
theorem weighed_plain : Plain.weighed (Plain.small (Plain.narrow (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12))) (m ((c.tc : Thread nD τ).loc main_arg13)) (m ((c.tc : Thread nD τ).loc main_arg14))) (m ((c.tc : Thread nD τ).loc main_arg15)) (m ((c.tc : Thread nD τ).loc main_arg16))
    = weighedOut m c := by
  funext i
  obtain ⟨a, p, j, rfl⟩ : ∃ (a : Fin 1) (p : Fin 8192) (j : Fin 1), i = ix3 a p j := ⟨i 0, i 1, i 2, eq_ix3 i⟩
  obtain rfl : a = 0 := Subsingleton.elim _ _
  obtain rfl : j = 0 := Subsingleton.elim _ _
  exact Plain.weighed_apply _ _ _ _ _ _ _ _ _ p

/-- `Cert.quiescent_Mlp` (Defs.lean). -/
theorem frame_kernel : Cert.quiescent_Mlp := fun m ρ _ => Cert.Mlp.Gen.frame m ρ

/-- `Cert.quiescent_MlpIdeal` (Defs.lean). -/
theorem frame_kernelIdeal : Cert.quiescent_MlpIdeal := fun m ρ _ => Cert.MlpIdeal.Gen.frame m ρ

/-- `Cert.quiescent_MlpReferenceIdeal` (Defs.lean): the plain program declares no semaphore. -/
theorem frame_reference : Cert.quiescent_MlpReferenceIdeal := fun m ρ _ =>
  (θ_run Cert.MlpReferenceIdeal.defs _ _).mono (fun r e => ⟨fun c => (e c).2.2, sem_eq_zero_of_no_sems (by decide) r.2⟩)
    (Cert.MlpReferenceIdeal.Value.run (F := Ideal) m ρ)

/-- `Cert.algebraic_MlpIdeal_MlpReferenceIdeal` (Defs.lean): the shared values are `movedOut` and `weighedOut`. -/
theorem algebraic : Cert.algebraic_MlpIdeal_MlpReferenceIdeal := by
  intro m ρ m' ρ' _ hm
  refine ⟨fun c => movedOut m c, fun c => weighedOut m c,
    (θ_run Cert.MlpIdeal.defs _ _).mono (fun _ e c => ⟨(e c).1.trans (moved_final m c), (e c).2.1.trans (weighed_final m c), (e c).2.2⟩)
      (Cert.MlpIdeal.Value.run_blocks (F := Ideal) m ρ), ?_⟩
  refine (θ_run Cert.MlpReferenceIdeal.defs _ _).mono (fun _ e c => ⟨(e c).1.trans ?_, (e c).2.1.trans ?_, (e c).2.2⟩)
    (Cert.MlpReferenceIdeal.Value.run (F := Ideal) m' ρ')
  · obtain ⟨h0, h1, h2, h3, h4, h5, h6, h7, h8, h9, h10, -⟩ := hm c
    rw [h0, h1, h2, h3, h4, h5, h6, h7, h8, h9, h10]
    exact moved_plain m c
  · obtain ⟨h0, h1, h2, -, -, -, -, -, -, -, -, h11, h12, h13, h14, h15, h16⟩ := hm c
    rw [h0, h1, h2, h11, h12, h13, h14, h15, h16]
    exact weighed_plain m c

end Cert.Proof.Networks

end
-- ==== Proof.Nearest.lean ====
/-
  The eight nearest of 4096 positions, taken out of 2048 pairs one after the other.

  A row of distances `d` has its positions `i` and `i + 2048` paired. Of each pair the nearer position is offered first and
  the farther one is kept in reserve. A round takes the pair whose offer is the least of all: the reserve becomes the
  offer, and the reserve becomes infinite. Here each pair is described by what it offers, and whose offer it is, after
  `k` rounds, as a function of the positions taken so far; the description is carried through a round.

  The hypothesis throughout is that eight positions `p` lead the row: their distances rise strictly, are finite from above,
  and every other position is farther than all of them.
-/
module

public import Mathlib.Data.EReal.Basic
public import Mathlib.Data.Finset.Lattice.Fold
public import Mathlib.Data.Fintype.Basic

@[expose] public section

noncomputable section

namespace Cert.Proof.Nearest

/-- A row's distances. -/
abbrev Distances := Fin 4096 → EReal

/-- Eight positions lead a row: their distances rise strictly and stay below infinity, and every other position is farther. -/
structure Leads (d : Distances) (p : Fin 8 → Fin 4096) : Prop where
  rises : ∀ i j, i < j → d (p i) < d (p j)
  least : ∀ q, (∃ i, q = p i) ∨ ∀ i, d (p i) < d q
  below : ∀ i, d (p i) < ⊤

/-- Position `q` is among the first `k` of the leading ones. -/
def taken (p : Fin 8 → Fin 4096) (k : Nat) (q : Fin 4096) : Prop := ∃ i : Fin 8, i.val < k ∧ p i = q

/-- Whether a position is taken can be decided. -/
instance (p : Fin 8 → Fin 4096) (k : Nat) (q : Fin 4096) : Decidable (taken p k q) := by unfold taken; infer_instance

/-- The lower position of pair `i`. -/
def low (i : Fin 2048) : Fin 4096 := ⟨i.val, by omega⟩

/-- The upper position of pair `i`. -/
def high (i : Fin 2048) : Fin 4096 := ⟨2048 + i.val, by omega⟩

/-- The nearer position of pair `i`, the lower one if the two are equally far. -/
def near (d : Distances) (i : Fin 2048) : Fin 4096 := if d (low i) ≤ d (high i) then low i else high i

/-- The farther position of pair `i`. -/
def far (d : Distances) (i : Fin 2048) : Fin 4096 := if d (low i) ≤ d (high i) then high i else low i

/-- What pair `i` offers after `k` rounds. -/
def offer (d : Distances) (p : Fin 8 → Fin 4096) (k : Nat) (i : Fin 2048) : EReal :=
  if ¬ taken p k (near d i) then d (near d i) else if ¬ taken p k (far d i) then d (far d i) else ⊤

/-- Whose offer that is. -/
def whose (d : Distances) (p : Fin 8 → Fin 4096) (k : Nat) (i : Fin 2048) : Fin 4096 :=
  if ¬ taken p k (near d i) then near d i else far d i

/-- What pair `i` holds in reserve after `k` rounds. -/
def reserve (d : Distances) (p : Fin 8 → Fin 4096) (k : Nat) (i : Fin 2048) : EReal :=
  if ¬ taken p k (near d i) then d (far d i) else ⊤

/-- The two positions of a pair differ. -/
theorem near_ne_far (d : Distances) (i : Fin 2048) : near d i ≠ far d i := by
  unfold near far low high
  split <;> simp [Fin.ext_iff] <;> omega

/-- The nearer position is no farther. -/
theorem near_le_far (d : Distances) (i : Fin 2048) : d (near d i) ≤ d (far d i) := by
  unfold near far
  split
  · assumption
  · exact le_of_lt (not_le.mp ‹_›)

/-- Every position is one of its pair's two. -/
theorem pair_of (d : Distances) (q : Fin 4096) : ∃ i, near d i = q ∨ far d i = q := by
  by_cases h : q.val < 2048
  · refine ⟨⟨q.val, h⟩, ?_⟩
    have e : low ⟨q.val, h⟩ = q := Fin.ext rfl
    unfold near far
    split
    · exact Or.inl e
    · exact Or.inr e
  · refine ⟨⟨q.val - 2048, by omega⟩, ?_⟩
    have e : high ⟨q.val - 2048, by omega⟩ = q := Fin.ext (by simp [high]; omega)
    unfold near far
    split
    · exact Or.inr e
    · exact Or.inl e

section Rounds

variable {d : Distances} {p : Fin 8 → Fin 4096} (h : Leads d p)
include h

/-- The leading positions differ. -/
theorem p_inj {i j : Fin 8} (e : p i = p j) : i = j := by
  rcases lt_trichotomy i j with l | l | l
  · exact absurd (h.rises i j l) (by rw [e]; exact lt_irrefl _)
  · exact l
  · exact absurd (h.rises j i l) (by rw [e]; exact lt_irrefl _)

/-- A position as far as a leading one is that one. -/
theorem eq_of_dist (k : Fin 8) (q : Fin 4096) (e : d q = d (p k)) : q = p k := by
  rcases h.least q with ⟨i, rfl⟩ | l
  · rcases lt_trichotomy i k with l | l | l
    · exact absurd (h.rises i k l) (by rw [e]; exact lt_irrefl _)
    · rw [l]
    · exact absurd (h.rises k i l) (by rw [e]; exact lt_irrefl _)
  · exact absurd (l k) (by rw [e]; exact lt_irrefl _)

/-- A position not among the first `k` is at least as far as leading position `k`. -/
theorem le_of_not_taken (k : Fin 8) (q : Fin 4096) (n : ¬ taken p k.val q) : d (p k) ≤ d q := by
  rcases h.least q with ⟨i, rfl⟩ | l
  · rcases lt_trichotomy i k with l | l | l
    · exact absurd ⟨i, l, rfl⟩ n
    · rw [l]
    · exact (h.rises k i l).le
  · exact (l k).le

/-- Leading position `k` is not among the first `k`. -/
theorem not_taken_self (k : Fin 8) : ¬ taken p k.val (p k) := fun ⟨i, l, e⟩ => by
  have := p_inj h e
  subst this
  exact lt_irrefl _ l

/-- One more round takes one more position. -/
theorem taken_succ (k : Fin 8) (q : Fin 4096) : taken p (k.val + 1) q ↔ taken p k.val q ∨ q = p k := by
  constructor
  · rintro ⟨i, l, e⟩
    rcases Nat.lt_succ_iff_lt_or_eq.mp l with l | l
    · exact Or.inl ⟨i, l, e⟩
    · have : i = k := Fin.ext l
      subst this
      exact Or.inr e.symm
  · rintro (⟨i, l, e⟩ | e)
    · exact ⟨i, Nat.lt_succ_of_lt l, e⟩
    · exact ⟨k, Nat.lt_succ_self _, e.symm⟩

/-- The farther position of a pair is not taken before the nearer one. -/
theorem near_first (k : Nat) (i : Fin 2048) (t : taken p k (far d i)) : taken p k (near d i) := by
  obtain ⟨a, l, e⟩ := t
  have le := near_le_far d i
  rw [← e] at le
  rcases h.least (near d i) with ⟨b, eb⟩ | f
  · rcases lt_trichotomy b a with g | g | g
    · exact ⟨b, lt_trans g l, eb.symm⟩
    · subst g
      exact absurd (eb.trans e) (near_ne_far d i)
    · rw [eb] at le
      exact absurd (h.rises a b g) (not_lt.mpr le)
  · exact absurd (f a) (not_lt.mpr le)

/-- Every offer of round `k` is at least the distance of leading position `k`. -/
theorem le_offer (k : Fin 8) (i : Fin 2048) : d (p k) ≤ offer d p k.val i := by
  unfold offer
  split
  · exact le_of_not_taken h k _ ‹_›
  · split
    · exact le_of_not_taken h k _ ‹_›
    · exact le_top

/-- A pair offers the distance of leading position `k` exactly if the offer is that position's. -/
theorem offer_eq_iff (k : Fin 8) (i : Fin 2048) : offer d p k.val i = d (p k) ↔ whose d p k.val i = p k := by
  unfold offer whose
  by_cases n : taken p k.val (near d i)
  · by_cases f : taken p k.val (far d i)
    · simp only [n, f, not_true_eq_false, if_false]
      refine ⟨fun e => absurd e (h.below k).ne', fun e => ?_⟩
      rw [e] at f
      exact absurd f (not_taken_self h k)
    · simp only [n, f, not_true_eq_false, not_false_eq_true, if_false, if_true]
      exact ⟨eq_of_dist h k _, fun e => by rw [e]⟩
  · simp only [n, not_false_eq_true, if_true]
    exact ⟨eq_of_dist h k _, fun e => by rw [e]⟩

/-- Some pair offers leading position `k` in round `k`. -/
theorem exists_whose (k : Fin 8) : ∃ i, whose d p k.val i = p k := by
  obtain ⟨i, e | e⟩ := pair_of d (p k)
  · refine ⟨i, ?_⟩
    unfold whose
    rw [e, if_pos (not_taken_self h k)]
  · by_cases n : taken p k.val (near d i)
    · refine ⟨i, ?_⟩
      unfold whose
      rw [if_neg (not_not.mpr n), e]
    · exfalso
      have le := near_le_far d i
      rw [e] at le
      have ge := le_of_not_taken h k _ n
      exact near_ne_far d i ((eq_of_dist h k _ (le_antisymm le ge)).trans e.symm)

/-- A round's new offer. -/
theorem offer_succ (k : Fin 8) (i : Fin 2048) :
    offer d p (k.val + 1) i = if offer d p k.val i = d (p k) then reserve d p k.val i else offer d p k.val i := by
  have key := offer_eq_iff h k i
  by_cases e : whose d p k.val i = p k
  · rw [if_pos (key.mpr e)]
    unfold whose at e
    unfold offer reserve
    by_cases n : taken p k.val (near d i)
    · rw [if_neg (not_not.mpr n)] at e
      rw [if_neg (not_not.mpr ((taken_succ h k _).mpr (Or.inl n))), if_neg (not_not.mpr ((taken_succ h k _).mpr (Or.inr e))),
        if_neg (not_not.mpr n)]
    · rw [if_pos n] at e
      have f : ¬ taken p (k.val + 1) (far d i) := fun t => by
        rcases (taken_succ h k _).mp t with t | t
        · exact n (near_first h _ _ t)
        · exact near_ne_far d i (e.trans t.symm)
      rw [if_neg (not_not.mpr ((taken_succ h k _).mpr (Or.inr e))), if_pos f, if_pos n]
  · rw [if_neg (fun g => e (key.mp g))]
    unfold whose at e
    unfold offer
    by_cases n : taken p k.val (near d i)
    · rw [if_neg (not_not.mpr n)] at e
      rw [if_neg (not_not.mpr ((taken_succ h k _).mpr (Or.inl n))), if_neg (not_not.mpr n)]
      by_cases f : taken p k.val (far d i)
      · rw [if_neg (not_not.mpr f), if_neg (not_not.mpr ((taken_succ h k _).mpr (Or.inl f)))]
      · rw [if_pos f, if_pos (fun t => ((taken_succ h k _).mp t).elim f e)]
    · rw [if_pos n] at e
      rw [if_pos n, if_pos (fun t => ((taken_succ h k _).mp t).elim n e)]

/-- Whose offer that is. -/
theorem whose_succ (k : Fin 8) (i : Fin 2048) :
    whose d p (k.val + 1) i = if offer d p k.val i = d (p k) then far d i else whose d p k.val i := by
  have key := offer_eq_iff h k i
  by_cases e : whose d p k.val i = p k
  · rw [if_pos (key.mpr e)]
    unfold whose at e ⊢
    by_cases n : taken p k.val (near d i)
    · rw [if_neg (not_not.mpr ((taken_succ h k _).mpr (Or.inl n)))]
    · rw [if_pos n] at e
      rw [if_neg (not_not.mpr ((taken_succ h k _).mpr (Or.inr e)))]
  · rw [if_neg (fun g => e (key.mp g))]
    unfold whose at e ⊢
    by_cases n : taken p k.val (near d i)
    · rw [if_neg (not_not.mpr ((taken_succ h k _).mpr (Or.inl n))), if_neg (not_not.mpr n)]
    · rw [if_pos n] at e
      rw [if_pos n, if_pos (fun t => ((taken_succ h k _).mp t).elim n e)]

/-- A round's new reserve. -/
theorem reserve_succ (k : Fin 8) (i : Fin 2048) :
    reserve d p (k.val + 1) i = if offer d p k.val i = d (p k) then ⊤ else reserve d p k.val i := by
  have key := offer_eq_iff h k i
  by_cases e : whose d p k.val i = p k
  · rw [if_pos (key.mpr e)]
    unfold whose at e
    unfold reserve
    by_cases n : taken p k.val (near d i)
    · rw [if_neg (not_not.mpr ((taken_succ h k _).mpr (Or.inl n)))]
    · rw [if_pos n] at e
      rw [if_neg (not_not.mpr ((taken_succ h k _).mpr (Or.inr e)))]
  · rw [if_neg (fun g => e (key.mp g))]
    unfold whose at e
    unfold reserve
    by_cases n : taken p k.val (near d i)
    · rw [if_neg (not_not.mpr ((taken_succ h k _).mpr (Or.inl n))), if_neg (not_not.mpr n)]
    · rw [if_pos n] at e
      rw [if_pos n, if_pos (fun t => ((taken_succ h k _).mp t).elim n e)]

/-- The least offer of round `k` is the distance of leading position `k`. -/
theorem least_offer (k : Fin 8) : (Finset.univ : Finset (Fin 2048)).fold min ⊤ (offer d p k.val) = d (p k) := by
  refine le_antisymm ?_ ?_
  · obtain ⟨i, e⟩ := exists_whose h k
    exact (Finset.fold_min_le _).mpr (Or.inr ⟨i, Finset.mem_univ _, ((offer_eq_iff h k i).mpr e).le⟩)
  · exact Finset.le_fold_min _ |>.mpr ⟨le_top, fun i _ => le_offer h k i⟩

/-- The least of the positions whose offer is the least one, the other pairs counted as 4096, is leading position `k`. -/
theorem least_whose (k : Fin 8) :
    (Finset.univ : Finset (Fin 2048)).fold min ⊤
        (fun i => if offer d p k.val i = d (p k) then (((whose d p k.val i).val : ℝ) : EReal) else ((4096 : ℝ) : EReal))
      = (((p k).val : ℝ) : EReal) := by
  refine le_antisymm ?_ ?_
  · obtain ⟨i, e⟩ := exists_whose h k
    refine (Finset.fold_min_le _).mpr (Or.inr ⟨i, Finset.mem_univ _, ?_⟩)
    rw [if_pos ((offer_eq_iff h k i).mpr e), e]
  · refine Finset.le_fold_min _ |>.mpr ⟨le_top, fun i _ => ?_⟩
    split
    · rw [(offer_eq_iff h k i).mp ‹_›]
    · rw [EReal.coe_le_coe_iff]
      exact_mod_cast (p k).isLt.le

end Rounds

/-- Before any round nothing is taken. -/
theorem not_taken_zero (p : Fin 8 → Fin 4096) (q : Fin 4096) : ¬ taken p 0 q := fun ⟨_, l, _⟩ => absurd l (Nat.not_lt_zero _)

/-- The first offers are the pairs' lesser distances, -/
theorem offer_zero (d : Distances) (p : Fin 8 → Fin 4096) (i : Fin 2048) : offer d p 0 i = min (d (low i)) (d (high i)) := by
  unfold offer near
  rw [if_pos (not_taken_zero p _)]
  split
  · exact (min_eq_left ‹_›).symm
  · exact (min_eq_right (not_le.mp ‹_›).le).symm

/-- made by the nearer positions, -/
theorem whose_zero (d : Distances) (p : Fin 8 → Fin 4096) (i : Fin 2048) : whose d p 0 i = near d i := by
  unfold whose
  rw [if_pos (not_taken_zero p _)]

/-- and the first reserves are the greater distances. -/
theorem reserve_zero (d : Distances) (p : Fin 8 → Fin 4096) (i : Fin 2048) : reserve d p 0 i = max (d (low i)) (d (high i)) := by
  unfold reserve far
  rw [if_pos (not_taken_zero p _)]
  split
  · exact (max_eq_right ‹_›).symm
  · exact (max_eq_left (not_le.mp ‹_›).le).symm

end Cert.Proof.Nearest

end
-- ==== Proof.Rounds.lean ====
/-
  The eight rounds of the nearest-points program, on a block of 256 rows at once. A round finds each row's least offer,
  the pairs that make it, and the least of those pairs' positions; then those pairs' reserves become their offers.

  `Held` says of the three arrays a round reads — the offers, whose they are, and the reserves — that they are those of
  Nearest.lean after `k` rounds, in every row. A round carries it from `k` to `k + 1`, and what the round finds is the
  distance of the row's leading position `k`, and that position.
-/
module

public import proofs.«01_k».proof.Defs
public import proofs.«01_k».proof.Proof.Nearest
public import proofs.«01_k».proof.Proof.Gen.TopkIdeal
public import proofs.«01_k».proof.Proof.Gen.TopkIdeal.Frame
public import Idealize.ShloMosaic.Lib.Pipeline.ValueKit
public import Idealize.ShloMosaic.Lib.Claim

@[expose] public section

set_option maxRecDepth 16384

noncomputable section

namespace Cert.Proof.Rounds

open Cert.TopkIdeal Cert.TopkIdeal.Gen
open Idealize.ShloMosaic Idealize.ShloMosaic.TcCoe Idealize.SL.Sem
open Cert.Proof.Nearest
open scoped BigOperators

/-- A block's pairs. -/
abbrev Pairs := FVec Ideal S256x2048 .f32

/-- A block's rows. -/
abbrev Rows := FVec Ideal S256x1 .f32

/-- Each row's least entry. -/
def least (v : Pairs) : Rows :=
  shapeCast S256x1 (multiReduction .minimumf [1] S256 v 0x7F800000#32 reduces_S256x2048_S256 (.inl rfl) rfl) shapeCasts_S256_S256x1

/-- The pairs that make the least offer. -/
def hits (v : Pairs) : IVec S256x2048 1 := cmpf .oeq v (broadcastTo S256x2048 (least v) broadcasts_S256x1_S256x2048)

/-- The least position among those pairs' offers. -/
def picked (v iv : Pairs) : Rows :=
  least (select (hits v) iv (broadcast S256x2048 (Scalar.ofBits .f32 0x45800000#32 : Ideal .f32)))

/-- A position as a number. -/
def number (q : Fin 4096) : EReal := ((q.val : ℝ) : EReal)

/-- The pattern of infinity. -/
theorem infinite : Ideal.ofBits .f32 0x7F800000#32 = ⊤ := by simp [Ideal.ofBits, Ideal.ieee]

/-- The pattern of 2048. -/
theorem half : Ideal.ofBits .f32 0x45000000#32 = ((2048 : ℝ) : EReal) := by
  simp [Ideal.ofBits, Ideal.ieee, -EReal.coe_mul]
  norm_num

/-- The pattern of 4096. -/
theorem whole : Ideal.ofBits .f32 0x45800000#32 = ((4096 : ℝ) : EReal) := by
  simp [Ideal.ofBits, Ideal.ieee, -EReal.coe_mul]
  norm_num

/-- A row's least entry, read. -/
theorem least_apply (v : Pairs) (r : Fin 256) : least v (ix2 r 0) = (Finset.univ : Finset (Fin 2048)).fold min ⊤ fun i => v (ix2 r i) := by
  unfold least
  pointwise
  rw [infinite]

/-- Whether a pair makes the least offer, read. -/
theorem hits_apply (v : Pairs) (r : Fin 256) (i : Fin 2048) : hits v (ix2 r i) = BitVec.ofBool (decide (v (ix2 r i) = least v (ix2 r 0))) := by
  unfold hits
  pointwise

/-- A choice by the pairs that make the least offer, read. -/
theorem choice_apply (v a b : Pairs) (r : Fin 256) (i : Fin 2048) :
    select (hits v) a b (ix2 r i) = if v (ix2 r i) = least v (ix2 r 0) then a (ix2 r i) else b (ix2 r i) := by
  show (if hits v (ix2 r i) = 1#1 then a (ix2 r i) else b (ix2 r i)) = _
  rw [hits_apply]
  by_cases h : v (ix2 r i) = least v (ix2 r 0) <;> simp [h]

/-- The three arrays of a round, as they stand after `k` rounds. -/
structure Held (d : Fin 256 → Distances) (p : Fin 256 → Fin 8 → Fin 4096) (k : Nat) (v iv u : Pairs) : Prop where
  offers : ∀ r i, v (ix2 r i) = offer (d r) (p r) k i
  names : ∀ r i, iv (ix2 r i) = number (whose (d r) (p r) k i)
  reserves : ∀ r i, u (ix2 r i) = reserve (d r) (p r) k i

section

variable {d : Fin 256 → Distances} {p : Fin 256 → Fin 8 → Fin 4096} {v iv u iu : Pairs}

/-- A round finds the distance of the row's leading position. -/
theorem Held.least (lead : ∀ r, Leads (d r) (p r)) (k : Fin 8) (h : Held d p k.val v iv u) (r : Fin 256) :
    least v (ix2 r 0) = d r (p r k) := by
  rw [least_apply, ← least_offer (lead r) k]
  congr 1
  funext i
  exact h.offers r i

/-- A round picks that position. -/
theorem Held.picked (lead : ∀ r, Leads (d r) (p r)) (k : Fin 8) (h : Held d p k.val v iv u) (r : Fin 256) :
    picked v iv (ix2 r 0) = number (p r k) := by
  unfold Rounds.picked
  rw [least_apply]
  refine Eq.trans ?_ (least_whose (lead r) k)
  congr 1
  funext i
  rw [choice_apply, h.least lead k r, h.offers, h.names]
  show (if _ then _ else Ideal.ofBits .f32 0x45800000#32) = _
  rw [whole]
  rfl

/-- A round's new arrays. -/
theorem Held.next (lead : ∀ r, Leads (d r) (p r)) (hf : ∀ r i, iu (ix2 r i) = number (far (d r) i)) (k : Fin 8)
    (h : Held d p k.val v iv u) :
    Held d p (k.val + 1) (select (hits v) u v) (select (hits v) iu iv)
      (select (hits v) (broadcast S256x2048 (Scalar.ofBits .f32 0x7F800000#32 : Ideal .f32)) u) where
  offers r i := by
    rw [choice_apply, h.least lead k r, h.offers, h.reserves, offer_succ (lead r)]
  names r i := by
    rw [choice_apply, h.least lead k r, h.offers, h.names, hf, whose_succ (lead r)]
    split <;> rfl
  reserves r i := by
    rw [choice_apply, h.least lead k r, h.offers, h.reserves, reserve_succ (lead r)]
    show (if _ then Ideal.ofBits .f32 0x7F800000#32 else _) = _
    rw [infinite]

end

/-! ### The program's rounds -/

section Block

variable (x : Vec Ideal S1x256x3 .f32) (y : Vec Ideal S1x3x4096 .f32)

/-- The block's distances. -/
def dist (r : Fin 256) : Distances := fun q => k0_pay3 x y (ix2 r q)

/-- A pair's first position as a number. -/
theorem count_apply (r : Fin 256) (i : Fin 2048) : k0_pay9 (F := Ideal) (ix2 r i) = ((i.val : ℝ) : EReal) := by
  unfold k0_pay9
  pointwise
  show (((BitVec.ofNat 32 i.val).toInt : ℝ) : EReal) = _
  rw [show (BitVec.ofNat 32 i.val).toInt = (i.val : ℤ) by
    rw [BitVec.toInt_ofNat']
    exact Int.bmod_eq_of_le (by omega) (by omega)]
  simp

/-- 2048 more is the pair's other position. -/
theorem number_high (i : Fin 2048) : ((i.val : ℝ) : EReal) + ((2048 : ℝ) : EReal) = number (high i) := by
  unfold number high
  rw [← EReal.coe_add]
  push_cast
  rw [add_comm]

/-- The lower half of the distances. -/
theorem low_apply (r : Fin 256) (i : Fin 2048) : k0_pay4 x y (ix2 r i) = dist x y r (low i) := by
  unfold k0_pay4 dist low
  pointwise

/-- The upper half of the distances. -/
theorem high_apply (r : Fin 256) (i : Fin 2048) : k0_pay5 x y (ix2 r i) = dist x y r (high i) := by
  unfold k0_pay5 dist high
  pointwise

/-- Whether a pair's lower position is no farther than its upper one. -/
theorem lower_apply (r : Fin 256) (i : Fin 2048) : k0_pay6 x y (ix2 r i) = BitVec.ofBool (decide (dist x y r (low i) ≤ dist x y r (high i))) := by
  rw [← low_apply, ← high_apply]
  unfold k0_pay6
  pointwise

/-- The nearer positions. -/
theorem names_apply (r : Fin 256) (i : Fin 2048) : k0_pay10 x y (ix2 r i) = number (near (dist x y r) i) := by
  unfold k0_pay10
  show (if k0_pay6 x y (ix2 r i) = 1#1 then k0_pay9 (F := Ideal) (ix2 r i) else k0_pay9 (F := Ideal) (ix2 r i) + Ideal.ofBits .f32 0x45000000#32) = _
  rw [lower_apply, count_apply, half, number_high]
  unfold near
  by_cases h : dist x y r (low i) ≤ dist x y r (high i)
  · simp only [h, decide_true, BitVec.ofBool_true, if_true]
    rfl
  · simp [h]

/-- The farther positions. -/
theorem far_apply (r : Fin 256) (i : Fin 2048) : k0_pay11 x y (ix2 r i) = number (far (dist x y r) i) := by
  unfold k0_pay11
  show (if k0_pay6 x y (ix2 r i) = 1#1 then k0_pay9 (F := Ideal) (ix2 r i) + Ideal.ofBits .f32 0x45000000#32 else k0_pay9 (F := Ideal) (ix2 r i)) = _
  rw [lower_apply, count_apply, half, number_high]
  unfold far
  by_cases h : dist x y r (low i) ≤ dist x y r (high i)
  · simp [h]
  · simp only [h, decide_false, BitVec.ofBool_false, if_false]
    rfl

/-- The first round's arrays. -/
theorem held0 (p : Fin 256 → Fin 8 → Fin 4096) : Held (dist x y) p 0 (k0_pay7 x y) (k0_pay10 x y) (k0_pay8 x y) where
  offers r i := by
    rw [offer_zero, ← low_apply, ← high_apply]
    rfl
  names r i := by rw [whose_zero, names_apply]
  reserves r i := by
    rw [reserve_zero, ← low_apply, ← high_apply]
    rfl

/-- Eight columns side by side. -/
def beside (c : Fin 8 → Rows) : FVec Ideal S256x8 .f32 :=
  concatenate S256x8 1 (List.ofFn fun n : Fin 8 => (⟨S256x1, c n⟩ : (s : Shape) × (s.Idx → _)))
    concatenates_S256x1_S256x1_S256x1_S256x1_S256x1_S256x1_S256x1_S256x1_S256x8_d1

/-- One of eight columns, read. -/
theorem beside_apply (c : Fin 8 → Rows) (r : Fin 256) (k : Fin 8) : beside c (ix2 r k) = c k (ix2 r 0) := by
  unfold beside
  exact concatenate_ofFn_apply (t := S256x8) (s₁ := S256x1) (1 : Fin 2) c _ rfl 1 rfl (ix2 r k) k (by simp) (ix2 r 0) (Nat.mod_one _).symm
    (fun b hb => by fin_cases b <;> simp_all)

end Block

section Chain

variable {d : Fin 256 → Distances} {p : Fin 256 → Fin 8 → Fin 4096} {v iv u iu : Pairs}

/-- After one round. -/
theorem held1 (lead : ∀ r, Leads (d r) (p r)) (hf : ∀ r i, iu (ix2 r i) = number (far (d r) i)) (h : Held d p 0 v iv u) :
    Held d p 1 (k0_pay16 v u (hits v)) (k0_pay17 iv iu (hits v)) (k0_pay18 u (hits v)) := h.next lead hf 0

/-- After two rounds. -/
theorem held2 (lead : ∀ r, Leads (d r) (p r)) (hf : ∀ r i, iu (ix2 r i) = number (far (d r) i)) (h : Held d p 0 v iv u) :
    Held d p 2 (k0_pay22 v u (hits v)) (k0_pay23 v u iv iu (hits v)) (k0_pay24 v u (hits v)) := (held1 lead hf h).next lead hf 1

/-- After three rounds. -/
theorem held3 (lead : ∀ r, Leads (d r) (p r)) (hf : ∀ r i, iu (ix2 r i) = number (far (d r) i)) (h : Held d p 0 v iv u) :
    Held d p 3 (k0_pay28 v u (hits v)) (k0_pay29 v u iv iu (hits v)) (k0_pay30 v u (hits v)) := (held2 lead hf h).next lead hf 2

/-- After four rounds. -/
theorem held4 (lead : ∀ r, Leads (d r) (p r)) (hf : ∀ r i, iu (ix2 r i) = number (far (d r) i)) (h : Held d p 0 v iv u) :
    Held d p 4 (k0_pay34 v u (hits v)) (k0_pay35 v u iv iu (hits v)) (k0_pay36 v u (hits v)) := (held3 lead hf h).next lead hf 3

/-- After five rounds, from the arrays after four. -/
theorem held5 (lead : ∀ r, Leads (d r) (p r)) (hf : ∀ r i, iu (ix2 r i) = number (far (d r) i)) (h : Held d p 4 v iv u) :
    Held d p 5 (k0_pay39 v u (least v)) (select (k0_pay38 v (least v)) iu iv) (k0_pay40 v u (least v)) := h.next lead hf 4

/-- After six rounds. -/
theorem held6 (lead : ∀ r, Leads (d r) (p r)) (hf : ∀ r i, iu (ix2 r i) = number (far (d r) i)) (h : Held d p 4 v iv u) :
    Held d p 6 (k0_pay43 v u (least v)) (select (k0_pay42 v u (least v)) iu (select (k0_pay38 v (least v)) iu iv))
      (select (k0_pay42 v u (least v)) (broadcast S256x2048 (Scalar.ofBits .f32 0x7F800000#32 : Ideal .f32)) (k0_pay40 v u (least v))) :=
  (held5 lead hf h).next lead hf 5

/-- After seven rounds. -/
theorem held7 (lead : ∀ r, Leads (d r) (p r)) (hf : ∀ r i, iu (ix2 r i) = number (far (d r) i)) (h : Held d p 4 v iv u) :
    Held d p 7 (k0_pay46 v u (least v))
      (select (k0_pay45 v u (least v)) iu (select (k0_pay42 v u (least v)) iu (select (k0_pay38 v (least v)) iu iv)))
      (select (k0_pay45 v u (least v)) (broadcast S256x2048 (Scalar.ofBits .f32 0x7F800000#32 : Ideal .f32))
        (select (k0_pay42 v u (least v)) (broadcast S256x2048 (Scalar.ofBits .f32 0x7F800000#32 : Ideal .f32)) (k0_pay40 v u (least v)))) :=
  (held6 lead hf h).next lead hf 6

/-- The four columns of positions that the first four rounds leave. -/
theorem early (lead : ∀ r, Leads (d r) (p r)) (hf : ∀ r i, iu (ix2 r i) = number (far (d r) i)) (h : Held d p 0 v iv u)
    (r : Fin 256) :
    k0_pay15 iv (hits v) (k0_pay14 (F := Ideal)) (ix2 r 0) = number (p r 0) ∧ k0_pay21 v u iv iu (hits v) (ix2 r 0) = number (p r 1)
      ∧ k0_pay27 v u iv iu (hits v) (ix2 r 0) = number (p r 2) ∧ k0_pay33 v u iv iu (hits v) (ix2 r 0) = number (p r 3) :=
  ⟨h.picked lead 0 r, (held1 lead hf h).picked lead 1 r, (held2 lead hf h).picked lead 2 r, (held3 lead hf h).picked lead 3 r⟩

/-- The four columns of distances that the first four rounds leave. -/
theorem early_least (lead : ∀ r, Leads (d r) (p r)) (hf : ∀ r i, iu (ix2 r i) = number (far (d r) i)) (h : Held d p 0 v iv u)
    (r : Fin 256) :
    least v (ix2 r 0) = d r (p r 0) ∧ k0_pay19 v u (hits v) (ix2 r 0) = d r (p r 1)
      ∧ k0_pay25 v u (hits v) (ix2 r 0) = d r (p r 2) ∧ k0_pay31 v u (hits v) (ix2 r 0) = d r (p r 3) :=
  ⟨h.least lead 0 r, (held1 lead hf h).least lead 1 r, (held2 lead hf h).least lead 2 r, (held3 lead hf h).least lead 3 r⟩

/-- Eight columns side by side, read: an entry is the column's. -/
theorem beside_of (a b c e a' b' c' e' : Rows) (r : Fin 256) (f : Fin 8 → EReal) (h0 : a (ix2 r 0) = f 0) (h1 : b (ix2 r 0) = f 1)
    (h2 : c (ix2 r 0) = f 2) (h3 : e (ix2 r 0) = f 3) (h4 : a' (ix2 r 0) = f 4) (h5 : b' (ix2 r 0) = f 5)
    (h6 : c' (ix2 r 0) = f 6) (h7 : e' (ix2 r 0) = f 7) (k : Fin 8) :
    concatenate S256x8 1 [⟨S256x1, a⟩, ⟨S256x1, b⟩, ⟨S256x1, c⟩, ⟨S256x1, e⟩, ⟨S256x1, a'⟩, ⟨S256x1, b'⟩, ⟨S256x1, c'⟩, ⟨S256x1, e'⟩]
        concatenates_S256x1_S256x1_S256x1_S256x1_S256x1_S256x1_S256x1_S256x1_S256x8_d1 (ix2 r k) = f k := by
  refine (beside_apply ![a, b, c, e, a', b', c', e'] r k).trans ?_
  match k with
  | 0 => exact h0
  | 1 => exact h1
  | 2 => exact h2
  | 3 => exact h3
  | 4 => exact h4
  | 5 => exact h5
  | 6 => exact h6
  | 7 => exact h7

/-- The eight columns of positions, from the arrays after four rounds and the first four columns. -/
theorem late_eq (a b c e : Rows) :
    k0_pay48 iu a b c e v iv u (least v)
      = fptosi 32 (concatenate S256x8 1 [⟨S256x1, a⟩, ⟨S256x1, b⟩, ⟨S256x1, c⟩, ⟨S256x1, e⟩, ⟨S256x1, picked v iv⟩,
          ⟨S256x1, picked (k0_pay39 v u (least v)) (select (k0_pay38 v (least v)) iu iv)⟩,
          ⟨S256x1, picked (k0_pay43 v u (least v)) (select (k0_pay42 v u (least v)) iu (select (k0_pay38 v (least v)) iu iv))⟩,
          ⟨S256x1, picked (k0_pay46 v u (least v))
            (select (k0_pay45 v u (least v)) iu (select (k0_pay42 v u (least v)) iu (select (k0_pay38 v (least v)) iu iv)))⟩]
        concatenates_S256x1_S256x1_S256x1_S256x1_S256x1_S256x1_S256x1_S256x1_S256x8_d1) := rfl

/-- The eight columns of clamped distances, likewise. -/
theorem late_least_eq (a b c e : Rows) :
    k0_pay49 a b c e v u (least v)
      = sqrt (maximumf (concatenate S256x8 1 [⟨S256x1, a⟩, ⟨S256x1, b⟩, ⟨S256x1, c⟩, ⟨S256x1, e⟩, ⟨S256x1, least v⟩,
          ⟨S256x1, least (k0_pay39 v u (least v))⟩, ⟨S256x1, least (k0_pay43 v u (least v))⟩, ⟨S256x1, least (k0_pay46 v u (least v))⟩]
        concatenates_S256x1_S256x1_S256x1_S256x1_S256x1_S256x1_S256x1_S256x1_S256x8_d1)
          (broadcast S256x8 (Scalar.ofBits .f32 0x2B8CBCCC#32 : Ideal .f32))) := rfl

/-- The eight positions, read. -/
theorem late (lead : ∀ r, Leads (d r) (p r)) (hf : ∀ r i, iu (ix2 r i) = number (far (d r) i)) (h : Held d p 4 v iv u)
    (a b c e : Rows) (r : Fin 256) (ha : a (ix2 r 0) = number (p r 0)) (hb : b (ix2 r 0) = number (p r 1))
    (hc : c (ix2 r 0) = number (p r 2)) (he : e (ix2 r 0) = number (p r 3)) (k : Fin 8) :
    k0_pay48 iu a b c e v iv u (least v) (ix2 r k) = Ideal.fptosi 32 (number (p r k)) := by
  rw [late_eq]
  exact congrArg (Ideal.fptosi 32) (beside_of a b c e _ _ _ _ r (fun k => number (p r k)) ha hb hc he (h.picked lead 4 r)
    ((held5 lead hf h).picked lead 5 r) ((held6 lead hf h).picked lead 6 r) ((held7 lead hf h).picked lead 7 r) k)

/-- The eight clamped distances, read. -/
theorem late_least (lead : ∀ r, Leads (d r) (p r)) (hf : ∀ r i, iu (ix2 r i) = number (far (d r) i)) (h : Held d p 4 v iv u)
    (a b c e : Rows) (r : Fin 256) (ha : a (ix2 r 0) = d r (p r 0)) (hb : b (ix2 r 0) = d r (p r 1))
    (hc : c (ix2 r 0) = d r (p r 2)) (he : e (ix2 r 0) = d r (p r 3)) (k : Fin 8) :
    k0_pay49 a b c e v u (least v) (ix2 r k) = Ideal.sqrt (max (d r (p r k)) (Ideal.ofBits .f32 0x2B8CBCCC#32)) := by
  rw [late_least_eq]
  exact congrArg (fun z => Ideal.sqrt (max z (Ideal.ofBits .f32 0x2B8CBCCC#32)))
    (beside_of a b c e _ _ _ _ r (fun k => d r (p r k)) ha hb hc he (h.least lead 4 r)
      ((held5 lead hf h).least lead 5 r) ((held6 lead hf h).least lead 6 r) ((held7 lead hf h).least lead 7 r) k)

end Chain

/-! ### What the eight rounds find -/

section Found

variable (x : Vec Ideal S1x256x3 .f32) (y : Vec Ideal S1x3x4096 .f32)

/-- The first window is read whole. -/
theorem read0 : View.ld x r0_0 = x := View.ld_unit_lit _ x (by decide)

/-- The second window is read whole. -/
theorem read1 : View.ld y r0_1 = y := View.ld_unit_lit _ y (by decide)

variable {x y} {p : Fin 256 → Fin 8 → Fin 4096}

/-- The first round's arrays, -/
theorem first : Held (dist x y) p 0 (k0_pay50 x y) (k0_pay52 x y) (k0_pay51 x y) := by
  unfold k0_pay50 k0_pay51 k0_pay52
  rw [read0, read1]
  exact held0 x y p

/-- the farther positions, -/
theorem reserved (r : Fin 256) (i : Fin 2048) : k0_pay53 x y (ix2 r i) = number (far (dist x y r) i) := by
  unfold k0_pay53
  rw [read0, read1]
  exact far_apply x y r i

/-- and the pairs hit first. -/
theorem struck : k0_pay54 x y = hits (k0_pay50 x y) := rfl

/-- The fifth round's arrays. -/
theorem fifth (lead : ∀ r, Leads (dist x y r) (p r)) :
    Held (dist x y) p 4 (k0_pay55 x y)
      (k0_pay35 (k0_pay50 x y) (k0_pay51 x y) (k0_pay52 x y) (k0_pay53 x y) (k0_pay54 x y)) (k0_pay56 x y) := by
  unfold k0_pay55 k0_pay56
  rw [struck]
  exact held4 lead reserved first

/-- The first round's least offers. -/
theorem first_least : k0_pay12 x y = least (k0_pay50 x y) := by
  unfold k0_pay50
  rw [read0, read1]
  rfl

/-- The fifth round's least offers. -/
theorem fifth_least : k0_pay57 x y = least (k0_pay55 x y) := rfl

/-- The positions left are the leading ones. -/
theorem found (lead : ∀ r, Leads (dist x y r) (p r)) (r : Fin 256) (k : Fin 8) :
    out0_2 x y (ix3 0 r k) = Ideal.fptosi 32 (number (p r k)) := by
  frame_out
  unfold k0_pay1
  pointwise
  obtain ⟨ha, hb, hc, he⟩ := early lead reserved first r
  rw [fifth_least]
  exact late lead reserved (fifth lead) _ _ _ _ r ha hb hc he k

/-- A weight before it is divided by the row's sum: one over the clamped distance and a little. -/
def raw (a : EReal) : EReal :=
  Ideal.div 1 (Ideal.sqrt (max a (Ideal.ofBits .f32 0x2B8CBCCC#32)) + Ideal.ofBits .f32 0x322BCC77#32)

/-- The weights of a block of distances: one over the distance and a little, times one over the row's sum of these. -/
theorem spread (w : FVec Ideal S256x8 .f32) (r : Fin 256) (k : Fin 8) :
    k0_pay2 w (ix3 0 r k)
      = Ideal.div 1 (w (ix2 r k) + Ideal.ofBits .f32 0x322BCC77#32)
        * Ideal.div 1 (∑ j : Fin 8, Ideal.div 1 (w (ix2 r j) + Ideal.ofBits .f32 0x322BCC77#32)) := by
  unfold k0_pay2
  pointwise

/-- The weights left, from the distances of the leading positions. -/
theorem weighted (lead : ∀ r, Leads (dist x y r) (p r)) (r : Fin 256) (k : Fin 8) :
    out0_3 x y (ix3 0 r k)
      = raw (dist x y r (p r k)) * Ideal.div 1 (∑ j : Fin 8, raw (dist x y r (p r j))) := by
  frame_out
  obtain ⟨ha, hb, hc, he⟩ := early_least lead reserved first r
  have l := late_least lead reserved (fifth lead) _ _ _ _ r ha hb hc he
  rw [fifth_least, first_least, struck]
  refine (spread _ r k).trans ?_
  unfold raw
  simp only [l]

end Found

end Cert.Proof.Rounds

end
-- ==== Proof.Ranked.lean ====
/-
  The plain program's nearest points: each row's distances, held away from zero and rooted, sorted with the nearest first,
  of which the first eight are kept. If the nine nearest differ from one to the next, the first eight positions of that
  order lead the row in the sense of Nearest.lean, so what the eight rounds find is what the sort finds.

  The weights are the same on both sides: one program multiplies by one over the row's sum and the other divides by the
  sum, which agree because the sum is not zero.
-/
module

public import proofs.«01_k».proof.Defs
public import proofs.«01_k».proof.Proof.Rounds
public import Idealize.ShloMosaic.Lib.SortFacts

@[expose] public section

set_option maxRecDepth 16384

noncomputable section

namespace Cert.Proof.Ranked

open Idealize.ShloMosaic Idealize.ShloMosaic.TcCoe Idealize.SL.Sem
open Cert.Proof.Nearest Cert.Proof.Rounds
open scoped BigOperators

/-! ### Distances held away from zero, and rooted -/

/-- The least distance that is rooted. -/
def floor : EReal := Ideal.ofBits .f32 0x2B8CBCCC#32

/-- What is added to a root before one is divided by it. -/
def little : EReal := Ideal.ofBits .f32 0x322BCC77#32

/-- The root of a distance held away from zero. -/
def root (a : EReal) : EReal := Ideal.sqrt (max a floor)

/-- The least distance that is rooted is positive. -/
theorem floor_pos : 0 < floor := by
  unfold floor
  simp [Ideal.ofBits, Ideal.ieee, -EReal.coe_mul]

/-- What is added to a root is positive, -/
theorem little_pos : 0 < little := by
  unfold little
  simp [Ideal.ofBits, Ideal.ieee, -EReal.coe_mul]

/-- and finite. -/
theorem little_ne_top : little ≠ ⊤ := by
  unfold little
  simp [Ideal.ofBits, Ideal.ieee, -EReal.coe_mul]

/-- Roots of what is not negative rise. -/
theorem sqrt_mono {a b : EReal} (ha : 0 ≤ a) (h : a ≤ b) : Ideal.sqrt a ≤ Ideal.sqrt b := by
  induction a with
  | bot => simp at ha
  | top => rw [top_le_iff.mp h]
  | coe a =>
    induction b with
    | bot => simp at h
    | top => exact le_top
    | coe b =>
      have ha' : 0 ≤ a := by exact_mod_cast ha
      have h' : a ≤ b := by exact_mod_cast h
      show (if a < 0 then ⊥ else (Real.sqrt a : EReal)) ≤ (if b < 0 then ⊥ else (Real.sqrt b : EReal))
      rw [if_neg (not_lt.mpr ha'), if_neg (not_lt.mpr (ha'.trans h'))]
      exact_mod_cast Real.sqrt_le_sqrt h'

/-- Roots of distances rise with them. -/
theorem root_mono {a b : EReal} (h : a ≤ b) : root a ≤ root b :=
  sqrt_mono (le_max_of_le_right floor_pos.le) (max_le_max h le_rfl)

/-- Where the roots are in strict order the distances are. -/
theorem lt_of_root_lt {a b : EReal} (h : root a < root b) : a < b := lt_of_not_ge fun g => absurd (root_mono g) (not_le.mpr h)

/-- A root is not negative. -/
theorem root_nonneg (a : EReal) : 0 ≤ root a := by
  have h : (0 : EReal) ≤ max a floor := le_max_of_le_right floor_pos.le
  have z : Ideal.sqrt 0 = 0 := by
    show (if (0 : ℝ) < 0 then ⊥ else (Real.sqrt 0 : EReal)) = 0
    simp
  rw [← z]
  exact sqrt_mono le_rfl h

/-- The root of a finite distance is finite. -/
theorem root_lt_top {a : EReal} (h : a < ⊤) : root a < ⊤ := by
  unfold root
  have g : max a floor < ⊤ := max_lt h (by
    unfold floor
    simp [Ideal.ofBits, Ideal.ieee, -EReal.coe_mul])
  generalize max a floor = b at g
  induction b with
  | bot => exact bot_lt_top
  | top => exact absurd g (lt_irrefl _)
  | coe b =>
    show (if b < 0 then ⊥ else (Real.sqrt b : EReal)) < ⊤
    split
    · exact bot_lt_top
    · exact EReal.coe_lt_top _

/-! ### The order -/

/-- Whether position `k` comes before position `k'`: its root, negated, is greater. -/
def before (d : Distances) (k k' : Fin 4096) : Bool :=
  FloatOps.cmpfTotal (F := Ideal) (φ := .f32) .gt (-(root (d k))) (-(root (d k'))) == 1#1

/-- A position comes before another exactly if its root is less. -/
theorem before_eq (d : Distances) (k k' : Fin 4096) : before d k k' = decide (root (d k) < root (d k')) := by
  show (BitVec.ofBool (decide (-(root (d k')) < -(root (d k)))) == 1#1) = _
  by_cases h : root (d k) < root (d k')
  · simp [h]
  · simp [h]

/-- The position in place `n` of the order. -/
def place (d : Distances) : Fin 4096 → Fin 4096 := sortedFrom (before d)

attribute [irreducible] place

/-- The first nine places. -/
def ninth (n : Fin 9) : Fin 4096 := ⟨n.val, by omega⟩

/-- The first eight places. -/
def eighth (n : Fin 8) : Fin 4096 := ⟨n.val, by omega⟩

/-- A later place is no nearer. -/
theorem ordered (d : Distances) (i j : Fin 4096) (h : i < j) : root (d (place d i)) ≤ root (d (place d j)) := by
  unfold place
  have := sortedFrom_noInversion (before d) (before d)
    (fun a b e => by
      rw [before_eq, decide_eq_true_eq] at e
      rw [before_eq, decide_eq_false_iff_not]
      exact not_lt.mpr e.le)
    (fun _ _ e => e)
    (fun a b c e f => by
      rw [before_eq, decide_eq_false_iff_not, not_lt] at e f ⊢
      exact f.trans e) i j h
  rw [before_eq, decide_eq_false_iff_not, not_lt] at this
  exact this

/-- If the nine nearest differ from one to the next, the first eight places lead the row. -/
theorem leads (d : Distances)
    (h : ∀ n : Fin 8, root (d (place d (ninth n.castSucc))) < root (d (place d (ninth n.succ)))) :
    Leads d (fun n => place d (eighth n)) := by
  have e : ∀ i : Fin 8, ninth i.castSucc = eighth i := fun _ => rfl
  have mono : StrictMono fun n : Fin 9 => root (d (place d (ninth n))) := Fin.strictMono_iff_lt_succ.mpr h
  have last : ∀ i : Fin 8, root (d (place d (eighth i))) < root (d (place d (ninth (Fin.last 8)))) := fun i => by
    rw [← e]
    exact mono (Fin.castSucc_lt_last i)
  refine ⟨fun i j l => lt_of_root_lt ?_, fun q => ?_, fun i => ?_⟩
  · rw [← e, ← e]
    exact mono (Fin.castSucc_lt_castSucc_iff.mpr l)
  · obtain ⟨n, hn⟩ := sortedFrom_surjective (before d) q
    rw [← show place d n = sortedFrom (before d) n by unfold place; rfl] at hn
    by_cases l : n.val < 8
    · refine Or.inl ⟨⟨n.val, l⟩, ?_⟩
      rw [← hn]
      rfl
    · refine Or.inr fun i => lt_of_root_lt ((last i).trans_le ?_)
      rw [← hn]
      rcases Nat.lt_or_ge 8 n.val with g | g
      · exact ordered d _ n g
      · rw [show n = ninth (Fin.last 8) from Fin.ext (by show n.val = 8; omega)]
  · exact (lt_of_root_lt (last i)).trans_le le_top

/-! ### The weights -/

/-- One over a root and a little is not negative, -/
theorem raw_nonneg (a : EReal) : 0 ≤ raw a := by
  have g : 0 < root a + little := little_pos.trans_le (le_add_of_nonneg_left (root_nonneg a))
  show 0 ≤ Ideal.div 1 (root a + little)
  unfold Ideal.div
  rw [if_neg g.ne', one_mul]
  exact EReal.inv_nonneg_of_nonneg g.le

/-- and positive at a finite distance. -/
theorem raw_pos {a : EReal} (h : a < ⊤) : 0 < raw a := by
  have g : 0 < root a + little := little_pos.trans_le (le_add_of_nonneg_left (root_nonneg a))
  show 0 < Ideal.div 1 (root a + little)
  unfold Ideal.div
  rw [if_neg g.ne', one_mul]
  exact EReal.inv_pos_of_pos_ne_top g (EReal.add_lt_top (root_lt_top h).ne little_ne_top).ne

/-- One over the row's sum, multiplied, is the quotient. -/
theorem share {d : Distances} {p : Fin 8 → Fin 4096} (h : Leads d p) (k : Fin 8) :
    raw (d (p k)) * Ideal.div 1 (∑ j : Fin 8, raw (d (p j))) = Ideal.div (raw (d (p k))) (∑ j : Fin 8, raw (d (p j))) := by
  have g : 0 < ∑ j : Fin 8, raw (d (p j)) :=
    (raw_pos (h.below 0)).trans_le (Finset.single_le_sum (f := fun j : Fin 8 => raw (d (p j))) (fun j _ => raw_nonneg _) (Finset.mem_univ 0))
  unfold Ideal.div
  rw [if_neg g.ne', if_neg g.ne', one_mul]

/-! ### The words -/

/-- A position as a number, rounded to a word, is the position's word. -/
theorem word (q : Fin 4096) : Ideal.fptosi 32 (number q) = BitVec.ofNat 32 q.val := by
  show BitVec.ofInt 32 (max _ (min _ (if (0 : ℝ) ≤ (q.val : ℝ) then ⌊(q.val : ℝ)⌋ else ⌈(q.val : ℝ)⌉))) = _
  rw [if_pos (by positivity), Int.floor_natCast]
  rw [show max (-((2 ^ (32 - 1) : Nat) : Int)) (min (((2 ^ (32 - 1) : Nat) : Int) - 1) (q.val : Int)) = (q.val : Int) by
    have := q.isLt
    norm_num
    omega]
  exact BitVec.ofInt_natCast 32 q.val

end Cert.Proof.Ranked

end
-- ==== Proof.Sorted.lean ====
/-
  The plain program's distances, and what its sort keeps of them. The squared distance of two points is the sum of their
  own squares less twice their product; each row's distances, rooted and negated, are the keys of the sort, so the place a
  position takes is the one Ranked.lean speaks of. Both the eight nearest that the program keeps and the nine nearest that
  the precondition compares are read here.
-/
module

public import proofs.«01_k».proof.Defs
public import proofs.«01_k».proof.Proof.Ranked
public import proofs.«01_k».proof.Proof.Gen.TopkReferenceIdeal
public import proofs.«01_k».proof.Proof.Gen.Pre_nine_nearest_differ
public import Idealize.ShloMosaic.Lib.ReduceAll

@[expose] public section

set_option maxRecDepth 16384

noncomputable section

namespace Cert.Proof.Sorted

open Cert.TopkReferenceIdeal Cert.TopkReferenceIdeal.Gen
open Idealize.ShloMosaic Idealize.ShloMosaic.TcCoe Idealize.SL.Sem
open Cert.Proof.Nearest Cert.Proof.Rounds Cert.Proof.Ranked
open scoped BigOperators

variable (T : FVec Ideal S1x8192x3 .f32) (S : FVec Ideal S1x4096x3 .f32)

/-- The squared distances of point `p` from the points of the table. -/
def distance (p : Fin 8192) : Distances := fun q =>
  (∑ k : Fin 3, T (ix3 0 p k) * T (ix3 0 p k)) + (∑ k : Fin 3, S (ix3 0 q k) * S (ix3 0 q k))
    - Ideal.ofBits .f32 0x40000000#32 * ∑ k : Fin 3, T (ix3 0 p k) * S (ix3 0 q k)

/-- The keys of the sort: the distances held away from zero, rooted and negated. -/
abbrev keys : FVec Ideal S1x8192x4096 .f32 :=
  Host.negf (Host.sqrt (maximumf (subf (addf
    (broadcastInDim S1x8192x4096 ![0, 1, 2] bcast_S1x8192x1_S1x8192x4096_0_1_2 (broadcastInDim S1x8192x1 ![0, 1] bcast_S1x8192_S1x8192x1_0_1
      (Host.reduceAdd (mulf T T) (constant S_ .f32 0x00000000#32) reducesTo_S1x8192x3_S1x8192_d2 h_S_)))
    (broadcastInDim S1x8192x4096 ![0, 1, 2] bcast_S1x1x4096_S1x8192x4096_0_1_2 (broadcastInDim S1x1x4096 ![0, 2] bcast_S1x4096_S1x1x4096_0_2
      (Host.reduceAdd (mulf S S) (constant S_ .f32 0x00000000#32) reducesTo_S1x4096x3_S1x4096_d2 h_S_))))
    (mulf (broadcastInDim S1x8192x4096 ![] bcast_S_S1x8192x4096 (constant S_ .f32 0x40000000#32))
      (Host.dotGeneral dot_S1x8192x3_S1x4096x3_S1x8192x4096_2_2_1_1_0_0 none T S)))
    (broadcastInDim S1x8192x4096 ![] bcast_S_S1x8192x4096 (constant S_ .f32 0x2B8CBCCC#32))))

/-- A key. -/
theorem keys_apply (p : Fin 8192) (q : Fin 4096) : keys T S (ix3 0 p q) = -(root (distance T S p q)) := by
  unfold distance root Ranked.floor
  pointwise! [keys]

/-! ### The sort, read at a position -/

/-- A position of a row, with its last coordinate set. -/
theorem along_last {n : Nat} (p : Fin 8192) (c k : Fin n) :
    Shape.Idx.along (s := ⟨3, ![1, 8192, n]⟩) (ix3 0 p c) 2 k = ix3 0 p k := by
  funext a
  fin_cases a <;> rfl

/-- What the sort keeps in its place `k` of row `p`: the key of the position that takes this place, and the position. -/
theorem kept (n : Nat) (hn : n ≤ 4096) (x : FVec Ideal S1x8192x4096 .f32) (d : Distances) (p : Fin 8192)
    (e : ∀ q, x (ix3 0 p q) = -(root (d q))) (h : S1x8192x4096.Slices (fun _ => 0) ⟨3, ![1, 8192, n]⟩) (k : Fin n) :
    (Host.topK ⟨3, ![1, 8192, n]⟩ 2 (FloatOps.cmpfTotal (F := Ideal) (φ := .f32) .gt) x h).1 (ix3 0 p k) = -(root (d (place d (k.castLE hn))))
      ∧ (Host.topK ⟨3, ![1, 8192, n]⟩ 2 (FloatOps.cmpfTotal (F := Ideal) (φ := .f32) .gt) x h).2 (ix3 0 p k)
        = BitVec.ofNat 32 (place d (k.castLE hn)).val := by
  have cut : (fun a => ⟨0 + ((ix3 0 p k : Shape.Idx ⟨3, ![1, 8192, n]⟩) (a.cast h.1.symm)).val,
      Nat.lt_of_lt_of_le (Nat.add_lt_add_left (Fin.isLt _) _) (h.2 a)⟩ : S1x8192x4096.Idx) = ix3 0 p (k.castLE hn) := by
    funext a
    fin_cases a <;> exact Fin.ext (Nat.zero_add _)
  have order : sortedFrom (fun i i' : Fin 4096 => FloatOps.cmpfTotal (F := Ideal) (φ := .f32) .gt
      (x (Shape.Idx.along (s := ⟨3, ![1, 8192, 4096]⟩) (ix3 0 p (k.castLE hn)) 2 i))
      (x (Shape.Idx.along (s := ⟨3, ![1, 8192, 4096]⟩) (ix3 0 p (k.castLE hn)) 2 i')) == 1#1) = place d := by
    unfold place before
    simp only [along_last, e]
  unfold Host.topK Host.sort2 extractStridedSlice
  simp only [cut]
  constructor
  · refine (congrArg (fun π : Fin 4096 → Fin 4096 => x (Shape.Idx.along (s := ⟨3, ![1, 8192, 4096]⟩) (ix3 0 p (k.castLE hn)) 2
      (π (k.castLE hn)))) order).trans ?_
    exact (congrArg x (along_last p _ _)).trans (e _)
  · refine (congrArg (fun π : Fin 4096 → Fin 4096 => BitVec.ofNat 32 (Shape.Idx.along (s := ⟨3, ![1, 8192, 4096]⟩) (ix3 0 p (k.castLE hn)) 2
      (π (k.castLE hn)) 2).val) order).trans ?_
    exact congrArg (fun i : S1x8192x4096.Idx => BitVec.ofNat 32 (i 2).val) (along_last p _ _)

/-! ### The nine nearest -/

/-- What the precondition compares: each of the first eight kept keys, negated, is less than the next one. -/
theorem differ (x : FVec Ideal Cert.Pre_nine_nearest_differ.S1x8192x9 .f32) (p : Fin 8192) (n : Fin 8)
    (g : cmpf .olt (extractStridedSlice Cert.Pre_nine_nearest_differ.S1x8192x8 ![0, 0, 0] (Host.negf x)
        Cert.Pre_nine_nearest_differ.Gen.slices_S1x8192x9_S1x8192x8_0_0_0)
      (extractStridedSlice Cert.Pre_nine_nearest_differ.S1x8192x8 ![0, 0, 1] (Host.negf x)
        Cert.Pre_nine_nearest_differ.Gen.slices_S1x8192x9_S1x8192x8_0_0_1) (ix3 0 p n) = 1#1) :
    -(x (ix3 0 p n.castSucc)) < -(x (ix3 0 p n.succ)) := by
  have e0 : extractStridedSlice Cert.Pre_nine_nearest_differ.S1x8192x8 ![0, 0, 0] (Host.negf x)
      Cert.Pre_nine_nearest_differ.Gen.slices_S1x8192x9_S1x8192x8_0_0_0 (ix3 0 p n) = -(x (ix3 0 p n.castSucc)) := by
    refine congrArg (fun i => -(x i)) (funext fun a => ?_)
    fin_cases a <;> exact Fin.ext (Nat.zero_add _)
  have e1 : extractStridedSlice Cert.Pre_nine_nearest_differ.S1x8192x8 ![0, 0, 1] (Host.negf x)
      Cert.Pre_nine_nearest_differ.Gen.slices_S1x8192x9_S1x8192x8_0_0_1 (ix3 0 p n) = -(x (ix3 0 p n.succ)) := by
    refine congrArg (fun i => -(x i)) (funext fun a => ?_)
    fin_cases a
    · rfl
    · exact Fin.ext (Nat.zero_add _)
    · exact Fin.ext (Nat.add_comm _ _)
  rw [← e0, ← e1]
  change BitVec.ofBool (decide (_ < _)) = 1#1 at g
  by_contra l
  rw [decide_eq_false l] at g
  exact absurd g (by decide)

/-- If the precondition holds the nine nearest differ from one to the next, so the first eight places lead the row. -/
theorem leading (h : Cert.Pre_nine_nearest_differ.fn (F := Ideal) T S = fun _ => 1#1) (p : Fin 8192) :
    Leads (distance T S p) fun n => place (distance T S p) (eighth n) := by
  have e := congrFun h (fun k => k.elim0)
  dsimp only [Cert.Pre_nine_nearest_differ.fn, Cert.Pre_nine_nearest_differ.fn_part1] at e
  haveI : Subsingleton Cert.Pre_nine_nearest_differ.S_.Idx := ⟨fun a b => funext fun k => k.elim0⟩
  refine leads _ fun n => ?_
  have g := differ _ p n (Host.reduce_andi_all _ _ _ _ _ e (ix3 0 p n))
  have b := fun k : Fin 9 => (kept 9 (by decide) (keys T S) (distance T S p) p (keys_apply T S p)
    Cert.Pre_nine_nearest_differ.Gen.sliceFits_S1x8192x4096_S1x8192x9 k).1
  have l := (congrArg (-·) (b n.castSucc)).symm.trans_lt (g.trans_eq (congrArg (-·) (b n.succ)))
  rw [neg_neg, neg_neg] at l
  exact l

/-! ### The results -/

/-- The indices of the eight nearest. -/
def nearest : IVec S1x8192x8 32 := fun i => BitVec.ofNat 32 (place (distance T S (i 1)) (eighth (i 2))).val

/-- Their weights. -/
def weights : FVec Ideal S1x8192x8 .f32 := fun i =>
  Ideal.div (raw (distance T S (i 1) (place (distance T S (i 1)) (eighth (i 2)))))
    (∑ j : Fin 8, raw (distance T S (i 1) (place (distance T S (i 1)) (eighth j))))

/-- The plain program's first result. -/
theorem nearest_plain :
    (Host.topK S1x8192x8 2 (FloatOps.cmpfTotal .gt) (keys T S) sliceFits_S1x8192x4096_S1x8192x8).2 = nearest T S := by
  funext i
  obtain ⟨a, p, k, rfl⟩ : ∃ (a : Fin 1) (p : Fin 8192) (k : Fin 8), i = ix3 a p k := ⟨i 0, i 1, i 2, eq_ix3 i⟩
  obtain rfl : a = 0 := Subsingleton.elim _ _
  exact (kept 8 (by decide) (keys T S) (distance T S p) p (keys_apply T S p) _ k).2

/-- One over a kept distance and a little. -/
abbrev raws (x : FVec Ideal S1x8192x8 .f32) : FVec Ideal S1x8192x8 .f32 :=
  Host.divf (broadcastInDim S1x8192x8 ![] bcast_S_S1x8192x8 (constant S_ .f32 0x3F800000#32))
    (addf (Host.negf x) (broadcastInDim S1x8192x8 ![] bcast_S_S1x8192x8 (constant S_ .f32 0x322BCC77#32)))

/-- A row's quotients by the row's sum. -/
abbrev shares (x : FVec Ideal S1x8192x8 .f32) : FVec Ideal S1x8192x8 .f32 :=
  Host.divf x (broadcastInDim S1x8192x8 ![0, 1, 2] bcast_S1x8192x1_S1x8192x8_0_1_2 (broadcastInDim S1x8192x1 ![0, 1] bcast_S1x8192_S1x8192x1_0_1
    (Host.reduceAdd x (constant S_ .f32 0x00000000#32) reducesTo_S1x8192x8_S1x8192_d2 h_S_)))

/-- The plain program's second result. -/
theorem weights_plain :
    shares (raws (Host.topK S1x8192x8 2 (FloatOps.cmpfTotal .gt) (keys T S) sliceFits_S1x8192x4096_S1x8192x8).1) = weights T S := by
  funext i
  obtain ⟨a, p, k, rfl⟩ : ∃ (a : Fin 1) (p : Fin 8192) (k : Fin 8), i = ix3 a p k := ⟨i 0, i 1, i 2, eq_ix3 i⟩
  obtain rfl : a = 0 := Subsingleton.elim _ _
  have e : ∀ k : Fin 8, _ := fun k => (kept 8 (by decide) (keys T S) (distance T S p) p (keys_apply T S p) sliceFits_S1x8192x4096_S1x8192x8 k).1
  generalize Host.topK S1x8192x8 2 (FloatOps.cmpfTotal .gt) (keys T S) sliceFits_S1x8192x4096_S1x8192x8 = x at e ⊢
  have r : ∀ k : Fin 8, raws x.1 (ix3 0 p k) = raw (distance T S p (place (distance T S p) (eighth k))) := fun k => by
    unfold raw
    pointwise [raws]
    simp only [e, neg_neg]
    rfl
  generalize raws x.1 = y at r
  show _ = Ideal.div _ (∑ j : Fin 8, _)
  pointwise [shares]
  simp only [r]

end Cert.Proof.Sorted

end
-- ==== Proof.Neighbours.lean ====
/-
  The nearest points' claims: the frames of the program as printed, of the program at exact arithmetic and of the plain
  program, and that at exact arithmetic the two programs' results are equal wherever the nine nearest points of every point
  differ in distance. A grid point takes 256 points' coordinates and the whole table, turned; its distances are those of the
  plain program at its rows (Sorted.lean), so what its rounds find and weigh (Rounds.lean) is what the plain program's sort
  keeps, and its thirty-two blocks fill the two result arrays.
-/
module

public import proofs.«01_k».proof.Defs
public import proofs.«01_k».proof.Proof.Sorted
public import proofs.«01_k».proof.Proof.Gen.Topk
public import proofs.«01_k».proof.Proof.Gen.Topk.Frame
public import proofs.«01_k».proof.Proof.Gen.TopkIdeal
public import proofs.«01_k».proof.Proof.Gen.TopkIdeal.Frame
public import proofs.«01_k».proof.Proof.Gen.TopkReferenceIdeal.Run
public import Idealize.ShloMosaic.Lib.Pipeline.ValueKit
public import Idealize.ShloMosaic.Lib.Claim

@[expose] public section

set_option maxRecDepth 16384

noncomputable section

namespace Cert.Proof.Neighbours

open Cert.TopkIdeal Cert.TopkIdeal.Gen
open Idealize.ShloMosaic Idealize.ShloMosaic.TcCoe Idealize.SL.Sem
open Cert.Proof.Nearest Cert.Proof.Rounds Cert.Proof.Ranked Cert.Proof.Sorted
open scoped BigOperators

variable (m : (ℓ : Loc nD τ sig) → Buf (Elt Ideal) ℓ) (c : Dev nD)

section Blocks

variable (t : Fin cfg0.N)

/-- There are thirty-two grid points. -/
theorem points : t.val < 32 := by
  have h : cfg0.N = 32 := N_0
  have := t.isLt
  omega

/-- The point that row `r` of grid point `t`'s block belongs to. -/
def row (r : Fin 256) : Fin 8192 := ⟨256 * t.val + r.val, by have := points t; omega⟩

/-- The points' coordinates in a grid point's block. -/
theorem block0 (r : Fin 256) (k : Fin 3) : iblk m c 0 t (ix3 0 r k) = m ((c.tc : Thread nD τ).loc main_arg0) (ix3 0 (row t r) k) := by
  have idx : ∀ t : Fin cfg0.N, win0_0.index t = ![0, t.val, 0] := by decide +kernel
  have := points t
  unfold row
  blk_ext! [iblk, V, idx t]

/-- The table's coordinates in it. -/
theorem block1 (k : Fin 3) (q : Fin 4096) : iblk m c 1 t (ix3 0 k q) = m ((c.tc : Thread nD τ).loc main_arg1) (ix3 0 q k) := by
  have idx : ∀ t : Fin cfg0.N, win0_1.index t = ![0, 0, 0] := by decide +kernel
  blk_ext! [iblk, V, idx t]

/-- A grid point's distances are the plain program's at its rows. -/
theorem dist_eq (r : Fin 256) : dist (iblk m c 0 t) (iblk m c 1 t) r
    = distance (m ((c.tc : Thread nD τ).loc main_arg0)) (m ((c.tc : Thread nD τ).loc main_arg1)) (row t r) := by
  have e0 := block0 m c t r
  have e1 := block1 m c t
  generalize iblk m c 0 t = x at e0 ⊢
  generalize iblk m c 1 t = y at e1 ⊢
  funext q
  show k0_pay3 x y (ix2 r q) = _
  unfold distance k0_pay3
  simp only [← e0, ← e1]
  pointwise [Fin.sum_univ_three]

end Blocks

/-- The condition: the nine nearest points of every point differ in distance. -/
abbrev Differ : Prop :=
  Cert.Pre_nine_nearest_differ.fn (F := Ideal) (m ((c.tc : Thread nD τ).loc main_arg0)) (m ((c.tc : Thread nD τ).loc main_arg1)) = fun _ => 1#1

/-- After the run the first result array holds the indices of the nearest points. -/
theorem nearest_final (h : Differ m c) : (dats m 0 c).arrAt 2 cfg0.N
    = nearest (m ((c.tc : Thread nD τ).loc main_arg0)) (m ((c.tc : Thread nD τ).loc main_arg1)) := by
  refine (dats m 0 c).arrAt_eq_of_covers 2 _ (by decide +kernel) fun t hf y => ?_
  blk_simp
  rw [after0_2]
  have idx : ∀ t : Fin cfg0.N, win0_2.index t = ![0, t.val, 0] := by decide +kernel
  obtain ⟨a, r, k, rfl⟩ : ∃ (a : Fin 1) (r : Fin 256) (k : Fin 8), y = ix3 a r k := ⟨y 0, y 1, y 2, eq_ix3 y⟩
  obtain rfl : a = 0 := Subsingleton.elim _ _
  have lead := fun r => leading _ _ h (row t r)
  simp only [← dist_eq] at lead
  refine (found lead r k).trans ?_
  have e : ((View.whole main_v1_0).slice (win0_2.rect t)).emb (ix3 0 r k) = ix3 0 (row t r) k := by
    unfold row
    blk_ext [idx t]
  rw [e, word, dist_eq]
  rfl

/-- After the run the second result array holds their weights. -/
theorem weights_final (h : Differ m c) : (dats m 0 c).arrAt 3 cfg0.N
    = weights (m ((c.tc : Thread nD τ).loc main_arg0)) (m ((c.tc : Thread nD τ).loc main_arg1)) := by
  refine (dats m 0 c).arrAt_eq_of_covers 3 _ (by decide +kernel) fun t hf y => ?_
  blk_simp
  rw [after0_3]
  have idx : ∀ t : Fin cfg0.N, win0_3.index t = ![0, t.val, 0] := by decide +kernel
  obtain ⟨a, r, k, rfl⟩ : ∃ (a : Fin 1) (r : Fin 256) (k : Fin 8), y = ix3 a r k := ⟨y 0, y 1, y 2, eq_ix3 y⟩
  obtain rfl : a = 0 := Subsingleton.elim _ _
  have lead := fun r => leading _ _ h (row t r)
  simp only [← dist_eq] at lead
  refine (weighted lead r k).trans ?_
  have e : ((View.whole main_v1_1).slice (win0_3.rect t)).emb (ix3 0 r k) = ix3 0 (row t r) k := by
    unfold row
    blk_ext [idx t]
  rw [e, share (lead r), dist_eq]
  rfl

/-- The program ends with the two result arrays as its grid points left them and its arguments unchanged. -/
theorem run_blocks (ρ : Dev nD → PrngReg) :
    θ_run defs (onTc (τ := τ) (main (F := Ideal))) ⟨m, fun _ => 0, ρ⟩ fun r => ∀ c : Dev nD,
      r.2.mem ((c.tc : Thread nD τ).loc main_v1_0) = (dats m 0 c).arrAt 2 cfg0.N
      ∧ r.2.mem ((c.tc : Thread nD τ).loc main_v1_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1 2, (h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

/-- `Cert.quiescent_Topk` (Defs.lean). -/
theorem frame_kernel : Cert.quiescent_Topk := fun m ρ _ => Cert.Topk.Gen.frame m ρ

/-- `Cert.quiescent_TopkIdeal` (Defs.lean). -/
theorem frame_kernelIdeal : Cert.quiescent_TopkIdeal := fun m ρ _ => Cert.TopkIdeal.Gen.frame m ρ

/-- `Cert.quiescent_TopkIdeal_pre_nine_nearest_differ` (Defs.lean). -/
theorem frame_kernelIdeal_pre : Cert.quiescent_TopkIdeal_pre_nine_nearest_differ := fun m ρ _ => Cert.TopkIdeal.Gen.frame m ρ

/-- `Cert.quiescent_TopkReferenceIdeal` (Defs.lean): the plain program declares no semaphore. -/
theorem frame_reference : Cert.quiescent_TopkReferenceIdeal := fun m ρ _ =>
  (θ_run Cert.TopkReferenceIdeal.defs _ _).mono (fun r e => ⟨fun c => (e c).2.2, sem_eq_zero_of_no_sems (by decide) r.2⟩)
    (Cert.TopkReferenceIdeal.Value.run (F := Ideal) m ρ)

/-- `Cert.quiescent_TopkReferenceIdeal_pre_nine_nearest_differ` (Defs.lean). -/
theorem frame_reference_pre : Cert.quiescent_TopkReferenceIdeal_pre_nine_nearest_differ := fun m ρ _ =>
  frame_reference m ρ trivial

/-- `Cert.algebraic_TopkIdeal_TopkReferenceIdeal_pre_nine_nearest_differ` (Defs.lean): the shared values are the indices and the
    weights of the nearest points. -/
theorem algebraic : Cert.algebraic_TopkIdeal_TopkReferenceIdeal_pre_nine_nearest_differ := by
  intro m ρ m' ρ' hp hm
  refine ⟨fun c => nearest (m ((c.tc : Thread nD τ).loc main_arg0)) (m ((c.tc : Thread nD τ).loc main_arg1)),
    fun c => weights (m ((c.tc : Thread nD τ).loc main_arg0)) (m ((c.tc : Thread nD τ).loc main_arg1)),
    (θ_run Cert.TopkIdeal.defs _ _).mono (fun _ e c => ⟨(e c).1.trans (nearest_final m c (hp c)),
      (e c).2.1.trans (weights_final m c (hp c)), (e c).2.2⟩) (run_blocks m ρ), ?_⟩
  refine (θ_run Cert.TopkReferenceIdeal.defs _ _).mono (fun _ e c => ⟨(e c).1.trans ?_, (e c).2.1.trans ?_, (e c).2.2⟩)
    (Cert.TopkReferenceIdeal.Value.run (F := Ideal) m' ρ')
  · rw [(hm c).1, (hm c).2]
    exact nearest_plain _ _
  · rw [(hm c).1, (hm c).2]
    exact weights_plain _ _

end Cert.Proof.Neighbours

end
-- ==== Proof.lean ====
/-
  The certificate of the SparseCore gather and weighted sum, of the networks applied to its result, and of the search for
  the nearest points that gives it its indices and weights: `Cert.Claim` (Defs.lean) from the frames and the value equation
  of each, proved in Proof/Value.lean, Proof/Networks.lean and Proof/Neighbours.lean.
  `preserves` has no rewrite to justify.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_idx_in_rows
public import proofs.«01_k».proof.Proof.Value
public import proofs.«01_k».proof.Proof.Networks
public import proofs.«01_k».proof.Proof.Neighbours
public import proofs.«01_k».proof.Proof.Gen.Mlp
public import proofs.«01_k».proof.Proof.Gen.MlpIdeal
public import proofs.«01_k».proof.Proof.Gen.MlpReferenceIdeal
public import proofs.«01_k».proof.Proof.Gen.Topk
public import proofs.«01_k».proof.Proof.Gen.TopkIdeal
public import proofs.«01_k».proof.Proof.Gen.TopkReferenceIdeal
public import proofs.«01_k».proof.Proof.Gen.Pre_nine_nearest_differ
public import Idealize.ShloMosaic.Adequacy
public import Idealize.ShloMosaic.Init

@[expose] public section

noncomputable section

namespace Cert.Proof

open Idealize.ShloMosaic Idealize.SL.Sem Cert.Kernel

/-- `Cert.Claim` (Defs.lean), every conjunct of it. -/
theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts, Cert.Topk.Gen.facts,
  Cert.TopkIdeal.Gen.facts, Cert.TopkReferenceIdeal.Gen.facts, Cert.Pre_idx_in_rows.Gen.facts,
  Cert.Pre_nine_nearest_differ.Gen.facts, Gather.frame_kernel, Gather.frame_kernelIdeal, Gather.frame_reference,
  Gather.frame_reference_pre, Networks.frame_kernel, Networks.frame_kernelIdeal, Networks.frame_reference,
  Neighbours.frame_kernel, Neighbours.frame_kernelIdeal, Neighbours.frame_kernelIdeal_pre, Neighbours.frame_reference,
  Neighbours.frame_reference_pre, trivial, Gather.algebraic, trivial, Networks.algebraic, trivial,
  Neighbours.algebraic⟩

end Cert.Proof

end
